-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens [hPre_finite_tokens : Cert.Pre_finite_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens [hPre_finite_tokens : Cert.Pre_finite_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_tokens [hKernelIdeal : Cert.KernelIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_tokens [hReferenceIdeal : Cert.ReferenceIdeal.Facts] [hPre_finite_tokens : Cert.Pre_finite_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite_tokens [hKernelIdeal : Cert.KernelIdeal.Facts] [hReferenceIdeal : Cert.ReferenceIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  IdealRules.named_const.Statement Cert.Kernel2Ideal.κ "c0c1" .f32 0x3D122279#32 ((80338380498831 / 2251799813685248 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "c0c1" .f32 0x3D122279#32 ((80338380498831 / 2251799813685248 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_v53) = v2 c
          ∧ r.2.mem ((c.tc : Thread Cert.Reference4Ideal.nD Cert.Reference4Ideal.τ).loc Cert.Reference4Ideal.main_v54) = v3 c
          ∧ r.2.mem ((c.tc : Thread Cert.Reference4Ideal.nD Cert.Reference4Ideal.τ).loc Cert.Reference4Ideal.main_v56) = v4 c
          ∧ r.2.mem ((c.tc : Thread Cert.Reference4Ideal.nD Cert.Reference4Ideal.τ).loc Cert.Reference4Ideal.main_v57) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_tokens : Cert.Pre_finite_tokens.Facts),
    quiescent_Kernel (hKernel := hKernel)
    ∧ quiescent_KernelIdeal (hKernelIdeal := hKernelIdeal)
    ∧ quiescent_KernelIdeal_pre_finite_tokens (hKernelIdeal := hKernelIdeal) (hPre_finite_tokens := hPre_finite_tokens)
    ∧ quiescent_ReferenceIdeal (hReferenceIdeal := hReferenceIdeal)
    ∧ quiescent_ReferenceIdeal_pre_finite_tokens (hReferenceIdeal := hReferenceIdeal) (hPre_finite_tokens := hPre_finite_tokens)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_tokens (hKernelIdeal := hKernelIdeal) (hReferenceIdeal := hReferenceIdeal) (hPre_finite_tokens := hPre_finite_tokens)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_tokens.lean ====
abbrev S8192x9216 : Shape := ⟨2, ![8192, 9216]⟩
abbrev S8192x2048 : Shape := ⟨2, ![8192, 2048]⟩
abbrev S1x8192 : Shape := ⟨2, ![1, 8192]⟩
abbrev S2048 : Shape := ⟨1, ![2048]⟩
abbrev S8x128x128 : Shape := ⟨3, ![8, 128, 128]⟩
abbrev S8x128 : Shape := ⟨2, ![8, 128]⟩
abbrev S4x256x256 : Shape := ⟨3, ![4, 256, 256]⟩
abbrev S1024 : Shape := ⟨1, ![1024]⟩
abbrev S2048x2048 : Shape := ⟨2, ![2048, 2048]⟩
abbrev S1024x2048 : Shape := ⟨2, ![1024, 2048]⟩
abbrev S8192x1024 : Shape := ⟨2, ![8192, 1024]⟩
abbrev S_ : Shape := ⟨0, ![]⟩

class Facts : Prop where
  slices_S8192x9216_S8192x1024_0_8192 : S8192x9216.Slices ![0, 8192] S8192x1024
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x9216 .bf16) (main_arg1 : FVec F S8192x2048 .f32) (main_arg2 : FVec F S1x8192 .f32) (main_arg3 : FVec F S2048 .f32) (main_arg4 : FVec F S2048 .f32) (main_arg5 : FVec F S8x128x128 .f32) (main_arg6 : FVec F S8x128 .f32) (main_arg7 : FVec F S4x256x256 .bf16) (main_arg8 : FVec F S1024 .f32) (main_arg9 : FVec F S2048x2048 .bf16) (main_arg10 : FVec F S1024x2048 .bf16) (main_arg11 : FVec F S2048x2048 .bf16) (main_arg12 : FVec F S2048 .f32) (main_arg13 : FVec F S2048 .f32) : IVec S_ 1 :=
  let main_v0 : FVec F S8192x1024 .bf16 := (extractStridedSlice S8192x1024 ![0, 8192] · slices_S8192x9216_S8192x1024_0_8192) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  main_v5
-- ==== Kernel.lean ====
abbrev S8192x9216 : Shape := ⟨2, ![8192, 9216]⟩
abbrev S8192x2048 : Shape := ⟨2, ![8192, 2048]⟩
abbrev S1x8192 : Shape := ⟨2, ![1, 8192]⟩
abbrev S2048 : Shape := ⟨1, ![2048]⟩
abbrev S8x128x128 : Shape := ⟨3, ![8, 128, 128]⟩
abbrev S8x128 : Shape := ⟨2, ![8, 128]⟩
abbrev S4x256x256 : Shape := ⟨3, ![4, 256, 256]⟩
abbrev S1024 : Shape := ⟨1, ![1024]⟩
abbrev S2048x2048 : Shape := ⟨2, ![2048, 2048]⟩
abbrev S1024x2048 : Shape := ⟨2, ![1024, 2048]⟩
abbrev S_ : Shape := ⟨0, ![]⟩
abbrev S128x128 : Shape := ⟨2, ![128, 128]⟩
abbrev S1x128x128 : Shape := ⟨3, ![1, 128, 128]⟩
abbrev S1x2048 : Shape := ⟨2, ![1, 2048]⟩
abbrev S128x8 : Shape := ⟨2, ![128, 8]⟩
abbrev S1x1024 : Shape := ⟨2, ![1, 1024]⟩
abbrev S256x2048 : Shape := ⟨2, ![256, 2048]⟩
abbrev S256x1024 : Shape := ⟨2, ![256, 1024]⟩
abbrev S32x1024 : Shape := ⟨2, ![32, 1024]⟩
abbrev S288x1024 : Shape := ⟨2, ![288, 1024]⟩
abbrev S288x768 : Shape := ⟨2, ![288, 768]⟩
abbrev S288x512 : Shape := ⟨2, ![288, 512]⟩
abbrev S288x256 : Shape := ⟨2, ![288, 256]⟩
abbrev S3 : Shape := ⟨1, ![3]⟩
abbrev S1 : Shape := ⟨1, ![1]⟩
abbrev S128x2048 : Shape := ⟨2, ![128, 2048]⟩
abbrev S128 : Shape := ⟨1, ![128]⟩
abbrev S128x1 : Shape := ⟨2, ![128, 1]⟩
abbrev S128x256 : Shape := ⟨2, ![128, 256]⟩
abbrev S280x1024 : Shape := ⟨2, ![280, 1024]⟩
abbrev S272x768 : Shape := ⟨2, ![272, 768]⟩
abbrev S264x512 : Shape := ⟨2, ![264, 512]⟩
abbrev S256x256 : Shape := ⟨2, ![256, 256]⟩
abbrev S256x1 : Shape := ⟨2, ![256, 1]⟩
abbrev S1x256x256 : Shape := ⟨3, ![1, 256, 256]⟩
abbrev S1x256 : Shape := ⟨2, ![1, 256]⟩
abbrev S2048x512 : Shape := ⟨2, ![2048, 512]⟩
abbrev S256x512 : Shape := ⟨2, ![256, 512]⟩
abbrev S1024x512 : Shape := ⟨2, ![1024, 512]⟩
abbrev S128x512 : Shape := ⟨2, ![128, 512]⟩

abbrev nBuf : Space → Nat
  | .hbm => 40
  | .vmem => 41
  | .smem => 0
  | _ => 0

abbrev bufTy : (tb : Table) → Fin (tcTables nBuf tb) → BufTy
  | .hbm, ⟨0, _⟩ => ⟨S8192x9216, .bf16⟩
  | .hbm, ⟨1, _⟩ => ⟨S8192x2048, .f32⟩
  | .hbm, ⟨2, _⟩ => ⟨S1x8192, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S4x256x256, .bf16⟩
  | .hbm, ⟨8, _⟩ => ⟨S1024, .f32⟩
  | .hbm, ⟨9, _⟩ => ⟨S2048x2048, .bf16⟩
  | .hbm, ⟨10, _⟩ => ⟨S1024x2048, .bf16⟩
  | .hbm, ⟨11, _⟩ => ⟨S2048x2048, .bf16⟩
  | .hbm, ⟨12, _⟩ => ⟨S2048, .f32⟩
  | .hbm, ⟨13, _⟩ => ⟨S2048, .f32⟩
  | .hbm, ⟨14, _⟩ => ⟨S_, .i1⟩
  | .hbm, ⟨15, _⟩ => ⟨S128x128, .i1⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S1x128x128, .i1⟩
  | .hbm, ⟨26, _⟩ => ⟨S_, .f32⟩
  | .hbm, ⟨27, _⟩ => ⟨S_, .f32⟩
  | .hbm, ⟨28, _⟩ => ⟨S8x128x128, .i1⟩
  | .hbm, ⟨29, _⟩ => ⟨S8x128x128, .f32⟩
  | .hbm, ⟨30, _⟩ => ⟨S8x128x128, .f32⟩
  | .hbm, ⟨31, _⟩ => ⟨S8x128x128, .bf16⟩
  | .hbm, ⟨32, _⟩ => ⟨S1x2048, .f32⟩
  | .hbm, ⟨33, _⟩ => ⟨S1x2048, .f32⟩
  | .hbm, ⟨34, _⟩ => ⟨S128x8, .f32⟩
  | .hbm, ⟨35, _⟩ => ⟨S1x1024, .f32⟩
  | .hbm, ⟨36, _⟩ => ⟨S1x2048, .f32⟩
  | .hbm, ⟨37, _⟩ => ⟨S1x2048, .f32⟩
  | .hbm, ⟨38, _⟩ => ⟨S8192x2048, .f32⟩
  | .hbm, ⟨39, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | .local _ .vmem, ⟨10, _⟩ => ⟨S32x1024, .bf16⟩
  | .local _ .vmem, ⟨11, _⟩ => ⟨S32x1024, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S8x128x128, .bf16⟩
  | .local _ .vmem, ⟨18, _⟩ => ⟨S128x8, .f32⟩
  | .local _ .vmem, ⟨19, _⟩ => ⟨S4x256x256, .bf16⟩
  | .local _ .vmem, ⟨20, _⟩ => ⟨S1x1024, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | .local _ .vmem, ⟨29, _⟩ => ⟨S256x2048, .bf16⟩
  | .local _ .vmem, ⟨30, _⟩ => ⟨S288x1024, .f32⟩
  | .local _ .vmem, ⟨31, _⟩ => ⟨S288x1024, .f32⟩
  | .local _ .vmem, ⟨32, _⟩ => ⟨S288x768, .f32⟩
  | .local _ .vmem, ⟨33, _⟩ => ⟨S288x512, .f32⟩
  | .local _ .vmem, ⟨34, _⟩ => ⟨S288x256, .f32⟩
  | .local _ .vmem, ⟨35, _⟩ => ⟨S256x1024, .bf16⟩
  | .local _ .vmem, ⟨36, _⟩ => ⟨S256x2048, .bf16⟩
  | .local _ .vmem, ⟨37, _⟩ => ⟨S256x2048, .f32⟩
  | .local _ .vmem, ⟨38, _⟩ => ⟨S2048x2048, .bf16⟩
  | .local _ .vmem, ⟨39, _⟩ => ⟨S1024x2048, .bf16⟩
  | .local _ .vmem, ⟨40, _⟩ => ⟨S2048x2048, .bf16⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11_0 : Ref sig .tc := ⟨.hbm, 38, rfl⟩
abbrev main_v11_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_scratch10 : Ref sig .tc := ⟨.vmem, 39, rfl⟩
abbrev cc0_scratch11 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32_2 : BitVec 32 := 0#32
  let v3 : BitVec 1 := Scalar.cmpi .sgt arg0 c0_i32_2
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c8_i32_0 : BitVec 32 := 8#32
  let c0_i32_1 : BitVec 32 := 0#32
  ![v2.toNat, c8_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_19 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S8192x9216 : Shape := ⟨2, ![8192, 9216]⟩
abbrev S8192x2048 : Shape := ⟨2, ![8192, 2048]⟩
abbrev S1x8192 : Shape := ⟨2, ![1, 8192]⟩
abbrev S2048 : Shape := ⟨1, ![2048]⟩
abbrev S8x128x128 : Shape := ⟨3, ![8, 128, 128]⟩
abbrev S8x128 : Shape := ⟨2, ![8, 128]⟩
abbrev S4x256x256 : Shape := ⟨3, ![4, 256, 256]⟩
abbrev S1024 : Shape := ⟨1, ![1024]⟩
abbrev S2048x2048 : Shape := ⟨2, ![2048, 2048]⟩
abbrev S1024x2048 : Shape := ⟨2, ![1024, 2048]⟩
abbrev S8192x1024 : Shape := ⟨2, ![8192, 1024]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩
abbrev S8192x4x256 : Shape := ⟨3, ![8192, 4, 256]⟩
abbrev S8192x1x256 : Shape := ⟨3, ![8192, 1, 256]⟩
abbrev S8192x256 : Shape := ⟨2, ![8192, 256]⟩
abbrev S8194x256 : Shape := ⟨2, ![8194, 256]⟩
abbrev S1x256x256 : Shape := ⟨3, ![1, 256, 256]⟩
abbrev S256x256 : Shape := ⟨2, ![256, 256]⟩
abbrev S8196x256 : Shape := ⟨2, ![8196, 256]⟩
abbrev S8200x256 : Shape := ⟨2, ![8200, 256]⟩
abbrev S8208x256 : Shape := ⟨2, ![8208, 256]⟩
abbrev S1x1024 : Shape := ⟨2, ![1, 1024]⟩

abbrev nBuf : Space → Nat
  | .hbm => 216
  | .vmem => 0
  | .smem => 0
  | _ => 0

abbrev hbmTy0_0 (i : Nat) : BufTy := match i % 128 with
  | 0 => ⟨S8192x9216, .bf16⟩
  | 1 => ⟨S8192x2048, .f32⟩
  | 2 => ⟨S1x8192, .f32⟩
  | 3 => ⟨S2048, .f32⟩
  | 4 => ⟨S2048, .f32⟩
  | 5 => ⟨S8x128x128, .f32⟩
  | 6 => ⟨S8x128, .f32⟩
  | 7 => ⟨S4x256x256, .bf16⟩
  | 8 => ⟨S1024, .f32⟩
  | 9 => ⟨S2048x2048, .bf16⟩
  | 10 => ⟨S1024x2048, .bf16⟩
  | 11 => ⟨S2048x2048, .bf16⟩
  | 12 => ⟨S2048, .f32⟩
  | 13 => ⟨S2048, .f32⟩
  | 14 => ⟨S8192x9216, .f32⟩
  | 15 => ⟨S4x256x256, .f32⟩
  | 16 => ⟨S2048x2048, .f32⟩
  | 17 => ⟨S1024x2048, .f32⟩
  | 18 => ⟨S2048x2048, .f32⟩
  | 19 => ⟨S8192x2048, .f32⟩
  | 20 => ⟨S8192x2048, .f32⟩
  | 21 => ⟨S8192x2048, .f32⟩
  | 22 => ⟨S8192x2048, .f32⟩
  | 23 => ⟨S8192x1024, .f32⟩
  | 24 => ⟨S1x2048, .f32⟩
  | 25 => ⟨S1x2048, .f32⟩
  | 26 => ⟨S1x2048, .f32⟩
  | 27 => ⟨S1x2048, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S8192x2048, .f32⟩
  | 35 => ⟨S8192x2048, .f32⟩
  | 36 => ⟨S8192x2048, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1, .f32⟩
  | 47 => ⟨S8192x2048, .f32⟩
  | 48 => ⟨S8192x2048, .f32⟩
  | 49 => ⟨S1x2048, .f32⟩
  | 50 => ⟨S8192x2048, .f32⟩
  | 51 => ⟨S8192x2048, .f32⟩
  | 52 => ⟨S1x2048, .f32⟩
  | 53 => ⟨S8192x2048, .f32⟩
  | 54 => ⟨S8192x2048, .f32⟩
  | 55 => ⟨S64x128x8x256, .f32⟩
  | 56 => ⟨S_, .i1⟩
  | 57 => ⟨S128x128, .i1⟩
  | 58 => ⟨S128x128, .i32⟩
  | 59 => ⟨S_, .i32⟩
  | 60 => ⟨S128x128, .i32⟩
  | 61 => ⟨S128x128, .i32⟩
  | 62 => ⟨S128x128, .i32⟩
  | 63 => ⟨S128x128, .i1⟩
  | 64 => ⟨S_, .i1⟩
  | 65 => ⟨S128x128, .i1⟩
  | 66 => ⟨S128x128, .i1⟩
  | 67 => ⟨S1x128x128, .i1⟩
  | 68 => ⟨S_, .f32⟩
  | 69 => ⟨S8x128x128, .f32⟩
  | 70 => ⟨S8x128x128, .i1⟩
  | 71 => ⟨S8x128x128, .f32⟩
  | 72 => ⟨S8x64x256x128, .f32⟩
  | 73 => ⟨S64x128x8x256, .f32⟩
  | 74 => ⟨S128x8, .f32⟩
  | 75 => ⟨S1x128x8x1, .f32⟩
  | 76 => ⟨S64x128x8x256, .f32⟩
  | 77 => ⟨S64x128x8x256, .f32⟩
  | 78 => ⟨S8192x2048, .f32⟩
  | 79 => ⟨S8192x2048, .f32⟩
  | 80 => ⟨S8192x2048, .f32⟩
  | 81 => ⟨S8192x4x256, .f32⟩
  | 82 => ⟨S8192, .i32⟩
  | 83 => ⟨S_, .i32⟩
  | 84 => ⟨S8192, .i32⟩
  | 85 => ⟨S8192, .i32⟩
  | 86 => ⟨S8192, .f32⟩
  | 87 => ⟨S8192x1, .f32⟩
  | 88 => ⟨S8192x1x256, .f32⟩
  | 89 => ⟨S8192x256, .f32⟩
  | 90 => ⟨S_, .f32⟩
  | 91 => ⟨S_, .f32⟩
  | 92 => ⟨S8192x256, .f32⟩
  | 93 => ⟨S_, .i32⟩
  | 94 => ⟨S_, .f32⟩
  | 95 => ⟨S8194x256, .f32⟩
  | 96 => ⟨S8192x256, .f32⟩
  | 97 => ⟨S8192x256, .f32⟩
  | 98 => ⟨S_, .f32⟩
  | 99 => ⟨S8192x1, .f32⟩
  | 100 => ⟨S8192x1, .f32⟩
  | 101 => ⟨S8192x256, .f32⟩
  | 102 => ⟨S8192x256, .f32⟩
  | 103 => ⟨S8192x256, .f32⟩
  | 104 => ⟨S1x256x256, .f32⟩
  | 105 => ⟨S256x256, .f32⟩
  | 106 => ⟨S8192x256, .f32⟩
  | 107 => ⟨S8192x1x256, .f32⟩
  | 108 => ⟨S8192x256, .f32⟩
  | 109 => ⟨S_, .f32⟩
  | 110 => ⟨S_, .f32⟩
  | 111 => ⟨S8192x256, .f32⟩
  | 112 => ⟨S_, .i32⟩
  | 113 => ⟨S_, .f32⟩
  | 114 => ⟨S8196x256, .f32⟩
  | 115 => ⟨S8192x256, .f32⟩
  | 116 => ⟨S8192x256, .f32⟩
  | 117 => ⟨S_, .f32⟩
  | 118 => ⟨S8192x1, .f32⟩
  | 119 => ⟨S8192x1, .f32⟩
  | 120 => ⟨S8192x256, .f32⟩
  | 121 => ⟨S8192x256, .f32⟩
  | 122 => ⟨S8192x256, .f32⟩
  | 123 => ⟨S1x256x256, .f32⟩
  | 124 => ⟨S256x256, .f32⟩
  | 125 => ⟨S8192x256, .f32⟩
  | 126 => ⟨S8192x1x256, .f32⟩
  | 127 => ⟨S8192x256, .f32⟩
  | _ => ⟨S8192x9216, .bf16⟩

abbrev hbmTy0_1 (i : Nat) : BufTy := match i % 128 with
  | 0 => ⟨S_, .f32⟩
  | 1 => ⟨S_, .f32⟩
  | 2 => ⟨S8192x256, .f32⟩
  | 3 => ⟨S_, .i32⟩
  | 4 => ⟨S_, .f32⟩
  | 5 => ⟨S8200x256, .f32⟩
  | 6 => ⟨S8192x256, .f32⟩
  | 7 => ⟨S8192x256, .f32⟩
  | 8 => ⟨S_, .f32⟩
  | 9 => ⟨S8192x1, .f32⟩
  | 10 => ⟨S8192x1, .f32⟩
  | 11 => ⟨S8192x256, .f32⟩
  | 12 => ⟨S8192x256, .f32⟩
  | 13 => ⟨S8192x256, .f32⟩
  | 14 => ⟨S1x256x256, .f32⟩
  | 15 => ⟨S256x256, .f32⟩
  | 16 => ⟨S8192x256, .f32⟩
  | 17 => ⟨S8192x1x256, .f32⟩
  | 18 => ⟨S8192x256, .f32⟩
  | 19 => ⟨S_, .f32⟩
  | 20 => ⟨S_, .f32⟩
  | 21 => ⟨S8192x256, .f32⟩
  | 22 => ⟨S_, .i32⟩
  | 23 => ⟨S_, .f32⟩
  | 24 => ⟨S8208x256, .f32⟩
  | 25 => ⟨S8192x256, .f32⟩
  | 26 => ⟨S8192x256, .f32⟩
  | 27 => ⟨S_, .f32⟩
  | 28 => ⟨S8192x1, .f32⟩
  | 29 => ⟨S8192x1, .f32⟩
  | 30 => ⟨S8192x256, .f32⟩
  | 31 => ⟨S8192x256, .f32⟩
  | 32 => ⟨S8192x256, .f32⟩
  | 33 => ⟨S1x256x256, .f32⟩
  | 34 => ⟨S256x256, .f32⟩
  | 35 => ⟨S8192x256, .f32⟩
  | 36 => ⟨S8192x1024, .f32⟩
  | 37 => ⟨S1x1024, .f32⟩
  | 38 => ⟨S8192x1024, .f32⟩
  | 39 => ⟨S8192x1024, .f32⟩
  | 40 => ⟨S8192x2048, .f32⟩
  | 41 => ⟨S8192x2048, .f32⟩
  | 42 => ⟨S8192x2048, .f32⟩
  | 43 => ⟨S8192x2048, .f32⟩
  | 44 => ⟨S8192x2048, .f32⟩
  | 45 => ⟨S8192x2048, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x2048, .f32⟩
  | 57 => ⟨S8192x2048, .f32⟩
  | 58 => ⟨S1x2048, .f32⟩
  | 59 => ⟨S8192x2048, .f32⟩
  | 60 => ⟨S8192x2048, .f32⟩
  | 61 => ⟨S8192x2048, .f32⟩
  | 62 => ⟨S8192x2048, .f32⟩
  | 63 => ⟨S8192x2048, .f32⟩
  | 64 => ⟨S8192x2048, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x2048, .f32⟩
  | 76 => ⟨S8192x2048, .f32⟩
  | 77 => ⟨S1x2048, .f32⟩
  | 78 => ⟨S8192x2048, .f32⟩
  | 79 => ⟨S8192x2048, .f32⟩
  | 80 => ⟨S_, .f32⟩
  | 81 => ⟨S1x2048, .f32⟩
  | 82 => ⟨S1x2048, .f32⟩
  | 83 => ⟨S8192x2048, .f32⟩
  | 84 => ⟨S8192x2048, .f32⟩
  | 85 => ⟨S8192x2048, .f32⟩
  | 86 => ⟨S8192x2048, .f32⟩
  | 87 => ⟨S8192x2048, .bf16⟩
  | _ => ⟨S8192x9216, .bf16⟩

abbrev hbmTy (i : Nat) : BufTy := match i / 128 with
  | 0 => hbmTy0_0 i
  | 1 => hbmTy0_1 i
  | _ => ⟨S8192x9216, .bf16⟩

abbrev bufTy : (tb : Table) → Fin (tcTables nBuf tb) → BufTy
  | .hbm, ⟨i, _⟩ => hbmTy i
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c : Ref sig .tc := ⟨.hbm, 56, rfl⟩
abbrev main_v37 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_0 : Ref sig .tc := ⟨.hbm, 64, rfl⟩
abbrev main_call0_v5 : Ref sig .tc := ⟨.hbm, 65, rfl⟩
abbrev main_v38 : Ref sig .tc := ⟨.hbm, 66, rfl⟩
abbrev main_v39 : Ref sig .tc := ⟨.hbm, 67, rfl⟩
abbrev main_cst_4 : Ref sig .tc := ⟨.hbm, 68, rfl⟩
abbrev main_v40 : Ref sig .tc := ⟨.hbm, 69, rfl⟩
abbrev main_call1_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_5 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call2_call0_cst : Ref sig .tc := ⟨.hbm, 90, rfl⟩
abbrev main_call2_call0_v0 : Ref sig .tc := ⟨.hbm, 91, rfl⟩
abbrev main_v59 : Ref sig .tc := ⟨.hbm, 92, rfl⟩
abbrev main_c_6 : Ref sig .tc := ⟨.hbm, 93, rfl⟩
abbrev main_call3_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_7 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call4_call0_cst : Ref sig .tc := ⟨.hbm, 109, rfl⟩
abbrev main_call4_call0_v0 : Ref sig .tc := ⟨.hbm, 110, rfl⟩
abbrev main_v73 : Ref sig .tc := ⟨.hbm, 111, rfl⟩
abbrev main_c_8 : Ref sig .tc := ⟨.hbm, 112, rfl⟩
abbrev main_call5_v0 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_9 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_call6_call0_cst : Ref sig .tc := ⟨.hbm, 128, rfl⟩
abbrev main_call6_call0_v0 : Ref sig .tc := ⟨.hbm, 129, rfl⟩
abbrev main_v87 : Ref sig .tc := ⟨.hbm, 130, rfl⟩
abbrev main_c_10 : Ref sig .tc := ⟨.hbm, 131, rfl⟩
abbrev main_call7_v0 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_11 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call8_call0_cst : Ref sig .tc := ⟨.hbm, 147, rfl⟩
abbrev main_call8_call0_v0 : Ref sig .tc := ⟨.hbm, 148, rfl⟩
abbrev main_v101 : Ref sig .tc := ⟨.hbm, 149, rfl⟩
abbrev main_c_12 : Ref sig .tc := ⟨.hbm, 150, rfl⟩
abbrev main_call9_v0 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_13 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_14 : Ref sig .tc := ⟨.hbm, 174, rfl⟩
abbrev main_v123 : Ref sig .tc := ⟨.hbm, 175, rfl⟩
abbrev main_v124 : Ref sig .tc := ⟨.hbm, 176, rfl⟩
abbrev main_cst_15 : Ref sig .tc := ⟨.hbm, 177, rfl⟩
abbrev main_v125 : Ref sig .tc := ⟨.hbm, 178, rfl⟩
abbrev main_v126 : Ref sig .tc := ⟨.hbm, 179, rfl⟩
abbrev main_cst_16 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_17 : Ref sig .tc := ⟨.hbm, 193, rfl⟩
abbrev main_v139 : Ref sig .tc := ⟨.hbm, 194, rfl⟩
abbrev main_v140 : Ref sig .tc := ⟨.hbm, 195, rfl⟩
abbrev main_cst_18 : Ref sig .tc := ⟨.hbm, 196, rfl⟩
abbrev main_v141 : Ref sig .tc := ⟨.hbm, 197, rfl⟩
abbrev main_v142 : Ref sig .tc := ⟨.hbm, 198, rfl⟩
abbrev main_cst_19 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_20 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩

abbrev nD : Nat := 1
abbrev τ : Topo := Topo.v7x

variable {F : FTy → Type} [FloatOps F]
-- ==== Kernel2.lean ====
abbrev S8192x2048 : Shape := ⟨2, ![8192, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S1x11264 : Shape := ⟨2, ![1, 11264]⟩
abbrev S8192x5632 : Shape := ⟨2, ![8192, 5632]⟩
abbrev S2048x2048 : Shape := ⟨2, ![2048, 2048]⟩
abbrev S2048x512 : Shape := ⟨2, ![2048, 512]⟩
abbrev S3x512 : Shape := ⟨2, ![3, 512]⟩
abbrev S1x512 : Shape := ⟨2, ![1, 512]⟩
abbrev S128x2048 : Shape := ⟨2, ![128, 2048]⟩
abbrev S11x2x8x512 : Shape := ⟨4, ![11, 2, 8, 512]⟩
abbrev S2x8x512 : Shape := ⟨3, ![2, 8, 512]⟩
abbrev S1x2x8x512 : Shape := ⟨4, ![1, 2, 8, 512]⟩
abbrev S1x1x8x512 : Shape := ⟨4, ![1, 1, 8, 512]⟩
abbrev S8x512 : Shape := ⟨2, ![8, 512]⟩
abbrev S256x2048 : Shape := ⟨2, ![256, 2048]⟩
abbrev S256x512 : Shape := ⟨2, ![256, 512]⟩
abbrev S8x1 : Shape := ⟨2, ![8, 1]⟩
abbrev S248x512 : Shape := ⟨2, ![248, 512]⟩

abbrev nBuf : Space → Nat
  | .hbm => 8
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S5632x2048, .f32⟩
  | .hbm, ⟨5, _⟩ => ⟨S1x11264, .f32⟩
  | .hbm, ⟨6, _⟩ => ⟨S8192x5632, .bf16⟩
  | .hbm, ⟨7, _⟩ => ⟨S5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S128x2048, .f32⟩
  | .local _ .vmem, ⟨15, _⟩ => ⟨S128x2048, .f32⟩
  | .local _ .vmem, ⟨16, _⟩ => ⟨S2048x512, .bf16⟩
  | .local _ .vmem, ⟨17, _⟩ => ⟨S2048x512, .bf16⟩
  | .local _ .vmem, ⟨18, _⟩ => ⟨S128x2048, .bf16⟩
  | .local _ .vmem, ⟨19, _⟩ => ⟨S128x2048, .bf16⟩
  | .local _ .vmem, ⟨20, _⟩ => ⟨S11x2x8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg1 : BitVec 32 := BitVec.ofNat 32 (i 1).val
  let v913 : Index := Scalar.indexCast arg1
  let c0_361 : Index := 0#32
  let c0_362 : Index := 0#32
  let c0_363 : Index := 0#32
  ![v913.toNat, 0, 0, 0]
def k0_off2 (i : grid0.Coords) : Fin 4 → Nat :=
  let arg1 : BitVec 32 := BitVec.ofNat 32 (i 1).val
  let v7 : Index := Scalar.indexCast arg1
  let c0_4 : Index := 0#32
  let c0_5 : Index := 0#32
  let c0_6 : Index := 0#32
  ![v7.toNat, 0, 0, 0]
def k0_off3 (i : grid0.Coords) : Fin 4 → Nat :=
  let arg1 : BitVec 32 := BitVec.ofNat 32 (i 1).val
  let v10 : Index := Scalar.indexCast arg1
  let c1 : Index := 1#32
  let c0_7 : Index := 0#32
  let c0_8 : Index := 0#32
  ![v10.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2Ideal.lean ====
variable {F : FTy → Type} [FloatOps F] [Named F]
def κ : String → Option EReal := fun
  | "c0c1" => some ((80338380498831 / 2251799813685248 : ℝ) : EReal)
  | _ => none
-- ==== Reference2Ideal.lean ====
abbrev S8192x2048 : Shape := ⟨2, ![8192, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S8192x11264 : Shape := ⟨2, ![8192, 11264]⟩
abbrev S_ : Shape := ⟨0, ![]⟩
abbrev S8194x11264 : Shape := ⟨2, ![8194, 11264]⟩
abbrev S1x11264 : Shape := ⟨2, ![1, 11264]⟩
abbrev S8192x5632 : Shape := ⟨2, ![8192, 5632]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S5632x2048, .f32⟩
  | .hbm, ⟨5, _⟩ => ⟨S8192x2048, .f32⟩
  | .hbm, ⟨6, _⟩ => ⟨S8192x11264, .f32⟩
  | .hbm, ⟨7, _⟩ => ⟨S_, .i32⟩
  | .hbm, ⟨8, _⟩ => ⟨S_, .f32⟩
  | .hbm, ⟨9, _⟩ => ⟨S8194x11264, .f32⟩
  | .hbm, ⟨10, _⟩ => ⟨S8192x11264, .f32⟩
  | .hbm, ⟨11, _⟩ => ⟨S1x11264, .f32⟩
  | .hbm, ⟨12, _⟩ => ⟨S11264, .f32⟩
  | .hbm, ⟨13, _⟩ => ⟨S1x11264, .f32⟩
  | .hbm, ⟨14, _⟩ => ⟨S8192x11264, .f32⟩
  | .hbm, ⟨15, _⟩ => ⟨S8192x11264, .f32⟩
  | .hbm, ⟨16, _⟩ => ⟨S1x11264, .f32⟩
  | .hbm, ⟨17, _⟩ => ⟨S8192x11264, .f32⟩
  | .hbm, ⟨18, _⟩ => ⟨S8192x11264, .f32⟩
  | .hbm, ⟨19, _⟩ => ⟨S8192x11264, .f32⟩
  | .hbm, ⟨20, _⟩ => ⟨S1x11264, .f32⟩
  | .hbm, ⟨21, _⟩ => ⟨S11264, .f32⟩
  | .hbm, ⟨22, _⟩ => ⟨S1x11264, .f32⟩
  | .hbm, ⟨23, _⟩ => ⟨S8192x11264, .f32⟩
  | .hbm, ⟨24, _⟩ => ⟨S8192x11264, .f32⟩
  | .hbm, ⟨25, _⟩ => ⟨S8192x11264, .f32⟩
  | .hbm, ⟨26, _⟩ => ⟨S8192x11264, .f32⟩
  | .hbm, ⟨27, _⟩ => ⟨S1x11264, .f32⟩
  | .hbm, ⟨28, _⟩ => ⟨S11264, .f32⟩
  | .hbm, ⟨29, _⟩ => ⟨S1x11264, .f32⟩
  | .hbm, ⟨30, _⟩ => ⟨S8192x11264, .f32⟩
  | .hbm, ⟨31, _⟩ => ⟨S8192x11264, .f32⟩
  | .hbm, ⟨32, _⟩ => ⟨S8192x11264, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S_, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S_, .f32⟩
  | .hbm, ⟨46, _⟩ => ⟨S8192x5632, .f32⟩
  | .hbm, ⟨47, _⟩ => ⟨S8192x5632, .f32⟩
  | .hbm, ⟨48, _⟩ => ⟨S_, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .bf16⟩
  | .hbm, ⟨54, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S1x8192 : Shape := ⟨2, ![1, 8192]⟩
abbrev S2048 : Shape := ⟨1, ![2048]⟩
abbrev S1x2048 : Shape := ⟨2, ![1, 2048]⟩
abbrev S512x5632 : Shape := ⟨2, ![512, 5632]⟩
abbrev S512x2048 : Shape := ⟨2, ![512, 2048]⟩
abbrev S4 : Shape := ⟨1, ![4]⟩
abbrev S1 : Shape := ⟨1, ![1]⟩
abbrev S_ : Shape := ⟨0, ![]⟩
abbrev S5632x512 : Shape := ⟨2, ![5632, 512]⟩
abbrev S256x1 : Shape := ⟨2, ![256, 1]⟩
abbrev S256x5632 : Shape := ⟨2, ![256, 5632]⟩
abbrev S256x512 : Shape := ⟨2, ![256, 512]⟩
abbrev S256 : Shape := ⟨1, ![256]⟩
abbrev S256x2048 : Shape := ⟨2, ![256, 2048]⟩

abbrev nBuf : Space → Nat
  | .hbm => 7
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x8192, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S5632x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩
abbrev S1x8192 : Shape := ⟨2, ![1, 8192]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x8192, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8192x5632, .f32⟩
  | .hbm, ⟨10, _⟩ => ⟨S5632x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel4.lean ====
abbrev S8192x2048 : Shape := ⟨2, ![8192, 2048]⟩
abbrev S2048x9216 : Shape := ⟨2, ![2048, 9216]⟩
abbrev S2048x2048 : Shape := ⟨2, ![2048, 2048]⟩
abbrev S1024x2048 : Shape := ⟨2, ![1024, 2048]⟩
abbrev S4x256x256 : Shape := ⟨3, ![4, 256, 256]⟩
abbrev S8x2048 : Shape := ⟨2, ![8, 2048]⟩
abbrev S2048x12288 : Shape := ⟨2, ![2048, 12288]⟩
abbrev S12288 : Shape := ⟨1, ![12288]⟩
abbrev S1024x256 : Shape := ⟨2, ![1024, 256]⟩
abbrev S1x12288 : Shape := ⟨2, ![1, 12288]⟩
abbrev S8192x9216 : Shape := ⟨2, ![8192, 9216]⟩
abbrev S1x8192 : Shape := ⟨2, ![1, 8192]⟩
abbrev S2048x1024 : Shape := ⟨2, ![2048, 1024]⟩
abbrev S64x2048 : Shape := ⟨2, ![64, 2048]⟩
abbrev S32x2048 : Shape := ⟨2, ![32, 2048]⟩
abbrev S32x256 : Shape := ⟨2, ![32, 256]⟩
abbrev S2048x256 : Shape := ⟨2, ![2048, 256]⟩
abbrev S1x256 : Shape := ⟨2, ![1, 256]⟩
abbrev S256x2048 : Shape := ⟨2, ![256, 2048]⟩
abbrev S256x1024 : Shape := ⟨2, ![256, 1024]⟩
abbrev S8x256 : Shape := ⟨2, ![8, 256]⟩

abbrev nBuf : Space → Nat
  | .hbm => 17
  | .vmem => 29
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S2048x2048, .f32⟩
  | .hbm, ⟨3, _⟩ => ⟨S2048x2048, .f32⟩
  | .hbm, ⟨4, _⟩ => ⟨S1024x2048, .f32⟩
  | .hbm, ⟨5, _⟩ => ⟨S4x256x256, .f32⟩
  | .hbm, ⟨6, _⟩ => ⟨S8x2048, .bf16⟩
  | .hbm, ⟨7, _⟩ => ⟨S2048x12288, .f32⟩
  | .hbm, ⟨8, _⟩ => ⟨S12288, .f32⟩
  | .hbm, ⟨9, _⟩ => ⟨S1024x256, .f32⟩
  | .hbm, ⟨10, _⟩ => ⟨S1x12288, .f32⟩
  | .hbm, ⟨11, _⟩ => ⟨S8192x9216, .bf16⟩
  | .hbm, ⟨12, _⟩ => ⟨S2048x2048, .bf16⟩
  | .hbm, ⟨13, _⟩ => ⟨S2048x2048, .bf16⟩
  | .hbm, ⟨14, _⟩ => ⟨S1024x2048, .bf16⟩
  | .hbm, ⟨15, _⟩ => ⟨S1024x256, .bf16⟩
  | .hbm, ⟨16, _⟩ => ⟨S1x8192, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S32x2048, .f32⟩
  | .local _ .vmem, ⟨9, _⟩ => ⟨S32x2048, .f32⟩
  | .local _ .vmem, ⟨10, _⟩ => ⟨S32x256, .f32⟩
  | .local _ .vmem, ⟨11, _⟩ => ⟨S32x256, .f32⟩
  | .local _ .vmem, ⟨12, _⟩ => ⟨S8x2048, .bf16⟩
  | .local _ .vmem, ⟨13, _⟩ => ⟨S2048x256, .f32⟩
  | .local _ .vmem, ⟨14, _⟩ => ⟨S2048x256, .f32⟩
  | .local _ .vmem, ⟨15, _⟩ => ⟨S1x256, .f32⟩
  | .local _ .vmem, ⟨16, _⟩ => ⟨S1x256, .f32⟩
  | .local _ .vmem, ⟨17, _⟩ => ⟨S2048x1024, .bf16⟩
  | .local _ .vmem, ⟨18, _⟩ => ⟨S2048x1024, .bf16⟩
  | .local _ .vmem, ⟨19, _⟩ => ⟨S64x2048, .bf16⟩
  | .local _ .vmem, ⟨20, _⟩ => ⟨S64x2048, .bf16⟩
  | .local _ .vmem, ⟨21, _⟩ => ⟨S64x2048, .bf16⟩
  | .local _ .vmem, ⟨22, _⟩ => ⟨S64x2048, .bf16⟩
  | .local _ .vmem, ⟨23, _⟩ => ⟨S32x2048, .bf16⟩
  | .local _ .vmem, ⟨24, _⟩ => ⟨S32x2048, .bf16⟩
  | .local _ .vmem, ⟨25, _⟩ => ⟨S32x256, .bf16⟩
  | .local _ .vmem, ⟨26, _⟩ => ⟨S32x256, .bf16⟩
  | .local _ .vmem, ⟨27, _⟩ => ⟨S1x256, .f32⟩
  | .local _ .vmem, ⟨28, _⟩ => ⟨S1x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c16_i32 : BitVec 32 := 16#32
  let v3 : BitVec 32 := Scalar.addi c16_i32 v2
  let c0_i32 : BitVec 32 := 0#32
  let c0_i32_0 : BitVec 32 := 0#32
  ![c0_i32.toNat, v3.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c16_i32 : BitVec 32 := 16#32
  let v3 : BitVec 32 := Scalar.addi c16_i32 v2
  let c0_i32 : BitVec 32 := 0#32
  let c0_i32_0 : BitVec 32 := 0#32
  ![c0_i32.toNat, v3.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c5_i32 : BitVec 32 := 5#32
  let v1 : BitVec 1 := Scalar.cmpi .slt arg1 c5_i32
  let c4_i32_0 : BitVec 32 := 4#32
  let v2 : BitVec 32 := Scalar.addi arg1 c4_i32_0
  let c1_i32 : BitVec 32 := 1#32
  let v3 : BitVec 32 := Scalar.subi arg1 c1_i32
  let v4 : BitVec 32 := Scalar.select v1 v2 v3
  let v5 : BitVec 32 := Scalar.select v0 arg1 v4
  let c0_i32 : BitVec 32 := 0#32
  ![arg0.toNat, v5.toNat]

def cc0_transform_10 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![c0_i32.toNat, v2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel4Ideal.lean ====
variable {F : FTy → Type} [FloatOps F] [Named F]
def κ : String → Option EReal := fun
  | "c0c1" => some ((80338380498831 / 2251799813685248 : ℝ) : EReal)
  | _ => none
-- ==== Reference4Ideal.lean ====
abbrev S8192x2048 : Shape := ⟨2, ![8192, 2048]⟩
abbrev S2048x9216 : Shape := ⟨2, ![2048, 9216]⟩
abbrev S2048x2048 : Shape := ⟨2, ![2048, 2048]⟩
abbrev S1024x2048 : Shape := ⟨2, ![1024, 2048]⟩
abbrev S4x256x256 : Shape := ⟨3, ![4, 256, 256]⟩
abbrev S8x2048 : Shape := ⟨2, ![8, 2048]⟩
abbrev S2048x12288 : Shape := ⟨2, ![2048, 12288]⟩
abbrev S12288 : Shape := ⟨1, ![12288]⟩
abbrev S8192x9216 : Shape := ⟨2, ![8192, 9216]⟩
abbrev S8192x1024 : Shape := ⟨2, ![8192, 1024]⟩
abbrev S_ : Shape := ⟨0, ![]⟩
abbrev S1x2048 : Shape := ⟨2, ![1, 2048]⟩
abbrev S1x12288 : Shape := ⟨2, ![1, 12288]⟩
abbrev S1024x256 : Shape := ⟨2, ![1024, 256]⟩
abbrev S1x8192 : Shape := ⟨2, ![1, 8192]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S2048x2048, .f32⟩
  | .hbm, ⟨3, _⟩ => ⟨S2048x2048, .f32⟩
  | .hbm, ⟨4, _⟩ => ⟨S1024x2048, .f32⟩
  | .hbm, ⟨5, _⟩ => ⟨S4x256x256, .f32⟩
  | .hbm, ⟨6, _⟩ => ⟨S8x2048, .bf16⟩
  | .hbm, ⟨7, _⟩ => ⟨S2048x12288, .f32⟩
  | .hbm, ⟨8, _⟩ => ⟨S12288, .f32⟩
  | .hbm, ⟨9, _⟩ => ⟨S8192x2048, .f32⟩
  | .hbm, ⟨10, _⟩ => ⟨S8192x9216, .f32⟩
  | .hbm, ⟨11, _⟩ => ⟨S8192x2048, .f32⟩
  | .hbm, ⟨12, _⟩ => ⟨S8192x2048, .f32⟩
  | .hbm, ⟨13, _⟩ => ⟨S8192x1024, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192x2048, .f32⟩
  | .hbm, ⟨65, _⟩ => ⟨S8192x2048, .f32⟩
  | .hbm, ⟨66, _⟩ => ⟨S1x2048, .bf16⟩
  | .hbm, ⟨67, _⟩ => ⟨S1x2048, .f32⟩
  | .hbm, ⟨68, _⟩ => ⟨S1x12288, .f32⟩
  | .hbm, ⟨69, _⟩ => ⟨S1x12288, .f32⟩
  | .hbm, ⟨70, _⟩ => ⟨S1x12288, .f32⟩
  | .hbm, ⟨71, _⟩ => ⟨S8192x9216, .f32⟩
  | .hbm, ⟨72, _⟩ => ⟨S8192x9216, .bf16⟩
  | .hbm, ⟨73, _⟩ => ⟨S2048x2048, .bf16⟩
  | .hbm, ⟨74, _⟩ => ⟨S2048x2048, .bf16⟩
  | .hbm, ⟨75, _⟩ => ⟨S1024x2048, .bf16⟩
  | .hbm, ⟨76, _⟩ => ⟨S1024x256, .f32⟩
  | .hbm, ⟨77, _⟩ => ⟨S1024x256, .bf16⟩
  | .hbm, ⟨78, _⟩ => ⟨S1x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Proof.UpRunA.lean ====
/- The up call's body, run once in the first row of the grid. -/
module

public import proofs.«01_k».proof.Proof.Gen.Kernel2Ideal.Launch
public import proofs.«01_k».proof.Proof.Gen.Kernel2Ideal.Points
public import proofs.«01_k».proof.Proof.Gen.Kernel2Ideal.Skeleton
public import Idealize.ShloMosaic.Lib.Exec
public import Idealize.ShloMosaic.Lib.Pipeline.Frame
public import Idealize.ShloMosaic.Lib.Pipeline.FrameBody
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body in the first row of the grid, where it first clears its column's rows of the scratch. The inputs are kept, each output ends with its
    pieces written, and so does the scratch. -/
noncomputable def upRunA (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S11x2x8x512 .f32) (harg12 : arg12.IsWhole)
    (hc : k0_cond1 i = 1#1)
    (x0 : Vec F S2048x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S128x2048 .f32) (xs : Vec F S11x2x8x512 .f32) :
    Σ' (L8 : List (View.Piece (Elt F) S2048x512 .bf16)) (L9 : List (View.Piece (Elt F) S128x2048 .bf16)), { LS : List (View.Piece (Elt F) S11x2x8x512 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)
                ∗ arg12.view.loc (c : Thread nD τ) ↦[arg12.view.set]{fullShare} arg12.view.writes (Elt F) (harg12.unread xs) LS) -∗ K ⟨⟩))
          ⊢ wp frame (wpE (defs₀ (F := F)) Variants.none c none) Set.univ (cc0_ffn_up i arg2 harg2 arg3 harg3 arg4 harg4 arg5 harg5 arg6 harg6 arg7 harg7 arg8 harg8 arg9 harg9 arg10 harg10 arg11 harg11 arg12 harg12) K } := by
  refine ⟨?_, ?_, ?_, fun K => ?run⟩
  case run =>
    simp only [cc0_ffn_up_eq_skeleton]; unfold cc0_ffn_up_skel
    simp only [k0_part22_eq_skeleton]; unfold k0_part22_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexact HS

end Cert.Kernel2Ideal.Gen

end
-- ==== Proof.UpRunB.lean ====
/- The up call's body, run once below the first row of the grid. -/
module

public import proofs.«01_k».proof.Proof.Gen.Kernel2Ideal.Launch
public import proofs.«01_k».proof.Proof.Gen.Kernel2Ideal.Points
public import proofs.«01_k».proof.Proof.Gen.Kernel2Ideal.Skeleton
public import Idealize.ShloMosaic.Lib.Exec
public import Idealize.ShloMosaic.Lib.Pipeline.Frame
public import Idealize.ShloMosaic.Lib.Pipeline.FrameBody
public import Idealize.ShloMosaic.Lib.Tactic
public import Idealize.ShloMosaic.Lib.WordCmp
public import proofs.«01_k».proof.Proof.UpRunA

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body below the first row of the grid, where it takes the rows above from the scratch. The inputs are kept, each output ends with its
    pieces written, and so does the scratch. -/
noncomputable def upRunB (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S11x2x8x512 .f32) (harg12 : arg12.IsWhole)
    (hc : ¬ k0_cond1 i = 1#1)
    (x0 : Vec F S2048x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S128x2048 .f32) (xs : Vec F S11x2x8x512 .f32) :
    Σ' (L8 : List (View.Piece (Elt F) S2048x512 .bf16)) (L9 : List (View.Piece (Elt F) S128x2048 .bf16)), { LS : List (View.Piece (Elt F) S11x2x8x512 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)
                ∗ arg12.view.loc (c : Thread nD τ) ↦[arg12.view.set]{fullShare} arg12.view.writes (Elt F) (harg12.unread xs) LS) -∗ K ⟨⟩))
          ⊢ wp frame (wpE (defs₀ (F := F)) Variants.none c none) Set.univ (cc0_ffn_up i arg2 harg2 arg3 harg3 arg4 harg4 arg5 harg5 arg6 harg6 arg7 harg7 arg8 harg8 arg9 harg9 arg10 harg10 arg11 harg11 arg12 harg12) K } := by
  refine ⟨?_, ?_, ?_, fun K => ?run⟩
  case run =>
    simp only [cc0_ffn_up_eq_skeleton]; unfold cc0_ffn_up_skel
    simp only [k0_part22_eq_skeleton]; unfold k0_part22_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexact HS

end Cert.Kernel2Ideal.Gen

end
-- ==== Proof.UpSpec.lean ====
/- What the up call's body leaves in its blocks, as functions of the blocks it is handed. -/
module

public import proofs.«01_k».proof.Proof.UpRunA
public import proofs.«01_k».proof.Proof.UpRunB
public import Idealize.ShloMosaic.Lib.VecWindow

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The 256 rows of the tokens' block from row `o` on. -/
abbrev tok (X0 : Vec F S2048x2048 .bf16) (o : ℕ) (inb : ∀ a, (![o, 0] : Fin 2 → ℕ) a + S256x2048.size a ≤ S2048x2048.size a) : Vec F S256x2048 .bf16 :=
  View.ld (Val := Elt F) X0 (Rect.unit (s := S2048x2048) ![o, 0] S256x2048.size inb)

/-- One row of the convolution's three. -/
abbrev tap (X : Vec F S3x512 .f32) (o : ℕ) (inb : ∀ a, (![o, 0] : Fin 2 → ℕ) a + S1x512.size a ≤ S3x512.size a) : Vec F S1x512 .f32 :=
  View.ld (Val := Elt F) X (Rect.unit (s := S3x512) ![o, 0] S1x512.size inb)

/-- The whole block of the weights. -/
abbrev wgt (X : Vec F S2048x512 .f32) : FVec F S2048x512 .bf16 :=
  k0_pay2 (View.ld (Val := Elt F) X (Rect.unit (s := S2048x512) ![0, 0] S2048x512.size inb_S2048x512_S2048x512_0_0))

/-- The whole row of the bias. -/
abbrev bia (X : Vec F S1x512 .f32) : Vec F S1x512 .f32 :=
  View.ld (Val := Elt F) X (Rect.unit (s := S1x512) ![0, 0] S1x512.size inb_S1x512_S1x512_0_0)

/-- The convolution of 256 rows `u`, the 8 rows above them being `p`. -/
def convC (p : FVec F S8x512 .f32) (u : FVec F S256x512 .f32) (w0 w1 w2 b : Vec F S1x512 .f32) : FVec F S256x512 .f32 :=
  k0_pay12 p u w0 w1 w2 (k0_pay8 b) (k0_pay14 u w0 b) (k0_pay15 u) (k0_pay11 w1)

/-- 256 rows of the result: the first convolution's gelu by the second convolution. -/
def chunkC (pa pg : FVec F S8x512 .f32) (ua ug : FVec F S256x512 .f32) (X3 X4 : Vec F S3x512 .f32) (X5 X6 : Vec F S1x512 .f32) : FVec F S256x512 .bf16 :=
  k0_pay16 pg ug
    (convC pa ua (tap X3 0 inb_S3x512_S1x512_0_0) (tap X3 1 inb_S3x512_S1x512_1_0) (tap X3 2 inb_S3x512_S1x512_2_0) (bia X5))
    (tap X4 0 inb_S3x512_S1x512_0_0) (tap X4 1 inb_S3x512_S1x512_1_0) (tap X4 2 inb_S3x512_S1x512_2_0)
    (k0_pay13 (bia X6)) (k0_pay14 ug (tap X4 0 inb_S3x512_S1x512_0_0) (bia X6)) (k0_pay15 ug)

/-- The last 8 of 256 rows. -/
abbrev lastC (u : FVec F S256x512 .f32) : FVec F S8x512 .f32 := k0_pay17 u

/-- What the body stores into the result's block, last store first. -/
def upPieces (X0 : Vec F S2048x2048 .bf16) (X1 X2 : Vec F S2048x512 .f32) (X3 X4 : Vec F S3x512 .f32) (X5 X6 : Vec F S1x512 .f32)
    (pa pg : Vec F S1x1x8x512 .f32) : List (View.Piece (Elt F) S2048x512 .bf16) :=
  [⟨Rect.unit (s := S2048x512) ![1792, 0] S256x512.size inb_S2048x512_S256x512_1792_0, chunkC (lastC (k0_pay19 (wgt X1) (tok X0 1536 inb_S2048x2048_S256x2048_1536_0))) (lastC (k0_pay19 (wgt X2) (tok X0 1536 inb_S2048x2048_S256x2048_1536_0))) (k0_pay19 (wgt X1) (tok X0 1792 inb_S2048x2048_S256x2048_1792_0)) (k0_pay19 (wgt X2) (tok X0 1792 inb_S2048x2048_S256x2048_1792_0)) X3 X4 X5 X6⟩,
   ⟨Rect.unit (s := S2048x512) ![1536, 0] S256x512.size inb_S2048x512_S256x512_1536_0, chunkC (lastC (k0_pay19 (wgt X1) (tok X0 1280 inb_S2048x2048_S256x2048_1280_0))) (lastC (k0_pay19 (wgt X2) (tok X0 1280 inb_S2048x2048_S256x2048_1280_0))) (k0_pay19 (wgt X1) (tok X0 1536 inb_S2048x2048_S256x2048_1536_0)) (k0_pay19 (wgt X2) (tok X0 1536 inb_S2048x2048_S256x2048_1536_0)) X3 X4 X5 X6⟩,
   ⟨Rect.unit (s := S2048x512) ![1280, 0] S256x512.size inb_S2048x512_S256x512_1280_0, chunkC (lastC (k0_pay19 (wgt X1) (tok X0 1024 inb_S2048x2048_S256x2048_1024_0))) (lastC (k0_pay19 (wgt X2) (tok X0 1024 inb_S2048x2048_S256x2048_1024_0))) (k0_pay19 (wgt X1) (tok X0 1280 inb_S2048x2048_S256x2048_1280_0)) (k0_pay19 (wgt X2) (tok X0 1280 inb_S2048x2048_S256x2048_1280_0)) X3 X4 X5 X6⟩,
   ⟨Rect.unit (s := S2048x512) ![1024, 0] S256x512.size inb_S2048x512_S256x512_1024_0, chunkC (lastC (k0_pay19 (wgt X1) (tok X0 768 inb_S2048x2048_S256x2048_768_0))) (lastC (k0_pay19 (wgt X2) (tok X0 768 inb_S2048x2048_S256x2048_768_0))) (k0_pay19 (wgt X1) (tok X0 1024 inb_S2048x2048_S256x2048_1024_0)) (k0_pay19 (wgt X2) (tok X0 1024 inb_S2048x2048_S256x2048_1024_0)) X3 X4 X5 X6⟩,
   ⟨Rect.unit (s := S2048x512) ![768, 0] S256x512.size inb_S2048x512_S256x512_768_0, chunkC (lastC (k0_pay19 (wgt X1) (tok X0 512 inb_S2048x2048_S256x2048_512_0))) (lastC (k0_pay19 (wgt X2) (tok X0 512 inb_S2048x2048_S256x2048_512_0))) (k0_pay19 (wgt X1) (tok X0 768 inb_S2048x2048_S256x2048_768_0)) (k0_pay19 (wgt X2) (tok X0 768 inb_S2048x2048_S256x2048_768_0)) X3 X4 X5 X6⟩,
   ⟨Rect.unit (s := S2048x512) ![512, 0] S256x512.size inb_S2048x512_S256x512_512_0, chunkC (lastC (k0_pay19 (wgt X1) (tok X0 256 inb_S2048x2048_S256x2048_256_0))) (lastC (k0_pay19 (wgt X2) (tok X0 256 inb_S2048x2048_S256x2048_256_0))) (k0_pay19 (wgt X1) (tok X0 512 inb_S2048x2048_S256x2048_512_0)) (k0_pay19 (wgt X2) (tok X0 512 inb_S2048x2048_S256x2048_512_0)) X3 X4 X5 X6⟩,
   ⟨Rect.unit (s := S2048x512) ![256, 0] S256x512.size inb_S2048x512_S256x512_256_0, chunkC (lastC (k0_pay19 (wgt X1) (tok X0 0 inb_S2048x2048_S256x2048_0_0))) (lastC (k0_pay19 (wgt X2) (tok X0 0 inb_S2048x2048_S256x2048_0_0))) (k0_pay19 (wgt X1) (tok X0 256 inb_S2048x2048_S256x2048_256_0)) (k0_pay19 (wgt X2) (tok X0 256 inb_S2048x2048_S256x2048_256_0)) X3 X4 X5 X6⟩,
   ⟨Rect.unit (s := S2048x512) ![0, 0] S256x512.size inb_S2048x512_S256x512_0_0, chunkC (k0_pay4 pa) (k0_pay5 pg) (k0_pay19 (wgt X1) (tok X0 0 inb_S2048x2048_S256x2048_0_0)) (k0_pay19 (wgt X2) (tok X0 0 inb_S2048x2048_S256x2048_0_0)) X3 X4 X5 X6⟩]

/-- What the body stores into the block of the down weights. -/
def slabPieces (X7 : Vec F S128x2048 .f32) : List (View.Piece (Elt F) S128x2048 .bf16) :=
  [⟨Rect.unit (s := S128x2048) ![0, 0] S128x2048.size inb_S128x2048_S128x2048_0_0,
    k0_pay117 (View.ld (Val := Elt F) X7 (Rect.unit (s := S128x2048) ![0, 0] S128x2048.size inb_S128x2048_S128x2048_0_0))⟩]

/-- The rows the first half leaves for the block below. -/
def tailA (X0 : Vec F S2048x2048 .bf16) (X1 : Vec F S2048x512 .f32) : Vec F S1x1x8x512 .f32 :=
  k0_pay115 (k0_pay19 (wgt X1) (tok X0 1792 inb_S2048x2048_S256x2048_1792_0))

/-- The rows the second half leaves for the block below. -/
def tailG (X0 : Vec F S2048x2048 .bf16) (X2 : Vec F S2048x512 .f32) : Vec F S1x1x8x512 .f32 :=
  k0_pay115 (k0_pay19 (wgt X2) (tok X0 1792 inb_S2048x2048_S256x2048_1792_0))

set_option maxHeartbeats 2000000 in
/-- The result's pieces in the first row of the grid. -/
theorem upRunA_out (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S11x2x8x512 .f32) (harg12 : arg12.IsWhole) (hc : k0_cond1 i = 1#1)
    (x0 : Vec F S2048x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S128x2048 .f32) (xs : Vec F S11x2x8x512 .f32) :
    (upRunA c i arg2 harg2 arg3 harg3 arg4 harg4 arg5 harg5 arg6 harg6 arg7 harg7 arg8 harg8 arg9 harg9 arg10 harg10 arg11 harg11 arg12 harg12 hc x0 x1 x2 x3 x4 x5 x6 x7 xs).1
      = upPieces (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6))
          (arg12.view.readCov (upRunA.sl.HS_1 i hc) (Rect.unit (s := S11x2x8x512) (k0_off2 i) S1x1x8x512.size (k0_off2_inb i)).toLoadRect)
          (arg12.view.readCov (upRunA.sl.HS_1 i hc) (Rect.unit (s := S11x2x8x512) (k0_off3 i) S1x1x8x512.size (k0_off3_inb i)).toLoadRect) := rfl

set_option maxHeartbeats 2000000 in
/-- The slab's piece in the first row of the grid. -/
theorem upRunA_slab (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S11x2x8x512 .f32) (harg12 : arg12.IsWhole) (hc : k0_cond1 i = 1#1)
    (x0 : Vec F S2048x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S128x2048 .f32) (xs : Vec F S11x2x8x512 .f32) :
    (upRunA c i arg2 harg2 arg3 harg3 arg4 harg4 arg5 harg5 arg6 harg6 arg7 harg7 arg8 harg8 arg9 harg9 arg10 harg10 arg11 harg11 arg12 harg12 hc x0 x1 x2 x3 x4 x5 x6 x7 xs).2.1 = slabPieces (arg9.view.read (Elt F) (harg9.unread x7)) := rfl

set_option maxHeartbeats 2000000 in
/-- The scratch's pieces in the first row of the grid. -/
theorem upRunA_tail (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S11x2x8x512 .f32) (harg12 : arg12.IsWhole) (hc : k0_cond1 i = 1#1)
    (x0 : Vec F S2048x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S128x2048 .f32) (xs : Vec F S11x2x8x512 .f32) :
    (upRunA c i arg2 harg2 arg3 harg3 arg4 harg4 arg5 harg5 arg6 harg6 arg7 harg7 arg8 harg8 arg9 harg9 arg10 harg10 arg11 harg11 arg12 harg12 hc x0 x1 x2 x3 x4 x5 x6 x7 xs).2.2.1
      = ⟨Rect.unit (s := S11x2x8x512) (k0_off3 i) S1x1x8x512.size (k0_off3_inb i), tailG (arg2.view.read (Elt F) (harg2.unread x0)) (arg4.view.read (Elt F) (harg4.unread x2))⟩
        :: ⟨Rect.unit (s := S11x2x8x512) (k0_off2 i) S1x1x8x512.size (k0_off2_inb i), tailA (arg2.view.read (Elt F) (harg2.unread x0)) (arg3.view.read (Elt F) (harg3.unread x1))⟩ :: upRunA.sl.HS_1 i hc := rfl

set_option maxHeartbeats 2000000 in
/-- The result's pieces below the first row of the grid. -/
theorem upRunB_out (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S11x2x8x512 .f32) (harg12 : arg12.IsWhole) (hc : ¬ k0_cond1 i = 1#1)
    (x0 : Vec F S2048x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S128x2048 .f32) (xs : Vec F S11x2x8x512 .f32) :
    (upRunB c i arg2 harg2 arg3 harg3 arg4 harg4 arg5 harg5 arg6 harg6 arg7 harg7 arg8 harg8 arg9 harg9 arg10 harg10 arg11 harg11 arg12 harg12 hc x0 x1 x2 x3 x4 x5 x6 x7 xs).1
      = upPieces (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6))
          (View.readAt (Elt F) arg12.view (Rect.unit (s := S11x2x8x512) (k0_off2 i) S1x1x8x512.size (k0_off2_inb i)).toLoadRect (harg12.unread xs))
          (View.readAt (Elt F) arg12.view (Rect.unit (s := S11x2x8x512) (k0_off3 i) S1x1x8x512.size (k0_off3_inb i)).toLoadRect (harg12.unread xs)) := rfl

set_option maxHeartbeats 2000000 in
/-- The slab's piece below the first row of the grid. -/
theorem upRunB_slab (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S11x2x8x512 .f32) (harg12 : arg12.IsWhole) (hc : ¬ k0_cond1 i = 1#1)
    (x0 : Vec F S2048x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S128x2048 .f32) (xs : Vec F S11x2x8x512 .f32) :
    (upRunB c i arg2 harg2 arg3 harg3 arg4 harg4 arg5 harg5 arg6 harg6 arg7 harg7 arg8 harg8 arg9 harg9 arg10 harg10 arg11 harg11 arg12 harg12 hc x0 x1 x2 x3 x4 x5 x6 x7 xs).2.1 = slabPieces (arg9.view.read (Elt F) (harg9.unread x7)) := rfl

set_option maxHeartbeats 2000000 in
/-- The scratch's pieces below the first row of the grid. -/
theorem upRunB_tail (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S11x2x8x512 .f32) (harg12 : arg12.IsWhole) (hc : ¬ k0_cond1 i = 1#1)
    (x0 : Vec F S2048x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S128x2048 .f32) (xs : Vec F S11x2x8x512 .f32) :
    (upRunB c i arg2 harg2 arg3 harg3 arg4 harg4 arg5 harg5 arg6 harg6 arg7 harg7 arg8 harg8 arg9 harg9 arg10 harg10 arg11 harg11 arg12 harg12 hc x0 x1 x2 x3 x4 x5 x6 x7 xs).2.2.1
      = ⟨Rect.unit (s := S11x2x8x512) (k0_off3 i) S1x1x8x512.size (k0_off3_inb i), tailG (arg2.view.read (Elt F) (harg2.unread x0)) (arg4.view.read (Elt F) (harg4.unread x2))⟩
        :: ⟨Rect.unit (s := S11x2x8x512) (k0_off2 i) S1x1x8x512.size (k0_off2_inb i), tailA (arg2.view.read (Elt F) (harg2.unread x0)) (arg3.view.read (Elt F) (harg3.unread x1))⟩ :: [] := rfl

end Cert.Kernel2Ideal.Gen

end
-- ==== Proof.UpDats.lean ====
/- The up call's proof data: what each point leaves in its blocks, and what the scratch holds between points. -/
module

public import proofs.«01_k».proof.Proof.UpSpec
public import Idealize.ShloMosaic.Lib.Claim
public import Idealize.ShloMosaic.Lib.Ring
public import Idealize.ShloMosaic.Lib.UnfoldOut

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument array is found as launched, since no host operation writes it. -/
theorem V_arg (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne h))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds at every point the block that is fetched for that point, if the body leaves it there. -/
theorem before_of {c : Dev nD} (dat : Dat τ (Elt F) Unit ℕ (UR sig nD τ) ℕ cfg0 c) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (X : Fin cfg0.N → (cfg0.win w).block.Idx → Elt F (cfg0.win w).elt) (hX : ∀ t d, dat.fetched w t d = X t)
    (hafter : ∀ t, dat.after w t = X t) (t : Fin cfg0.N) (d) : dat.before w t d = X t :=
  (dat.before_in_eq_fetched w hw (fun _ => rfl) hclip
    (fun t => by rw [hafter, ← hX t (X t)]; exact (cfg0.win w).cut_fill _ _ _) t d).trans (hX t d)

/-! ## The scratch between points -/

theorem lt_N (t : Fin cfg0.N) : t.val < 44 := lt_of_lt_of_eq t.isLt (show cfg0.N = 44 from N_0)

/-- The point eleven before, in the same column of the grid and the row above it. -/
def above (t : Fin cfg0.N) : Fin cfg0.N := ⟨t.val - 11, lt_of_le_of_lt (Nat.sub_le _ _) t.isLt⟩

/-- The first half's 8 rows above point `t`'s block: zeros in the first row of the grid. -/
def prevA (c : Dev nD) (t : Fin cfg0.N) : Vec F S1x1x8x512 .f32 :=
  if t.val < 11 then fun _ => Scalar.ofBits .f32 0x00000000#32 else tailA (iblk m c 0 (above t)) (iblk m c 1 (above t))

/-- The second half's 8 rows above point `t`'s block. -/
def prevG (c : Dev nD) (t : Fin cfg0.N) : Vec F S1x1x8x512 .f32 :=
  if t.val < 11 then fun _ => Scalar.ofBits .f32 0x00000000#32 else tailG (iblk m c 0 (above t)) (iblk m c 2 (above t))

/-- The first half's slot of point `t` in the scratch, -/
abbrev slotA (t : Fin cfg0.N) (s : Vec F S11x2x8x512 .f32) : Vec F S1x1x8x512 .f32 :=
  VecWindow.window (s := S11x2x8x512) s (k0_off2 (grid0.coords t)) S1x1x8x512.size (k0_off2_inb (grid0.coords t))
/-- and the second half's. -/
abbrev slotG (t : Fin cfg0.N) (s : Vec F S11x2x8x512 .f32) : Vec F S1x1x8x512 .f32 :=
  VecWindow.window (s := S11x2x8x512) s (k0_off3 (grid0.coords t)) S1x1x8x512.size (k0_off3_inb (grid0.coords t))

/-- Before point `n` the scratch holds the last rows of each of the eleven points before it. -/
def Held (c : Dev nD) (n : ℕ) (s : Vec F S11x2x8x512 .f32) : Prop :=
  ∀ t : Fin cfg0.N, t.val < n → n ≤ t.val + 11 →
    slotA t s = tailA (iblk m c 0 t) (iblk m c 1 t) ∧ slotG t s = tailG (iblk m c 0 t) (iblk m c 2 t)

/-- The invariant before point `n`. -/
def PhiU (c : Dev nD) (n : ℕ) : sProp 𝕄 :=
  iprop((∃ s : Vec F S11x2x8x512 .f32, ⌜Held m c n s⌝ ∗ owns (c : Thread nD τ) (Memref.whole cc0_scratch0) fullShare s) ∗ ∃ r, prngReg c r)

/-! ## The proof data -/

/-- What point `t` leaves in the result's block. -/
def outU (c : Dev nD) (t : Fin cfg0.N) : Vec F S2048x512 .bf16 :=
  View.canon (upPieces (iblk m c 0 t) (iblk m c 1 t) (iblk m c 2 t) (iblk m c 3 t) (iblk m c 4 t) (iblk m c 5 t) (iblk m c 6 t) (prevA m c t) (prevG m c t))

/-- What point `t` leaves in the block of the down weights. -/
def outS (c : Dev nD) (t : Fin cfg0.N) : Vec F S128x2048 .bf16 := View.canon (slabPieces (iblk m c 7 t))

/-- Every row of the result's block is stored. -/
theorem cover_up (X0 : Vec F S2048x2048 .bf16) (X1 X2 : Vec F S2048x512 .f32) (X3 X4 : Vec F S3x512 .f32) (X5 X6 : Vec F S1x512 .f32)
    (pa pg : Vec F S1x1x8x512 .f32) (y : S2048x512.Idx) : ∃ p ∈ upPieces X0 X1 X2 X3 X4 X5 X6 pa pg, y ∈ p.1.set :=
  View.cover_of_tiled (upPieces X0 X1 X2 X3 X4 X5 X6 pa pg) S256x512.size (by rfl) y

theorem cover_slab (X7 : Vec F S128x2048 .f32) (y : S128x2048.Idx) : ∃ p ∈ slabPieces X7, y ∈ p.1.set :=
  View.cover_of_tiled (slabPieces X7) S128x2048.size (by rfl) y

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outU m c t
    | ⟨9, _⟩ => outS m c t
    | ⟨_ + 10, h⟩ => absurd h (Nat.not_lt.2 (Nat.le_add_left _ _))
  Φ t := PhiU m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outU m c t := by dsimp only [dats]
theorem after0_9 (c : Dev nD) (t : Fin cfg0.N) : (dats m 0 c).after 9 t = outS m c t := by dsimp only [dats]
theorem before0_0 (c : Dev nD) (t : Fin cfg0.N) (d) : (dats m 0 c).before 0 t d = iblk m c 0 t :=
  before_of (dats m 0 c) 0 rfl (fun _ _ _ => rfl) (fun t => iblk m c 0 t) (fun _ _ => rfl) (after0_0 m c) t d
theorem before0_1 (c : Dev nD) (t : Fin cfg0.N) (d) : (dats m 0 c).before 1 t d = iblk m c 1 t :=
  before_of (dats m 0 c) 1 rfl (fun _ _ _ => rfl) (fun t => iblk m c 1 t) (fun _ _ => rfl) (after0_1 m c) t d
theorem before0_2 (c : Dev nD) (t : Fin cfg0.N) (d) : (dats m 0 c).before 2 t d = iblk m c 2 t :=
  before_of (dats m 0 c) 2 rfl (fun _ _ _ => rfl) (fun t => iblk m c 2 t) (fun _ _ => rfl) (after0_2 m c) t d
theorem before0_3 (c : Dev nD) (t : Fin cfg0.N) (d) : (dats m 0 c).before 3 t d = iblk m c 3 t :=
  before_of (dats m 0 c) 3 rfl (fun _ _ _ => rfl) (fun t => iblk m c 3 t) (fun _ _ => rfl) (after0_3 m c) t d
theorem before0_4 (c : Dev nD) (t : Fin cfg0.N) (d) : (dats m 0 c).before 4 t d = iblk m c 4 t :=
  before_of (dats m 0 c) 4 rfl (fun _ _ _ => rfl) (fun t => iblk m c 4 t) (fun _ _ => rfl) (after0_4 m c) t d
theorem before0_5 (c : Dev nD) (t : Fin cfg0.N) (d) : (dats m 0 c).before 5 t d = iblk m c 5 t :=
  before_of (dats m 0 c) 5 rfl (fun _ _ _ => rfl) (fun t => iblk m c 5 t) (fun _ _ => rfl) (after0_5 m c) t d
theorem before0_6 (c : Dev nD) (t : Fin cfg0.N) (d) : (dats m 0 c).before 6 t d = iblk m c 6 t :=
  before_of (dats m 0 c) 6 rfl (fun _ _ _ => rfl) (fun t => iblk m c 6 t) (fun _ _ => rfl) (after0_6 m c) t d
theorem before0_7 (c : Dev nD) (t : Fin cfg0.N) (d) : (dats m 0 c).before 7 t d = iblk m c 7 t :=
  before_of (dats m 0 c) 7 rfl (fun _ _ _ => rfl) (fun t => iblk m c 7 t) (fun _ _ => rfl) (after0_7 m c) t d

/-! ## One point's step on the scratch -/

/-- The first row of the grid is its first eleven points. -/
theorem first_row : ∀ t : Fin cfg0.N, k0_cond1 (grid0.coords t) = 1#1 ↔ t.val < 11 :=
  (by decide +kernel : ∀ t : Fin grid0.N, k0_cond1 (grid0.coords t) = 1#1 ↔ t.val < 11)

theorem off1_eq : ∀ t : Fin cfg0.N, k0_off1 (grid0.coords t) = ![t.val % 11, 0, 0, 0] :=
  (by decide +kernel : ∀ t : Fin grid0.N, k0_off1 (grid0.coords t) = ![t.val % 11, 0, 0, 0])
theorem off2_eq : ∀ t : Fin cfg0.N, k0_off2 (grid0.coords t) = ![t.val % 11, 0, 0, 0] :=
  (by decide +kernel : ∀ t : Fin grid0.N, k0_off2 (grid0.coords t) = ![t.val % 11, 0, 0, 0])
theorem off3_eq : ∀ t : Fin cfg0.N, k0_off3 (grid0.coords t) = ![t.val % 11, 1, 0, 0] :=
  (by decide +kernel : ∀ t : Fin grid0.N, k0_off3 (grid0.coords t) = ![t.val % 11, 1, 0, 0])

/-- The scratch after point `t`, having held `s`. -/
def stepS (t : Fin cfg0.N) (s : Vec F S11x2x8x512 .f32) (a g : Vec F S1x1x8x512 .f32) : Vec F S11x2x8x512 .f32 :=
  VecWindow.put (s := S11x2x8x512) (VecWindow.put (s := S11x2x8x512) s (k0_off2 (grid0.coords t)) S1x1x8x512.size a) (k0_off3 (grid0.coords t)) S1x1x8x512.size g

theorem slot_step (t : Fin cfg0.N) (s : Vec F S11x2x8x512 .f32) (a g : Vec F S1x1x8x512 .f32) :
    slotA t (stepS t s a g) = a ∧ slotG t (stepS t s a g) = g := by
  constructor
  · unfold slotA stepS
    rw [VecWindow.window_put_of_disjoint (s := S11x2x8x512) _ _ _ _ _ _ _ (1 : Fin 4) (Or.inl (by rw [off2_eq, off3_eq]; exact Nat.le_refl 1))]
    exact VecWindow.window_put_same _ _ _ _ _
  · exact VecWindow.window_put_same _ _ _ _ _

theorem slot_other (t u : Fin cfg0.N) (h : t.val % 11 ≠ u.val % 11) (s : Vec F S11x2x8x512 .f32) (a g : Vec F S1x1x8x512 .f32) :
    slotA u (stepS t s a g) = slotA u s ∧ slotG u (stepS t s a g) = slotG u s := by
  have key : ∀ (x y : ℕ), x ≠ y → (y + 1 ≤ x ∨ x + 1 ≤ y) := fun x y h => by omega
  constructor
  · unfold slotA stepS
    rw [VecWindow.window_put_of_disjoint (s := S11x2x8x512) _ _ _ _ _ _ _ (0 : Fin 4) (by rw [off2_eq, off3_eq]; exact key _ _ h),
      VecWindow.window_put_of_disjoint (s := S11x2x8x512) _ _ _ _ _ _ _ (0 : Fin 4) (by rw [off2_eq, off2_eq]; exact key _ _ h)]
  · unfold slotG stepS
    rw [VecWindow.window_put_of_disjoint (s := S11x2x8x512) _ _ _ _ _ _ _ (0 : Fin 4) (by rw [off3_eq, off3_eq]; exact key _ _ h),
      VecWindow.window_put_of_disjoint (s := S11x2x8x512) _ _ _ _ _ _ _ (0 : Fin 4) (by rw [off3_eq, off2_eq]; exact key _ _ h)]

/-- The zeroing of point `t`'s two slots. -/
def zeroS (t : Fin cfg0.N) (s : Vec F S11x2x8x512 .f32) : Vec F S11x2x8x512 .f32 :=
  VecWindow.put (s := S11x2x8x512) s (k0_off1 (grid0.coords t)) S1x2x8x512.size k0_pay1

theorem zero_other (t u : Fin cfg0.N) (h : t.val % 11 ≠ u.val % 11) (s : Vec F S11x2x8x512 .f32) :
    slotA u (zeroS t s) = slotA u s ∧ slotG u (zeroS t s) = slotG u s := by
  have key : ∀ (x y : ℕ), x ≠ y → (y + 1 ≤ x ∨ x + 1 ≤ y) := fun x y h => by omega
  constructor
  · unfold slotA zeroS
    rw [VecWindow.window_put_of_disjoint (s := S11x2x8x512) _ _ _ _ _ _ _ (0 : Fin 4) (by rw [off2_eq, off1_eq]; exact key _ _ h)]
  · unfold slotG zeroS
    rw [VecWindow.window_put_of_disjoint (s := S11x2x8x512) _ _ _ _ _ _ _ (0 : Fin 4) (by rw [off3_eq, off1_eq]; exact key _ _ h)]

/-- What the two slots read right after the zeroing. -/
theorem zero_slot (t : Fin cfg0.N) (s : Vec F S11x2x8x512 .f32) :
    (slotA t (zeroS t s) = fun _ => Scalar.ofBits .f32 0x00000000#32) ∧ (slotG t (zeroS t s) = fun _ => Scalar.ofBits .f32 0x00000000#32) := by
  constructor
  · unfold slotA zeroS
    rw [VecWindow.window_put_of_inside (s := S11x2x8x512) _ _ _ _ _ _ _ (by rw [off2_eq, off1_eq]; intro a; fin_cases a <;> simp)]
    rfl
  · unfold slotG zeroS
    rw [VecWindow.window_put_of_inside (s := S11x2x8x512) _ _ _ _ _ _ _ (by rw [off3_eq, off1_eq]; intro a; fin_cases a <;> simp)]
    rfl

/-- The invariant's step, below the first row: nothing but the point's own slots changes. -/
theorem held_step (c : Dev nD) (t : Fin cfg0.N) (s : Vec F S11x2x8x512 .f32) (h : Held m c t.val s) :
    Held m c (t.val + 1) (stepS t s (tailA (iblk m c 0 t) (iblk m c 1 t)) (tailG (iblk m c 0 t) (iblk m c 2 t))) := by
  intro u h1 h2
  by_cases e : u = t
  · subst e; exact slot_step _ _ _ _
  · have hne : u.val ≠ t.val := fun h => e (Fin.ext h)
    obtain ⟨ha, hg⟩ := slot_other t u (by omega) s (tailA (iblk m c 0 t) (iblk m c 1 t)) (tailG (iblk m c 0 t) (iblk m c 2 t))
    rw [ha, hg]
    exact h u (by omega) (by omega)

/-- The same in the first row, where the slots are zeroed before. -/
theorem held_zero (c : Dev nD) (t : Fin cfg0.N) (s : Vec F S11x2x8x512 .f32) (h : Held m c t.val s) :
    Held m c (t.val + 1) (stepS t (zeroS t s) (tailA (iblk m c 0 t) (iblk m c 1 t)) (tailG (iblk m c 0 t) (iblk m c 2 t))) := by
  intro u h1 h2
  by_cases e : u = t
  · subst e; exact slot_step _ _ _ _
  · have hne : u.val ≠ t.val := fun h => e (Fin.ext h)
    obtain ⟨ha, hg⟩ := slot_other t u (by omega) (zeroS t s) (tailA (iblk m c 0 t) (iblk m c 1 t)) (tailG (iblk m c 0 t) (iblk m c 2 t))
    obtain ⟨ha', hg'⟩ := zero_other t u (by omega) s
    rw [ha, hg, ha', hg']
    exact h u (by omega) (by omega)

theorem window_off (s : Vec F S11x2x8x512 .f32) {o o' : Fin 4 → ℕ} (e : o = o') (h : ∀ a, o a + S1x1x8x512.size a ≤ S11x2x8x512.size a)
    (h' : ∀ a, o' a + S1x1x8x512.size a ≤ S11x2x8x512.size a) :
    VecWindow.window (s := S11x2x8x512) s o S1x1x8x512.size h = VecWindow.window (s := S11x2x8x512) s o' S1x1x8x512.size h' := by
  subst e; rfl

/-- What a point below the first row finds in its slots. -/
theorem held_prev (c : Dev nD) (t : Fin cfg0.N) (s : Vec F S11x2x8x512 .f32) (h : Held m c t.val s) (ht : ¬ t.val < 11) :
    slotA t s = prevA m c t ∧ slotG t s = prevG m c t := by
  have hv : (above t).val = t.val - 11 := rfl
  obtain ⟨ha, hg⟩ := h (above t) (by omega) (by omega)
  have e2 : k0_off2 (grid0.coords (above t)) = k0_off2 (grid0.coords t) := by
    rw [off2_eq, off2_eq, hv, show (t.val - 11) % 11 = t.val % 11 by omega]
  have e3 : k0_off3 (grid0.coords (above t)) = k0_off3 (grid0.coords t) := by
    rw [off3_eq, off3_eq, hv, show (t.val - 11) % 11 = t.val % 11 by omega]
  unfold prevA prevG
  rw [if_neg ht, if_neg ht, ← ha, ← hg]
  unfold slotA slotG
  constructor
  · exact window_off s e2.symm _ _
  · exact window_off s e3.symm _ _

end Cert.Kernel2Ideal.Gen

end
-- ==== Proof.UpFrame.lean ====
/- The up call's frame: its body at every point, its run, and its arguments unchanged. -/
module

public import proofs.«01_k».proof.Proof.UpDats

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the runs' pieces leave -/

/-- The staging buffers of point `t`, whole. -/
theorem hst0_0 (t : Fin cfg0.N) : (st0_0 t).IsWhole := hstage0_0 ((cfg0.slots t 0).cast nbuf0_0)
theorem hst0_1 (t : Fin cfg0.N) : (st0_1 t).IsWhole := hstage0_1 ((cfg0.slots t 1).cast nbuf0_1)
theorem hst0_2 (t : Fin cfg0.N) : (st0_2 t).IsWhole := hstage0_2 ((cfg0.slots t 2).cast nbuf0_2)
theorem hst0_3 (t : Fin cfg0.N) : (st0_3 t).IsWhole := hstage0_3 ((cfg0.slots t 3).cast nbuf0_3)
theorem hst0_4 (t : Fin cfg0.N) : (st0_4 t).IsWhole := hstage0_4 ((cfg0.slots t 4).cast nbuf0_4)
theorem hst0_5 (t : Fin cfg0.N) : (st0_5 t).IsWhole := hstage0_5 ((cfg0.slots t 5).cast nbuf0_5)
theorem hst0_6 (t : Fin cfg0.N) : (st0_6 t).IsWhole := hstage0_6 ((cfg0.slots t 6).cast nbuf0_6)
theorem hst0_7 (t : Fin cfg0.N) : (st0_7 t).IsWhole := hstage0_7 ((cfg0.slots t 7).cast nbuf0_7)
theorem hst0_8 (t : Fin cfg0.N) : (st0_8 t).IsWhole := hstage0_8 ((cfg0.slots t 8).cast nbuf0_8)
theorem hst0_9 (t : Fin cfg0.N) : (st0_9 t).IsWhole := hstage0_9 ((cfg0.slots t 9).cast nbuf0_9)

variable (arg12 : Memref sig .tc .vmem S11x2x8x512 .f32) (harg12 : arg12.IsWhole)

/-- What the scratch holds after two slots are stored over what `L` left. -/
theorem read_step (t : Fin cfg0.N) (f : arg12.view.ty.Contents (Elt F)) (a g : Vec F S1x1x8x512 .f32) (L : List (View.Piece (Elt F) S11x2x8x512 .f32)) :
    arg12.view.read (Elt F) (arg12.view.writes (Elt F) f
      (⟨Rect.unit (s := S11x2x8x512) (k0_off3 (grid0.coords t)) S1x1x8x512.size (k0_off3_inb (grid0.coords t)), g⟩
        :: ⟨Rect.unit (s := S11x2x8x512) (k0_off2 (grid0.coords t)) S1x1x8x512.size (k0_off2_inb (grid0.coords t)), a⟩ :: L))
      = stepS t (arg12.view.read (Elt F) (arg12.view.writes (Elt F) f L)) a g := by
  rw [View.read_writes_cons_put _ _ _ _ _ rfl, View.read_writes_cons_put _ _ _ _ _ rfl]
  rfl

/-- What the scratch holds after point `t`'s slots are zeroed. -/
theorem read_zero (t : Fin cfg0.N) (hc : k0_cond1 (grid0.coords t) = 1#1) (f : arg12.view.ty.Contents (Elt F)) :
    arg12.view.read (Elt F) (arg12.view.writes (Elt F) f (upRunA.sl.HS_1 (grid0.coords t) hc)) = zeroS t (arg12.view.read (Elt F) f) := by
  unfold upRunA.sl.HS_1
  rw [View.read_writes_cons_put _ _ _ _ _ rfl, View.writes_nil]
  rfl

/-- The first half's rows read in the first row of the grid, -/
theorem cov_A (t : Fin cfg0.N) (hc : k0_cond1 (grid0.coords t) = 1#1) :
    arg12.view.readCov (Val := Elt F) (upRunA.sl.HS_1 (grid0.coords t) hc) (Rect.unit (s := S11x2x8x512) (k0_off2 (grid0.coords t)) S1x1x8x512.size (k0_off2_inb (grid0.coords t))).toLoadRect
      = fun _ => Scalar.ofBits .f32 0x00000000#32 := by
  unfold View.readCov
  rw [View.readAt_unit _ _ _ rfl (k0_off2_inb (grid0.coords t)), read_zero]
  exact (zero_slot t _).1

/-- and the second half's. -/
theorem cov_G (t : Fin cfg0.N) (hc : k0_cond1 (grid0.coords t) = 1#1) :
    arg12.view.readCov (Val := Elt F) (upRunA.sl.HS_1 (grid0.coords t) hc) (Rect.unit (s := S11x2x8x512) (k0_off3 (grid0.coords t)) S1x1x8x512.size (k0_off3_inb (grid0.coords t))).toLoadRect
      = fun _ => Scalar.ofBits .f32 0x00000000#32 := by
  unfold View.readCov
  rw [View.readAt_unit _ _ _ rfl (k0_off3_inb (grid0.coords t)), read_zero]
  exact (zero_slot t _).2

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body in the first row of the grid. -/
theorem sound_body_A (c : Dev nD) (t : Fin cfg0.N) (hc : k0_cond1 (grid0.coords t) = 1#1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    after0_0, after0_1, after0_2, after0_3, after0_4, after0_5, after0_6, after0_7, after0_8, after0_9]
  rw [show (dats m 0 c).Φ t.castSucc = PhiU m c t.val from rfl, show (dats m 0 c).Φ t.succ = PhiU m c (t.val + 1) from rfl,
    show (dats m 0 c).owesAt () t.succ = (dats m 0 c).owesAt () t.castSucc from rfl]
  unfold PhiU
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e8 : (upRunA c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) (Memref.whole cc0_scratch0) (Memref.isWhole_whole _) hc (iblk m c 0 t) (iblk m c 1 t) (iblk m c 2 t) (iblk m c 3 t) (iblk m c 4 t) (iblk m c 5 t) (iblk m c 6 t) (iblk m c 7 t) s).1
      = upPieces (iblk m c 0 t) (iblk m c 1 t) (iblk m c 2 t) (iblk m c 3 t) (iblk m c 4 t) (iblk m c 5 t) (iblk m c 6 t) (prevA m c t) (prevG m c t) := by
    rw [upRunA_out]
    rw [cov_A, cov_G]
    simp only [Memref.IsWhole.read_unread]
    unfold prevA prevG
    rw [if_pos ((first_row t).mp hc), if_pos ((first_row t).mp hc)]
    rfl
  have e9 : (upRunA c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) (Memref.whole cc0_scratch0) (Memref.isWhole_whole _) hc (iblk m c 0 t) (iblk m c 1 t) (iblk m c 2 t) (iblk m c 3 t) (iblk m c 4 t) (iblk m c 5 t) (iblk m c 6 t) (iblk m c 7 t) s).2.1 = slabPieces (iblk m c 7 t) := by
    rw [upRunA_slab]
    simp only [Memref.IsWhole.read_unread]
  have eS : (Memref.whole cc0_scratch0).view.read (Elt F) ((Memref.whole cc0_scratch0).view.writes (Elt F) ((Memref.isWhole_whole cc0_scratch0).unread s)
        (upRunA c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) (Memref.whole cc0_scratch0) (Memref.isWhole_whole _) hc (iblk m c 0 t) (iblk m c 1 t) (iblk m c 2 t) (iblk m c 3 t) (iblk m c 4 t) (iblk m c 5 t) (iblk m c 6 t) (iblk m c 7 t) s).2.2.1)
      = stepS t (zeroS t s) (tailA (iblk m c 0 t) (iblk m c 1 t)) (tailG (iblk m c 0 t) (iblk m c 2 t)) := by
    rw [upRunA_tail, read_step, read_zero, Memref.IsWhole.read_unread (Memref.isWhole_whole cc0_scratch0)]
    simp only [Memref.IsWhole.read_unread]
  iapply ((upRunA c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) (Memref.whole cc0_scratch0) (Memref.isWhole_whole _) hc (iblk m c 0 t) (iblk m c 1 t) (iblk m c 2 t) (iblk m c 3 t) (iblk m c 4 t) (iblk m c 5 t) (iblk m c 6 t) (iblk m c 7 t) s).2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS]; · iexact HS
  iintro ⟨H0, H1, H2, H3, H4, H5, H6, H7, ⟨%f8, H8⟩, ⟨%f9, H9⟩, HS⟩
  isplitl [HS Hg]
  · isplitl [HS]
    · iexists _; isplitr
      · ipureintro; exact held_zero m c t s hs
      unfold owns; iexists _; isplitr
      swap; · iexact HS
      ipureintro; exact eS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [e8]; exact View.read_writes_eq_canon _ _ _ (cover_up _ _ _ _ _ _ _ _ _)
  unfold owns; iexists _; isplitr
  swap; · iexact H9
  ipureintro; rw [e9]; exact View.read_writes_eq_canon _ _ _ (cover_slab _)

set_option maxHeartbeats 2000000 in
/-- The body below the first row of the grid. -/
theorem sound_body_B (c : Dev nD) (t : Fin cfg0.N) (hc : ¬ k0_cond1 (grid0.coords t) = 1#1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    after0_0, after0_1, after0_2, after0_3, after0_4, after0_5, after0_6, after0_7, after0_8, after0_9]
  rw [show (dats m 0 c).Φ t.castSucc = PhiU m c t.val from rfl, show (dats m 0 c).Φ t.succ = PhiU m c (t.val + 1) from rfl,
    show (dats m 0 c).owesAt () t.succ = (dats m 0 c).owesAt () t.castSucc from rfl]
  unfold PhiU
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e8 : (upRunB c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) (Memref.whole cc0_scratch0) (Memref.isWhole_whole _) hc (iblk m c 0 t) (iblk m c 1 t) (iblk m c 2 t) (iblk m c 3 t) (iblk m c 4 t) (iblk m c 5 t) (iblk m c 6 t) (iblk m c 7 t) s).1
      = upPieces (iblk m c 0 t) (iblk m c 1 t) (iblk m c 2 t) (iblk m c 3 t) (iblk m c 4 t) (iblk m c 5 t) (iblk m c 6 t) (prevA m c t) (prevG m c t) := by
    rw [upRunB_out]
    rw [View.readAt_unit _ _ _ rfl (k0_off2_inb (grid0.coords t)), View.readAt_unit _ _ _ rfl (k0_off3_inb (grid0.coords t)), Memref.IsWhole.read_unread (Memref.isWhole_whole cc0_scratch0)]
    simp only [Memref.IsWhole.read_unread]
    obtain ⟨ha, hg⟩ := held_prev m c t s hs (fun h => hc ((first_row t).mpr h))
    rw [← ha, ← hg]
  have e9 : (upRunB c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) (Memref.whole cc0_scratch0) (Memref.isWhole_whole _) hc (iblk m c 0 t) (iblk m c 1 t) (iblk m c 2 t) (iblk m c 3 t) (iblk m c 4 t) (iblk m c 5 t) (iblk m c 6 t) (iblk m c 7 t) s).2.1 = slabPieces (iblk m c 7 t) := by
    rw [upRunB_slab]
    simp only [Memref.IsWhole.read_unread]
  have eS : (Memref.whole cc0_scratch0).view.read (Elt F) ((Memref.whole cc0_scratch0).view.writes (Elt F) ((Memref.isWhole_whole cc0_scratch0).unread s)
        (upRunB c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) (Memref.whole cc0_scratch0) (Memref.isWhole_whole _) hc (iblk m c 0 t) (iblk m c 1 t) (iblk m c 2 t) (iblk m c 3 t) (iblk m c 4 t) (iblk m c 5 t) (iblk m c 6 t) (iblk m c 7 t) s).2.2.1)
      = stepS t (s) (tailA (iblk m c 0 t) (iblk m c 1 t)) (tailG (iblk m c 0 t) (iblk m c 2 t)) := by
    rw [upRunB_tail, read_step, View.writes_nil, Memref.IsWhole.read_unread (Memref.isWhole_whole cc0_scratch0)]
    simp only [Memref.IsWhole.read_unread]
  iapply ((upRunB c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) (Memref.whole cc0_scratch0) (Memref.isWhole_whole _) hc (iblk m c 0 t) (iblk m c 1 t) (iblk m c 2 t) (iblk m c 3 t) (iblk m c 4 t) (iblk m c 5 t) (iblk m c 6 t) (iblk m c 7 t) s).2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS]; · iexact HS
  iintro ⟨H0, H1, H2, H3, H4, H5, H6, H7, ⟨%f8, H8⟩, ⟨%f9, H9⟩, HS⟩
  isplitl [HS Hg]
  · isplitl [HS]
    · iexists _; isplitr
      · ipureintro; exact held_step m c t s hs
      unfold owns; iexists _; isplitr
      swap; · iexact HS
      ipureintro; exact eS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [e8]; exact View.read_writes_eq_canon _ _ _ (cover_up _ _ _ _ _ _ _ _ _)
  unfold owns; iexists _; isplitr
  swap; · iexact H9
  ipureintro; rw [e9]; exact View.read_writes_eq_canon _ _ _ (cover_slab _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hc : k0_cond1 (grid0.coords t) = 1#1
  · exact sound_body_A m c t hc
  · exact sound_body_B m c t hc

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  rw [show (dats m 0 c).Φ 0 = PhiU m c 0 from rfl]
  unfold Pipeline.ΦA PhiU
  rw [scopedRest0_eq]
  simp only [owns_whole]
  iintro ⟨⟨%f, HS⟩, Hg⟩
  isplitl [HS]
  · iexists f; isplitr
    · ipureintro; exact fun t h => absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = PhiU m c cfg0.N from rfl]
  unfold Pipeline.ΦA PhiU
  rw [scopedRest0_eq]
  simp only [owns_whole]
  iintro ⟨⟨%s, -, HS⟩, Hg⟩
  isplitl [HS]
  · iexists s; iexact HS
  iexact Hg

set_option backward.isDefEq.respectTransparency.types false in
set_option maxHeartbeats 800000 in
/-- The launch: what the arrays hold at every final state, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_arg m c main_arg0 (by decide)))),
      ((h c).1 1).trans (((dats m 0 c).arrAt_in 1 rfl _).trans ((A_eq m c 1).trans (V_arg m c main_arg1 (by decide)))),
      ((h c).1 3).trans (((dats m 0 c).arrAt_in 3 rfl _).trans ((A_eq m c 3).trans (V_arg m c main_arg2 (by decide)))),
      ((h c).2 main_arg3 (Pipeline.mem_restRefs_of main_arg3 (by decide) (by decide))).trans (V_arg m c main_arg3 (by decide)),
      ((h c).1 7).trans (((dats m 0 c).arrAt_in 7 rfl _).trans ((A_eq m c 7).trans (V_arg m c main_arg4 (by decide))))⟩) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Gen

end
-- ==== Proof.UpFrames.lean ====
module

public import proofs.«01_k».proof.Defs
public import proofs.«01_k».proof.Proof.Gen.Kernel2
public import proofs.«01_k».proof.Proof.UpFrame

/-!
The up call is printed twice, at the machine's floats and at the ideal ones; the two texts differ in one constant, which
the first text spells as a word and the second by name. Read with the name standing for the word, the second text is the
first, and the run proved under it is the run at the machine's floats.
-/

@[expose] public section
set_option maxRecDepth 16384
set_option maxHeartbeats 2000000
noncomputable section
open Idealize.ShloMosaic Idealize.ShloMosaic.TcCoe Idealize.SL.Sem

namespace Layer

/-- At the machine's floats a named constant is the word it was printed from. -/
abbrev wordOf : Named Bits := ⟨fun _ _ _ bits => FloatOps.ofBits _ bits⟩

/-- The up call's body is the same under both texts. -/
theorem up_body : Cert.Kernel2.defs₀ (F := Bits) = @Cert.Kernel2Ideal.defs₀ Bits _ wordOf _ := by
  unfold Cert.Kernel2.defs₀ Cert.Kernel2Ideal.defs₀
  refine congrArg (Defs.onTc (Λ := Cert.Kernel2.Λ₀)) ?_
  funext l a
  match l, a with
  | 0, (t, s) => rfl

/-- The up program's label table is the same under both texts. -/
theorem up_defs : Cert.Kernel2.defs (F := Bits) = @Cert.Kernel2Ideal.defs Bits _ wordOf _ := by
  unfold Cert.Kernel2.defs Cert.Kernel2Ideal.defs
  exact congrArg (Pipeline.defs (Cert.Kernel2.pcfgs (F := Bits))) up_body

/-- The up program at the machine's floats ends, leaves its arguments as they were and every counter at zero. -/
theorem frame_up : Cert.quiescent_Kernel2 := fun m ρ _ => by
  have h := @Cert.Kernel2Ideal.Gen.frame Bits _ wordOf m ρ
  rw [← up_defs] at h
  exact h

end Layer

end
-- ==== Proof.Common.lean ====
/- Facts the calls' proofs share: a literal word as its rational, a mean as a product, a long sum as a sum over equal strips,
   and reads of a buffer stored whole over earlier stores. -/
module

public import Idealize.ShloMosaic.Lib.Pipeline.ValueKit
public import Idealize.ShloMosaic.Lib.Pipeline.ReadBack
public import Idealize.ShloMosaic.Lib.IdealHost

@[expose] public section

set_option maxRecDepth 16384

noncomputable section

open Idealize.ShloMosaic

namespace Layer

/-- The float word of 2048 is the number 2048. -/
theorem word_2048 : Ideal.ofBits .f32 0x45000000#32 = ((2048 : ℝ) : EReal) := by
  simp [Ideal.ofBits, Ideal.ieee, -EReal.coe_mul]
  norm_num

/-- The float word of one part in 2048 is that fraction. -/
theorem word_inv_2048 : Ideal.ofBits .f32 0x3A000000#32 = ((1 / 2048 : ℝ) : EReal) := by
  simp [Ideal.ofBits, Ideal.ieee, -EReal.coe_mul]
  norm_num

/-- A mean over 2048 entries is their sum times one part in 2048, at the infinities too. -/
theorem mean_2048 (x : EReal) :
    Ideal.div x (Ideal.ofBits .f32 0x45000000#32) = x * Ideal.ofBits .f32 0x3A000000#32 := by
  rw [word_2048, word_inv_2048, Ideal.div_coe (by norm_num)]

/-- A sum over 2048 columns, strip by strip of 512. -/
theorem sum_strips {M : Type} [AddCommMonoid M] (f : Fin 2048 → M) :
    ∑ k, f k = ∑ k : Fin 512, f ⟨k, by omega⟩ + ∑ k : Fin 512, f ⟨512 + k, by omega⟩
      + ∑ k : Fin 512, f ⟨1024 + k, by omega⟩ + ∑ k : Fin 512, f ⟨1536 + k, by omega⟩ := by
  have e := Fin.sum_univ_add (a := 512 + 512 + 512) (b := 512) f
  have e1 := Fin.sum_univ_add (a := 512 + 512) (b := 512) fun k => f (Fin.castAdd 512 k)
  have e2 := Fin.sum_univ_add (a := 512) (b := 512) fun k => f (Fin.castAdd 512 (Fin.castAdd 512 k))
  rw [e, e1, e2]
  rfl

variable {Val : EltTy → Type} [∀ e, Nonempty (Val e)] {s : Shape} {e : EltTy}

/-- What a buffer stored piece by piece holds where the last store reaches. -/
theorem canon_here {off size : Fin s.rank → ℕ} {inb} {w : (Rect.unit off size inb).shape.Idx → Val e}
    {L : List (View.Piece Val s e)} {y : s.Idx} (x : (Rect.unit off size inb).shape.Idx) (h : ∀ a, (y a : ℕ) = off a + x a) :
    View.canon (⟨Rect.unit off size inb, w⟩ :: L) y = w x := by
  have hy : y = (Rect.unit off size inb).emb x := funext fun a => Fin.ext <| by
    rw [h a]
    show off a + (x a : ℕ) = off a + 1 * (x a : ℕ)
    omega
  rw [hy]
  exact View.canon_cons_emb _ _ _ _

/-- What a buffer stored piece by piece holds where the last store does not reach. -/
theorem canon_past {off size : Fin s.rank → ℕ} {inb} {w : (Rect.unit off size inb).shape.Idx → Val e}
    {L : List (View.Piece Val s e)} {y : s.Idx} (a : Fin s.rank) (h : ¬(off a ≤ y a ∧ (y a : ℕ) < off a + size a)) :
    View.canon (⟨Rect.unit off size inb, w⟩ :: L) y = View.canon L y :=
  View.canon_cons_of_not_mem _ _ fun hh => h ((Rect.mem_set_unit (inb := inb)).mp hh a)

/-- `canon_past` by the rows of a matrix. -/
theorem past0 {n0 n1 : ℕ} {off size : Fin 2 → ℕ} {inb} {w : (Rect.unit (s := ⟨2, ![n0, n1]⟩) off size inb).shape.Idx → Val e}
    {L : List (View.Piece Val ⟨2, ![n0, n1]⟩ e)} {y : (⟨2, ![n0, n1]⟩ : Shape).Idx} (h : ¬(off 0 ≤ y 0 ∧ (y 0 : ℕ) < off 0 + size 0)) :
    View.canon (⟨Rect.unit (s := ⟨2, ![n0, n1]⟩) off size inb, w⟩ :: L) y = View.canon L y := canon_past (s := ⟨2, ![n0, n1]⟩) 0 h

/-- `canon_past` by the columns of a matrix. -/
theorem past1 {n0 n1 : ℕ} {off size : Fin 2 → ℕ} {inb} {w : (Rect.unit (s := ⟨2, ![n0, n1]⟩) off size inb).shape.Idx → Val e}
    {L : List (View.Piece Val ⟨2, ![n0, n1]⟩ e)} {y : (⟨2, ![n0, n1]⟩ : Shape).Idx} (h : ¬(off 1 ≤ y 1 ∧ (y 1 : ℕ) < off 1 + size 1)) :
    View.canon (⟨Rect.unit (s := ⟨2, ![n0, n1]⟩) off size inb, w⟩ :: L) y = View.canon L y := canon_past (s := ⟨2, ![n0, n1]⟩) 1 h

/-- `canon_here` for a matrix, the two offsets written out. -/
theorem here2 {n0 n1 m0 m1 o0 o1 : ℕ} {inb} {w : (Rect.unit (s := ⟨2, ![n0, n1]⟩) ![o0, o1] ![m0, m1] inb).shape.Idx → Val e}
    {L : List (View.Piece Val ⟨2, ![n0, n1]⟩ e)} {y : (⟨2, ![n0, n1]⟩ : Shape).Idx} (x0 : Fin m0) (x1 : Fin m1)
    (h0 : (y 0 : ℕ) = o0 + x0) (h1 : (y 1 : ℕ) = o1 + x1) :
    View.canon (⟨Rect.unit (s := ⟨2, ![n0, n1]⟩) ![o0, o1] ![m0, m1] inb, w⟩ :: L) y = w (ix2 x0 x1) :=
  canon_here (s := ⟨2, ![n0, n1]⟩) (ix2 x0 x1) fun a => match a with
    | ⟨0, _⟩ => h0
    | ⟨1, _⟩ => h1

end Layer
-- ==== Proof.Act.lean ====
/- The activations of the calls: the one formula the kernel evaluates, with the constants of a column's class, is the tanh-GELU,
   the identity or the logistic function, at every extended real. -/
module

public import proofs.«01_k».proof.Proof.Common
public import Mathlib.Analysis.SpecialFunctions.Trigonometric.DerivHyp

@[expose] public section

noncomputable section

open Idealize.ShloMosaic

namespace Layer

/-- The float word of one. -/
theorem word_one : Ideal.ofBits .f32 0x3F800000#32 = ((1 : ℝ) : EReal) := by
  simp [Ideal.ofBits, Ideal.ieee, -EReal.coe_mul]
  norm_num

/-- The float word of a half. -/
theorem word_half : Ideal.ofBits .f32 0x3F000000#32 = ((1 / 2 : ℝ) : EReal) := by
  simp [Ideal.ofBits, Ideal.ieee, -EReal.coe_mul]
  norm_num

/-- The float word of zero. -/
theorem word_zero : Ideal.ofBits .f32 0x00000000#32 = 0 := by
  simp [Ideal.ofBits, Ideal.ieee, -EReal.coe_mul]

/-- The GELU's outer constant as its rational. -/
theorem word_c0 : Ideal.ofBits .f32 0x3F4C422A#32 = ((13386282 / 16777216 : ℝ) : EReal) := by
  simp [Ideal.ofBits, Ideal.ieee, -EReal.coe_mul]
  norm_num

/-- The GELU's cubic constant as its rational. -/
theorem word_c1 : Ideal.ofBits .f32 0x3D372713#32 = ((12003091 / 268435456 : ℝ) : EReal) := by
  simp [Ideal.ofBits, Ideal.ieee, -EReal.coe_mul]
  norm_num

/-- The kernel's formula: `1 + tanh` of `x (a + b x²)`, times `al + be x`. -/
def act (a b al be x : EReal) : EReal := (1 + Ideal.tanh (x * (a + b * (x * x)))) * (al + be * x)

/-- The tanh-GELU. -/
def gelu (x : EReal) : EReal :=
  x * (((1 / 2 : ℝ) : EReal) * (1 + Ideal.tanh (((13386282 / 16777216 : ℝ) : EReal) * (x + ((12003091 / 268435456 : ℝ) : EReal) * (x * x * x)))))

/-- The argument of the GELU's tanh, the cubic constant multiplied out. -/
theorem gelu_arg (x : EReal) :
    x * (((13386282 / 16777216 : ℝ) : EReal) + ((80338380498831 / 2251799813685248 : ℝ) : EReal) * (x * x))
      = ((13386282 / 16777216 : ℝ) : EReal) * (x + ((12003091 / 268435456 : ℝ) : EReal) * (x * x * x)) := by
  induction x with
  | bot =>
    rw [EReal.bot_mul_bot, EReal.top_mul_bot, EReal.coe_mul_top_of_pos (by norm_num), EReal.coe_mul_bot_of_pos (by norm_num),
      EReal.coe_add_top, EReal.bot_mul_top, EReal.bot_add, EReal.coe_mul_bot_of_pos (by norm_num)]
  | top =>
    rw [EReal.top_mul_top, EReal.top_mul_top, EReal.coe_mul_top_of_pos (by norm_num), EReal.coe_mul_top_of_pos (by norm_num),
      EReal.coe_add_top, EReal.top_mul_top, EReal.top_add_top, EReal.coe_mul_top_of_pos (by norm_num)]
  | coe r =>
    norm_cast
    ring

/-- With the GELU's constants the formula is the tanh-GELU. -/
theorem act_gelu (x : EReal) : act ((13386282 / 16777216 : ℝ) : EReal) ((80338380498831 / 2251799813685248 : ℝ) : EReal) 0
    ((1 / 2 : ℝ) : EReal) x = gelu x := by
  unfold act gelu
  rw [gelu_arg, zero_add, mul_left_comm, mul_comm (_ : EReal) x, mul_left_comm]

/-- With the identity's constants the formula is the identity. -/
theorem act_id (x : EReal) : act 0 0 0 1 x = x := by
  unfold act
  have h : Ideal.tanh 0 = 0 := by rw [← EReal.coe_zero, Ideal.tanh_coe, Real.tanh_zero]
  rw [zero_mul, add_zero, mul_zero, h, add_zero, one_mul, zero_add, one_mul]

/-- With the logistic's constants the formula is the logistic function. -/
theorem act_logistic (x : EReal) : act ((1 / 2 : ℝ) : EReal) 0 ((1 / 2 : ℝ) : EReal) 0 x = Ideal.div 1 (1 + Ideal.exp (-x)) := by
  unfold act
  rw [zero_mul, zero_mul, add_zero]
  refine Eq.trans ?_ (show Ideal.logistic x = _ from rfl)
  induction x with
  | bot =>
    rw [EReal.bot_mul_coe_of_pos (by norm_num), Ideal.tanh_bot, Ideal.logistic_bot, ← EReal.coe_one, ← EReal.coe_neg, ← EReal.coe_add, ← EReal.coe_mul]
    norm_num
  | top =>
    rw [EReal.top_mul_coe_of_pos (by norm_num), Ideal.tanh_top, Ideal.logistic_top, ← EReal.coe_one, ← EReal.coe_add, ← EReal.coe_mul]
    norm_num
  | coe r =>
    rw [← EReal.coe_mul, Ideal.tanh_coe, Ideal.logistic_coe, ← EReal.coe_one, ← EReal.coe_add, ← EReal.coe_mul]
    congr 1
    rw [Real.tanh_eq_sinh_div_cosh, Real.sinh_eq, Real.cosh_eq]
    have e : Real.exp (-r) = Real.exp (-(r * (1 / 2))) * Real.exp (-(r * (1 / 2))) := by rw [← Real.exp_add]; congr 1; ring
    have e' : Real.exp (r * (1 / 2)) = (Real.exp (-(r * (1 / 2))))⁻¹ := by rw [← Real.exp_neg, neg_neg]
    rw [e, e']
    have h := Real.exp_pos (-(r * (1 / 2)))
    generalize Real.exp (-(r * (1 / 2))) = z at h ⊢
    field_simp
    ring

end Layer
-- ==== Proof.UpValue.lean ====
/- What the up call's body computes, at the ideal values: the convolution of a strip of rows below the rows kept for it,
   and the gelu of the first half times the second. -/
module

public import proofs.«01_k».proof.Proof.UpDats
public import proofs.«01_k».proof.Proof.Act

@[expose] public section

set_option maxRecDepth 16384

noncomputable section

open Idealize.ShloMosaic Idealize.ShloMosaic.TcCoe Idealize.SL.Sem
open Idealize.ShloMosaic.Pipeline (Dat)

namespace Cert.Kernel2Ideal.Up

open Cert.Kernel2Ideal Cert.Kernel2Ideal.Gen

/-- Three taps of a column from its entry `n` on, the last tap on entry `n + 2`, and the bias. -/
def taps (f : ℕ → EReal) (w0 w1 w2 b : EReal) (n : ℕ) : EReal := b + f n * w0 + f (n + 1) * w1 + f (n + 2) * w2

set_option maxHeartbeats 2000000 in
/-- A column of the convolution: entry `r` takes the three entries of the column down to its own, of which the first come
    from the rows above. -/
theorem conv_at (p : FVec Ideal S8x512 .f32) (u : FVec Ideal S256x512 .f32) (w0 w1 w2 b : Vec Ideal S1x512 .f32) (f : ℕ → EReal) (q : Fin 512)
    (hp : ∀ s : Fin 8, p (ix2 s q) = f s.val) (hu : ∀ r : Fin 256, u (ix2 r q) = f (r.val + 8)) (r : Fin 256) :
    convC p u w0 w1 w2 b (ix2 r q) = taps f (w0 (ix2 0 q)) (w1 (ix2 0 q)) (w2 (ix2 0 q)) (b (ix2 0 q)) (r.val + 6) := by
  unfold convC taps
  open_payloads
  pointwise []
  simp only [hu, hp]
  by_cases h : r.val < 8
  · rw [dif_pos h]
    have key : ∀ n : Fin 8,
        (Scalar.select (IntOp.cmpi .slt (BitVec.ofNat 32 n.val) 2#32) (f ((n.val + 8 - 2) % 8)) (f ((n.val + 8 - 2) % 8 + 8)) = f (n.val + 6))
        ∧ (Scalar.select (IntOp.cmpi .slt (BitVec.ofNat 32 n.val) 1#32) (f ((n.val + 8 - 1) % 8)) (f ((n.val + 8 - 1) % 8 + 8)) = f (n.val + 6 + 1)) := by
      intro n
      fin_cases n <;> exact ⟨rfl, rfl⟩
    rw [(key ⟨r.val, h⟩).1, (key ⟨r.val, h⟩).2]
  · rw [dif_neg h]
    rw [show (8 + (r.val - 8) + 256 - 2) % 256 + 8 = r.val + 6 by omega, show (8 + (r.val - 8) + 256 - 1) % 256 + 8 = r.val + 6 + 1 by omega,
      show 8 + (r.val - 8) + 8 = r.val + 6 + 2 by omega]

/-- The gelu of `a`, by `g`, as the body writes it. -/
def gate (a g : EReal) : EReal :=
  Ideal.ofBits .f32 0x3F000000#32 * a * (Ideal.ofBits .f32 0x3F800000#32
    + Ideal.tanh (a * (Ideal.ofBits .f32 0x3F4C422A#32 + ((80338380498831 / 2251799813685248 : ℝ) : EReal) * (a * a)))) * g

/-- The body's formula is the tanh form of gelu. -/
theorem gate_eq (a g : EReal) : gate a g = Layer.gelu a * g := by
  unfold gate Layer.gelu
  rw [Layer.word_half, Layer.word_one, Layer.word_c0, Layer.gelu_arg, EReal.coe_one, mul_comm ((1 / 2 : ℝ) : EReal) a, mul_assoc a]

set_option maxHeartbeats 2000000 in
/-- A strip of the result is the gate of its two convolutions. -/
theorem chunk_gate (pa pg : FVec Ideal S8x512 .f32) (ua ug : FVec Ideal S256x512 .f32) (X3 X4 : Vec Ideal S3x512 .f32) (X5 X6 : Vec Ideal S1x512 .f32)
    (x : S256x512.Idx) : chunkC pa pg ua ug X3 X4 X5 X6 x
      = gate (convC pa ua (tap X3 0 inb_S3x512_S1x512_0_0) (tap X3 1 inb_S3x512_S1x512_1_0) (tap X3 2 inb_S3x512_S1x512_2_0) (bia X5) x)
          (convC pg ug (tap X4 0 inb_S3x512_S1x512_0_0) (tap X4 1 inb_S3x512_S1x512_1_0) (tap X4 2 inb_S3x512_S1x512_2_0) (bia X6) x) := rfl

/-- The products of a strip of the tokens' block with a block of the weights. -/
theorem strip_at (X0 : Vec Ideal S2048x2048 .bf16) (X1 : Vec Ideal S2048x512 .f32) (o : ℕ)
    (inb : ∀ a, (![o, 0] : Fin 2 → ℕ) a + S256x2048.size a ≤ S2048x2048.size a) (r : Fin 256) (q : Fin 512) (h : o + r.val < 2048) :
    k0_pay19 (F := Ideal) (wgt X1) (tok X0 o inb) (ix2 r q) = ∑ k : Fin 2048, X0 (ix2 ⟨o + r.val, h⟩ k) * X1 (ix2 k q) := by
  unfold wgt tok
  open_payloads
  pointwise []

/-- The last rows of a strip. -/
theorem last_at (u : FVec Ideal S256x512 .f32) (s : Fin 8) (q : Fin 512) : lastC u (ix2 s q) = u (ix2 ⟨248 + s.val, by omega⟩ q) := by
  unfold lastC
  open_payloads
  pointwise []

/-- The rows kept for the block below. -/
theorem kept_at (u : FVec Ideal S256x512 .f32) (s : Fin 8) (q : Fin 512) :
    k0_pay4 (F := Ideal) (k0_pay115 u) (ix2 s q) = u (ix2 ⟨248 + s.val, by omega⟩ q) := by
  open_payloads
  pointwise []

/-- The rows above the first block are zeros. -/
theorem zero_at (s : Fin 8) (q : Fin 512) : k0_pay4 (F := Ideal) (fun _ => Scalar.ofBits (F := Ideal) .f32 0x00000000#32) (ix2 s q) = 0 :=
  Layer.word_zero

/-- The second half's kept rows are read the same way. -/
theorem kept_same (v : Vec Ideal S1x1x8x512 .f32) : k0_pay5 v = k0_pay4 v := rfl

end Cert.Kernel2Ideal.Up
-- ==== Proof.UpRef.lean ====
/- The up call's reference, an entry at a time: each column's products, the convolution down it, and the gelu of the first
   half times the second. -/
module

public import proofs.«01_k».proof.Proof.Gen.Reference2Ideal.Read
public import proofs.«01_k».proof.Proof.Act
public import proofs.«01_k».proof.Proof.UpValue
public import Idealize.ShloMosaic.Lib.KernelVsHost

@[expose] public section

set_option maxRecDepth 16384

noncomputable section

open Idealize.ShloMosaic Idealize.ShloMosaic.TcCoe Idealize.SL.Sem

namespace Cert.Kernel2Ideal.Up

open Cert.Reference2Ideal

/-- A column of the products of the tokens with the up weights, 8 zeros above it. -/
def column (A : FVec Ideal S8192x2048 .bf16) (W : FVec Ideal S2048x11264 .f32) (j : Fin 11264) (n : ℕ) : EReal :=
  if h : 8 ≤ n ∧ n < 8200 then ∑ k : Fin 2048, A (ix2 ⟨n - 8, by omega⟩ k) * W (ix2 k j) else 0

/-- An entry of the convolution. -/
def convAt (A : FVec Ideal S8192x2048 .bf16) (W : FVec Ideal S2048x11264 .f32) (T : FVec Ideal S3x11264 .f32) (B : FVec Ideal S11264 .f32)
    (j : Fin 11264) (n : ℕ) : EReal :=
  taps (column A W j) (T (ix2 0 j)) (T (ix2 1 j)) (T (ix2 2 j)) (B (ix1 j)) (n + 6)

open Cert.Reference2Ideal.Read

/-- The zero the reference pads with. -/
theorem pad_zero (i : S_.Idx) : val_main_call0_v0 (F := Ideal) i = 0 := by
  pointwise [val_main_call0_v0, val_main_c]
  show (((0#32 : BitVec 32).toInt : ℝ) : EReal) = 0
  simp

/-- The padded products. -/
theorem ref_column (A : FVec Ideal S8192x2048 .bf16) (W : FVec Ideal S2048x11264 .f32) (n : Fin 8194) (j : Fin 11264) :
    val_main_v2 (F := Ideal) A W (ix2 n j) = column A W j (n.val + 6) := by
  unfold val_main_v2 column
  by_cases h : 2 ≤ n.val
  · rw [dif_pos (by omega)]
    refine (pad_apply_of_inside _ _ _ _ _ _ _ _ (ix2 (⟨n.val - 2, by omega⟩ : Fin 8192) j) fun a => match a with
      | ⟨0, _⟩ => by show n.val = 2 + (n.val - 2) * (0 + 1); omega
      | ⟨1, _⟩ => by show j.val = 0 + j.val * (0 + 1); omega).trans ?_
    pointwise [val_main_v1, val_main_v0]
    simp only [show n.val + 6 - 8 = n.val - 2 by omega]
  · rw [dif_neg (by omega)]
    refine (pad_apply_of_not_inside _ _ _ _ _ _ _ _ (0 : Fin 2) fun hh => h hh.1).trans ?_
    exact pad_zero _

/-- The reference's convolution. -/
theorem ref_conv (A : FVec Ideal S8192x2048 .bf16) (W : FVec Ideal S2048x11264 .f32) (T : FVec Ideal S3x11264 .f32) (B : FVec Ideal S11264 .f32)
    (n : Fin 8192) (j : Fin 11264) : val_main_v25 (F := Ideal) A W T B (ix2 n j) = convAt A W T B j n.val := by
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3]
  simp only [ref_column]
  unfold convAt taps
  rw [show 1 + n.val + 6 = n.val + 6 + 1 by omega, show 2 + n.val + 6 = n.val + 6 + 2 by omega]

/-- The reference's result. -/
theorem ref_up (A : FVec Ideal S8192x2048 .bf16) (W : FVec Ideal S2048x11264 .f32) (T : FVec Ideal S3x11264 .f32) (B : FVec Ideal S11264 .f32)
    (n : Fin 8192) (j : Fin 5632) : val_main_v42 (F := Ideal) A W T B (ix2 n j)
      = Layer.gelu (convAt A W T B ⟨j.val, by omega⟩ n.val) * convAt A W T B ⟨5632 + j.val, by omega⟩ n.val := by
  pointwise [val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_cst, val_main_cst_0, val_main_cst_1, val_main_cst_2]
  simp only [ref_conv, Layer.word_one, Layer.word_half, Layer.word_c0, Layer.word_c1]
  rfl

end Cert.Kernel2Ideal.Up
-- ==== Proof.UpFinal.lean ====
/- The up call's two arrays, whole, are the reference's. -/
module

public import proofs.«01_k».proof.Proof.UpRef

@[expose] public section

set_option maxRecDepth 16384

noncomputable section

open Idealize.ShloMosaic Idealize.ShloMosaic.TcCoe Idealize.SL.Sem
open Idealize.ShloMosaic.Pipeline (Dat)

namespace Cert.Kernel2Ideal.Up

open Cert.Kernel2Ideal Cert.Kernel2Ideal.Gen

variable (m : (ℓ : Loc nD τ sig) → Buf (Elt Ideal) ℓ)

/-- Where each window's block sits at a point. -/
theorem idx : ∀ t : Fin cfg0.N, win0_0.index t = ![t.val / 11, 0] ∧ win0_1.index t = ![0, t.val % 11] ∧ win0_2.index t = ![0, t.val % 11 + 11]
    ∧ win0_3.index t = ![0, t.val % 11] ∧ win0_4.index t = ![0, t.val % 11 + 11] ∧ win0_5.index t = ![0, t.val % 11]
    ∧ win0_6.index t = ![0, t.val % 11 + 11] ∧ win0_7.index t = ![t.val, 0] ∧ win0_8.index t = ![t.val / 11, t.val % 11] ∧ win0_9.index t = ![t.val, 0] :=
  (by decide +kernel : ∀ t : Fin grid0.N, _)

/-- The column of the weights that column `q` of point `t`'s first block is, -/
def colA (t : Fin cfg0.N) (q : Fin 512) : Fin 11264 := ⟨512 * (t.val % 11) + q.val, by omega⟩
/-- and of its second block. -/
def colG (t : Fin cfg0.N) (q : Fin 512) : Fin 11264 := ⟨512 * (t.val % 11 + 11) + q.val, by omega⟩

variable (c : Dev nD)

/-- The tokens. -/
abbrev toks : FVec Ideal S8192x2048 .bf16 := m ((c : Thread nD τ).loc main_arg0)
/-- The up weights. -/
abbrev wup : FVec Ideal S2048x11264 .f32 := m ((c : Thread nD τ).loc main_arg1)
/-- The convolution's weights. -/
abbrev cw : FVec Ideal S3x11264 .f32 := m ((c : Thread nD τ).loc main_arg2)
/-- The convolution's bias. -/
abbrev cb : FVec Ideal S11264 .f32 := m ((c : Thread nD τ).loc main_arg3)

variable (t : Fin cfg0.N)

theorem x0_at (r k : Fin 2048) : iblk m c 0 t (ix2 r k) = toks m c (ix2 ⟨2048 * (t.val / 11) + r.val, by have := lt_N t; omega⟩ k) := by
  have hN := lt_N t
  blk_point [iblk, V, idx t]

theorem x1_at (k : Fin 2048) (q : Fin 512) : iblk m c 1 t (ix2 k q) = wup m c (ix2 k (colA t q)) := by
  unfold colA
  blk_point [iblk, V, idx t]

theorem x2_at (k : Fin 2048) (q : Fin 512) : iblk m c 2 t (ix2 k q) = wup m c (ix2 k (colG t q)) := by
  unfold colG
  blk_point [iblk, V, idx t]

theorem x3_at (s : Fin 3) (q : Fin 512) : iblk m c 3 t (ix2 s q) = cw m c (ix2 s (colA t q)) := by
  unfold colA
  blk_point [iblk, V, idx t]

theorem x4_at (s : Fin 3) (q : Fin 512) : iblk m c 4 t (ix2 s q) = cw m c (ix2 s (colG t q)) := by
  unfold colG
  blk_point [iblk, V, idx t]

theorem x5_at (q : Fin 512) : iblk m c 5 t (ix2 0 q) = cb m c (ix1 (colA t q)) := by
  unfold colA
  blk_point [iblk, V, idx t]

theorem x6_at (q : Fin 512) : iblk m c 6 t (ix2 0 q) = cb m c (ix1 (colG t q)) := by
  unfold colG
  blk_point [iblk, V, idx t]

/-- One row of the convolution's three, read. -/
theorem tap_at (X : Vec Ideal S3x512 .f32) (o : ℕ) (inb) (h : o < 3) (q : Fin 512) : tap X o inb (ix2 0 q) = X (ix2 ⟨o, h⟩ q) := by
  unfold tap
  pointwise []

/-- The bias's row, read. -/
theorem bia_at (X : Vec Ideal S1x512 .f32) (q : Fin 512) : bia X (ix2 0 q) = X (ix2 0 q) := by
  unfold bia
  pointwise []

/-- A strip of the first half's products is a run of its column. -/
theorem stripA (o : ℕ) (inb : ∀ a, (![o, 0] : Fin 2 → ℕ) a + S256x2048.size a ≤ S2048x2048.size a) (r : Fin 256) (q : Fin 512) (h : o + r.val < 2048) :
    k0_pay19 (F := Ideal) (wgt (iblk m c 1 t)) (tok (iblk m c 0 t) o inb) (ix2 r q)
      = column (toks m c) (wup m c) (colA t q) (2048 * (t.val / 11) + o + (r.val + 8)) := by
  have hN := lt_N t
  rw [strip_at _ _ _ _ _ _ h]
  unfold column
  rw [dif_pos (by omega)]
  simp only [x0_at, x1_at, show 2048 * (t.val / 11) + o + (r.val + 8) - 8 = 2048 * (t.val / 11) + (o + r.val) by omega]

/-- A strip of the second half's products is a run of its column. -/
theorem stripG (o : ℕ) (inb : ∀ a, (![o, 0] : Fin 2 → ℕ) a + S256x2048.size a ≤ S2048x2048.size a) (r : Fin 256) (q : Fin 512) (h : o + r.val < 2048) :
    k0_pay19 (F := Ideal) (wgt (iblk m c 2 t)) (tok (iblk m c 0 t) o inb) (ix2 r q)
      = column (toks m c) (wup m c) (colG t q) (2048 * (t.val / 11) + o + (r.val + 8)) := by
  have hN := lt_N t
  rw [strip_at _ _ _ _ _ _ h]
  unfold column
  rw [dif_pos (by omega)]
  simp only [x0_at, x2_at, show 2048 * (t.val / 11) + o + (r.val + 8) - 8 = 2048 * (t.val / 11) + (o + r.val) by omega]

/-- What point `t` leaves at an entry of its block. -/
def result (y : S2048x512.Idx) : EReal :=
  Layer.gelu (convAt (toks m c) (wup m c) (cw m c) (cb m c) (colA t (y 1)) (2048 * (t.val / 11) + (y 0).val))
    * convAt (toks m c) (wup m c) (cw m c) (cb m c) (colG t (y 1)) (2048 * (t.val / 11) + (y 0).val)

/-- A strip of the result, given that the rows handed to it are those above it. -/
theorem piece (o : ℕ) (inb : ∀ a, (![o, 0] : Fin 2 → ℕ) a + S256x2048.size a ≤ S2048x2048.size a)
    (inb' : ∀ a, (![o, 0] : Fin 2 → ℕ) a + S256x512.size a ≤ S2048x512.size a) (pa pg : FVec Ideal S8x512 .f32)
    (ha : ∀ (s : Fin 8) (q : Fin 512), pa (ix2 s q) = column (toks m c) (wup m c) (colA t q) (2048 * (t.val / 11) + o + s.val))
    (hg : ∀ (s : Fin 8) (q : Fin 512), pg (ix2 s q) = column (toks m c) (wup m c) (colG t q) (2048 * (t.val / 11) + o + s.val)) (x : S256x512.Idx) :
    chunkC pa pg (k0_pay19 (wgt (iblk m c 1 t)) (tok (iblk m c 0 t) o inb)) (k0_pay19 (wgt (iblk m c 2 t)) (tok (iblk m c 0 t) o inb))
        (iblk m c 3 t) (iblk m c 4 t) (iblk m c 5 t) (iblk m c 6 t) x
      = result m c t ((Rect.unit (s := S2048x512) ![o, 0] S256x512.size inb').emb x) := by
  have ho : o + 256 ≤ 2048 := inb 0
  obtain ⟨x0, x1, rfl⟩ : ∃ (x0 : Fin 256) (x1 : Fin 512), x = ix2 x0 x1 := ⟨x 0, x 1, by funext a; fin_cases a <;> rfl⟩
  rw [chunk_gate, gate_eq,
    conv_at _ _ _ _ _ _ (fun n => column (toks m c) (wup m c) (colA t x1) (2048 * (t.val / 11) + o + n)) x1 (fun s => ha s x1)
      (fun r => stripA m c t o inb r x1 (by omega)) x0,
    conv_at _ _ _ _ _ _ (fun n => column (toks m c) (wup m c) (colG t x1) (2048 * (t.val / 11) + o + n)) x1 (fun s => hg s x1)
      (fun r => stripG m c t o inb r x1 (by omega)) x0,
    tap_at _ 0 _ (by omega), tap_at _ 1 _ (by omega), tap_at _ 2 _ (by omega), tap_at _ 0 _ (by omega), tap_at _ 1 _ (by omega), tap_at _ 2 _ (by omega),
    bia_at, bia_at]
  simp only [x3_at, x4_at, x5_at, x6_at]
  have e : (Rect.unit (s := S2048x512) ![o, 0] S256x512.size inb').emb (ix2 x0 x1) = ix2 (⟨o + x0.val, by omega⟩ : Fin 2048) x1 :=
    funext fun a => Fin.ext (by
      match a with
      | ⟨0, _⟩ => show o + 1 * x0.val = o + x0.val; omega
      | ⟨1, _⟩ => show 0 + 1 * x1.val = x1.val; omega)
  rw [e]
  unfold result
  show _ = Layer.gelu (convAt _ _ _ _ (colA t x1) (2048 * (t.val / 11) + (o + x0.val))) * convAt _ _ _ _ (colG t x1) (2048 * (t.val / 11) + (o + x0.val))
  rw [← Nat.add_assoc]
  rfl

/-- The rows handed to a strip below the first are the strip above's last. -/
theorem aboveA (o o' : ℕ) (h : o' = o + 256) (ho : o + 256 ≤ 2048) (inb : ∀ a, (![o, 0] : Fin 2 → ℕ) a + S256x2048.size a ≤ S2048x2048.size a) (s : Fin 8) (q : Fin 512) :
    lastC (F := Ideal) (k0_pay19 (wgt (iblk m c 1 t)) (tok (iblk m c 0 t) o inb)) (ix2 s q)
      = column (toks m c) (wup m c) (colA t q) (2048 * (t.val / 11) + o' + s.val) := by
  rw [last_at, stripA m c t o inb _ q (by show o + (248 + s.val) < 2048; omega)]
  exact congrArg _ (by show 2048 * (t.val / 11) + o + (248 + s.val + 8) = _; omega)

theorem aboveG (o o' : ℕ) (h : o' = o + 256) (ho : o + 256 ≤ 2048) (inb : ∀ a, (![o, 0] : Fin 2 → ℕ) a + S256x2048.size a ≤ S2048x2048.size a) (s : Fin 8) (q : Fin 512) :
    lastC (F := Ideal) (k0_pay19 (wgt (iblk m c 2 t)) (tok (iblk m c 0 t) o inb)) (ix2 s q)
      = column (toks m c) (wup m c) (colG t q) (2048 * (t.val / 11) + o' + s.val) := by
  rw [last_at, stripG m c t o inb _ q (by show o + (248 + s.val) < 2048; omega)]
  exact congrArg _ (by show 2048 * (t.val / 11) + o + (248 + s.val + 8) = _; omega)

/-- The rows handed to the first strip are the last of the block above, or zeros. -/
theorem topA (s : Fin 8) (q : Fin 512) :
    k0_pay4 (F := Ideal) (prevA m c t) (ix2 s q) = column (toks m c) (wup m c) (colA t q) (2048 * (t.val / 11) + 0 + s.val) := by
  have hN := lt_N t
  unfold prevA
  by_cases h : t.val < 11
  · rw [if_pos h, zero_at]
    unfold column
    rw [dif_neg (by omega)]
  · rw [if_neg h]
    unfold tailA
    rw [kept_at, stripA m c (above t) 1792 _ _ q (by show 1792 + (248 + s.val) < 2048; omega)]
    have e : colA (above t) q = colA t q := Fin.ext (by show 512 * ((t.val - 11) % 11) + q.val = 512 * (t.val % 11) + q.val; omega)
    rw [e]
    exact congrArg _ (by show 2048 * ((t.val - 11) / 11) + 1792 + (248 + s.val + 8) = _; omega)

theorem topG (s : Fin 8) (q : Fin 512) :
    k0_pay5 (F := Ideal) (prevG m c t) (ix2 s q) = column (toks m c) (wup m c) (colG t q) (2048 * (t.val / 11) + 0 + s.val) := by
  have hN := lt_N t
  rw [kept_same]
  unfold prevG
  by_cases h : t.val < 11
  · rw [if_pos h, zero_at]
    unfold column
    rw [dif_neg (by omega)]
  · rw [if_neg h]
    unfold tailG
    rw [kept_at, stripG m c (above t) 1792 _ _ q (by show 1792 + (248 + s.val) < 2048; omega)]
    have e : colG (above t) q = colG t q := Fin.ext (by show 512 * ((t.val - 11) % 11 + 11) + q.val = 512 * (t.val % 11 + 11) + q.val; omega)
    rw [e]
    exact congrArg _ (by show 2048 * ((t.val - 11) / 11) + 1792 + (248 + s.val + 8) = _; omega)

set_option maxHeartbeats 2000000 in
/-- What a point leaves in the result's block. -/
theorem block (y : S2048x512.Idx) : outU m c t y = result m c t y := by
  have h := piece m c t
  have hb := fun o o' e ho inb inb' inb'' => h o' inb' inb'' _ _ (aboveA m c t o o' e ho inb) (aboveG m c t o o' e ho inb)
  unfold outU
  refine View.canon_apply_of_pieces _ _ (View.PiecesOf.mem ?_) y (cover_up _ _ _ _ _ _ _ _ _ y)
  exact ⟨hb 1536 1792 rfl (by omega) inb_S2048x2048_S256x2048_1536_0 inb_S2048x2048_S256x2048_1792_0 inb_S2048x512_S256x512_1792_0,
    hb 1280 1536 rfl (by omega) inb_S2048x2048_S256x2048_1280_0 inb_S2048x2048_S256x2048_1536_0 inb_S2048x512_S256x512_1536_0,
    hb 1024 1280 rfl (by omega) inb_S2048x2048_S256x2048_1024_0 inb_S2048x2048_S256x2048_1280_0 inb_S2048x512_S256x512_1280_0,
    hb 768 1024 rfl (by omega) inb_S2048x2048_S256x2048_768_0 inb_S2048x2048_S256x2048_1024_0 inb_S2048x512_S256x512_1024_0,
    hb 512 768 rfl (by omega) inb_S2048x2048_S256x2048_512_0 inb_S2048x2048_S256x2048_768_0 inb_S2048x512_S256x512_768_0,
    hb 256 512 rfl (by omega) inb_S2048x2048_S256x2048_256_0 inb_S2048x2048_S256x2048_512_0 inb_S2048x512_S256x512_512_0,
    hb 0 256 rfl (by omega) inb_S2048x2048_S256x2048_0_0 inb_S2048x2048_S256x2048_256_0 inb_S2048x512_S256x512_256_0,
    h 0 inb_S2048x2048_S256x2048_0_0 inb_S2048x512_S256x512_0_0 _ _ (topA m c t) (topG m c t), trivial⟩

/-- The result, whole. -/
theorem final8 : (dats m 0 c).arrAt 8 cfg0.N
    = Cert.Reference2Ideal.Read.val_main_v42 (F := Ideal) (toks m c) (wup m c) (cw m c) (cb m c) := by
  refine (dats m 0 c).arrAt_eq_of_covers 8 _ (by decide +kernel) fun t hf y => ?_
  blk_simp
  rw [after0_8]
  have hN := lt_N t
  refine (block m c t y).trans ?_
  obtain ⟨y0, y1, rfl⟩ : ∃ (y0 : Fin 2048) (y1 : Fin 512), y = ix2 y0 y1 := ⟨y 0, y 1, by funext a; fin_cases a <;> rfl⟩
  have hi : (win0_8.blk t).view.emb (ix2 y0 y1) = (ix2 (⟨2048 * (t.val / 11) + y0.val, by omega⟩ : Fin 8192)
      (⟨512 * (t.val % 11) + y1.val, by omega⟩ : Fin 5632) : S8192x5632.Idx) := by
    blk_ext [idx t]
  refine Eq.trans ?_ (congrArg _ hi.symm)
  rw [ref_up]
  have e : colG t y1 = (⟨5632 + (512 * (t.val % 11) + y1.val), by omega⟩ : Fin 11264) := Fin.ext (by
    show 512 * (t.val % 11 + 11) + y1.val = 5632 + (512 * (t.val % 11) + y1.val); omega)
  show Layer.gelu (convAt _ _ _ _ (colA t y1) _) * convAt _ _ _ _ (colG t y1) _ = _
  rw [e]
  rfl

/-- The cast of the down weights, whole. -/
theorem final9 : (dats m 0 c).arrAt 9 cfg0.N
    = Cert.Reference2Ideal.Read.val_main_v43 (F := Ideal) (m ((c : Thread nD τ).loc main_arg4)) := by
  refine (dats m 0 c).arrAt_eq_of_covers 9 _ (by decide +kernel) fun t hf y => ?_
  blk_simp
  rw [after0_9]
  have hN := lt_N t
  unfold outS slabPieces
  obtain ⟨y0, y1, rfl⟩ : ∃ (y0 : Fin 128) (y1 : Fin 2048), y = ix2 y0 y1 := ⟨y 0, y 1, by funext a; fin_cases a <;> rfl⟩
  rw [Layer.here2 y0 y1 (Nat.zero_add _).symm (Nat.zero_add _).symm]
  open_payloads
  pointwise [Cert.Reference2Ideal.Read.val_main_v43]
  blk_point [iblk, V, idx t]

end Cert.Kernel2Ideal.Up
-- ==== Proof.Down.lean ====
module

public import proofs.«01_k».proof.Proof.Gen.Kernel3Ideal.Value
public import proofs.«01_k».proof.Proof.Gen.Reference3Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel3Ideal.Down

open Cert.Kernel3Ideal Cert.Kernel3Ideal.Gen

variable (m : (ℓ : Loc nD τ sig) → Buf (Elt Ideal) ℓ)

/-! ## The block's arithmetic -/

/-- The squares of one row's products with a strip of the weight, added up. -/
def sq (a : Vec Ideal S256x5632 .bf16) (w : Vec Ideal S5632x512 .bf16) (r : Fin 256) : EReal :=
  ∑ j : Fin 512, (∑ k : Fin 5632, a (ix2 r k) * w (ix2 k j)) * ∑ k : Fin 5632, a (ix2 r k) * w (ix2 k j)

/-- A row of a half block, as the body computes it: the residual plus the products `z` over their root mean square, times gate and gain. -/
def row (T g : Vec Ideal S1x2048 .f32) (a : Vec Ideal S256x5632 .bf16) (w0 w1 w2 w3 : Vec Ideal S5632x512 .bf16)
    (X z : Vec Ideal S256x2048 .f32) (x : S256x2048.Idx) : EReal :=
  X x + z x * Ideal.rsqrt ((sq a w0 (x 0) + sq a w1 (x 0) + sq a w2 (x 0) + sq a w3 (x 0)) * Ideal.ofBits .f32 973078528#32
      + Ideal.ofBits .f32 897988541#32) * (T (ix2 0 (x 1)) * g (ix2 0 (x 1)))

section rows

variable (T g : Vec Ideal S1x2048 .f32) (a : Vec Ideal S256x5632 .bf16) (w w0 w1 w2 w3 : Vec Ideal S5632x512 .bf16)
    (X z : Vec Ideal S256x2048 .f32) (x : S256x2048.Idx)

/-- The first half's stored rows at the first point. -/
theorem row_A0 : k0_pay11 (k0_pay4 T g) (k0_pay8 k0_pay5 a w0 a w1) a w2 a w3 X z x = row T g a w0 w1 w2 w3 X z x := by
  open_payloads
  pointwise [row, sq]
  try simp only [zero_add]
/-- The second half's stored rows at the first point. -/
theorem row_A1 : k0_pay2 (k0_pay4 T g) (k0_pay15 a w0 a w1 a w2) a w3 X z x = row T g a w0 w1 w2 w3 X z x := by
  open_payloads
  pointwise [row, sq]
/-- The first half's stored rows at a later point. -/
theorem row_B0 : k0_pay23 (k0_pay16 T g) (k0_pay19 a w0 a w1) (k0_pay21 a w2) a w3 X z x = row T g a w0 w1 w2 w3 X z x := by
  open_payloads
  pointwise [row, sq]
/-- The second half's stored rows at a later point. -/
theorem row_B1 : k0_pay3 (k0_pay16 T g) (k0_pay29 (k0_pay25 a w0) a w1 a w2 a w3) X z x = row T g a w0 w1 w2 w3 X z x := by
  open_payloads
  pointwise [row, sq]

end rows

/-- An entry of the products of a block of rows with the weight. -/
def dot (A : Vec Ideal S512x5632 .bf16) (W : Vec Ideal S5632x2048 .bf16) (q : S512x2048.Idx) : EReal :=
  ∑ k : Fin 5632, A (ix2 (q 0) k) * W (ix2 k (q 1))

/-- An entry of a block of the result. -/
def block (A : Vec Ideal S512x5632 .bf16) (W : Vec Ideal S5632x2048 .bf16) (X : Vec Ideal S512x2048 .f32) (T g : Vec Ideal S1x2048 .f32)
    (y : S512x2048.Idx) : EReal :=
  X y + dot A W y * Ideal.rsqrt ((∑ j : Fin 2048, dot A W (ix2 (y 0) j) * dot A W (ix2 (y 0) j)) * Ideal.ofBits .f32 973078528#32
      + Ideal.ofBits .f32 897988541#32) * (T (ix2 0 (y 1)) * g (ix2 0 (y 1)))

/-- A half block's row is the block's, when its rows, strips and products are. -/
theorem row_block {T g : Vec Ideal S1x2048 .f32} {a : Vec Ideal S256x5632 .bf16} {w0 w1 w2 w3 : Vec Ideal S5632x512 .bf16}
    {X z : Vec Ideal S256x2048 .f32} {x : S256x2048.Idx} {A : Vec Ideal S512x5632 .bf16} {W : Vec Ideal S5632x2048 .bf16}
    {X' : Vec Ideal S512x2048 .f32} {y : S512x2048.Idx} (h1 : x 1 = y 1) (ha : ∀ k : Fin 5632, a (ix2 (x 0) k) = A (ix2 (y 0) k))
    (hw0 : ∀ (k : Fin 5632) (j : Fin 512), w0 (ix2 k j) = W (ix2 k ⟨j, by omega⟩))
    (hw1 : ∀ (k : Fin 5632) (j : Fin 512), w1 (ix2 k j) = W (ix2 k ⟨512 + j, by omega⟩))
    (hw2 : ∀ (k : Fin 5632) (j : Fin 512), w2 (ix2 k j) = W (ix2 k ⟨1024 + j, by omega⟩))
    (hw3 : ∀ (k : Fin 5632) (j : Fin 512), w3 (ix2 k j) = W (ix2 k ⟨1536 + j, by omega⟩))
    (hX : X x = X' y) (hz : z x = dot A W y) : row T g a w0 w1 w2 w3 X z x = block A W X' T g y := by
  unfold row block sq
  rw [Layer.sum_strips, hX, hz, h1]
  unfold dot
  simp only [ha, hw0, hw1, hw2, hw3]
  rfl

/-- A stored strip of products, at an entry of the block. -/
theorem tile {a : Vec Ideal S256x5632 .bf16} {w : Vec Ideal S5632x512 .bf16} {x : S256x512.Idx} {A : Vec Ideal S512x5632 .bf16}
    {W : Vec Ideal S5632x2048 .bf16} {y : S512x2048.Idx} (ha : ∀ k : Fin 5632, a (ix2 (x 0) k) = A (ix2 (y 0) k))
    (hw : ∀ k : Fin 5632, w (ix2 k (x 1)) = W (ix2 k (y 1))) : k0_pay1 a w x = dot A W y := by
  open_payloads
  pointwise [dot]
  simp only [ha, hw]

/-- Four transfers of column strips bring a whole array into the scratch. -/
theorem scr_A (c : Dev nD) (t : Fin cfg0.N) (h0 : t.val % 16 = 0) (h1 : ¬1 ≤ t.val) :
    (outsAt0 m c t.val t.isLt).2 = V m c main_arg1 := by
  rw [outsAt0_A m c t h0 h1]
  frame_open
  funext y
  rw [View.read_writes_junk_eq_canon]
  canon_tiles x h
  all_goals
    refine congrArg (V m c main_arg1) (funext fun a => Fin.ext ?_)
    match a with
    | ⟨0, _⟩ => exact Eq.trans (by show (0 + 1 * (x 0 : ℕ)) = x 0; omega) h0.symm
    | ⟨1, _⟩ => refine Eq.trans ?_ h1.symm; first
      | (show 1536 + 1 * (x 1 : ℕ) = 1536 + (x 1 : ℕ); omega) | (show 1024 + 1 * (x 1 : ℕ) = 1024 + (x 1 : ℕ); omega)
      | (show 512 + 1 * (x 1 : ℕ) = 512 + (x 1 : ℕ); omega) | (show 0 + 1 * (x 1 : ℕ) = (x 1 : ℕ); omega)

/-- The running sum's buffer after a point that is not the first of its block of rows. -/
theorem scr_B (c : Dev nD) (t : Fin cfg0.N) (h0 : ¬t.val % 16 = 0) (h1 : 1 ≤ t.val) :
    (outsAt0 m c t.val t.isLt).2 = (outsAt0 m c (t.val - 1) (Nat.lt_of_le_of_lt (Nat.sub_le _ _) t.isLt)).2 := by
  rw [outsAt0_B m c t h0 h1]
  try dsimp only
  first | done | rfl

/-- The scratch holds the weight at every point. -/
theorem scr (c : Dev nD) (t : Fin cfg0.N) : (outsAt0 m c t.val t.isLt).2 = V m c main_arg1 := by
  obtain ⟨n, hn⟩ := t
  have hN : cfg0.N = 16 := N_0
  induction n with
  | zero => exact scr_A m c ⟨0, hn⟩ rfl (by show ¬1 ≤ 0; omega)
  | succ n ih =>
    exact (scr_B m c ⟨n + 1, hn⟩ (by show ¬(n + 1) % 16 = 0; omega) (by show 1 ≤ n + 1; omega)).trans
      (ih (by omega))

/-- A block of the output at a later point. -/
theorem point_B (c : Dev nD) (t : Fin cfg0.N) (h0 : ¬t.val % 16 = 0) (h1 : 1 ≤ t.val) (y : S512x2048.Idx) :
    (outsAt0 m c t.val t.isLt).1 y = block (iblk m c 0 t) (V m c main_arg1) (iblk m c 1 t) (iblk m c 2 t) (iblk m c 3 t) y := by
  rw [outsAt0_B m c t h0 h1]
  dsimp only
  frame_open
  simp (disch := decide) only [↓ View.readCov_skip, ↓ View.readCov_cons_toLoadRect, ↓ View.readCov_fill]
  frame_out
  simp only [read_unread_whole]
  rw [show (outsAt0 m c (t.val - 1) (Nat.lt_of_le_of_lt (Nat.sub_le _ _) t.isLt)).2 = V m c main_arg1 from scr m c ⟨t.val - 1, Nat.lt_of_le_of_lt (Nat.sub_le _ _) t.isLt⟩]
  idx_vars y
  by_cases hy : (y0 : ℕ) < 256
  · iterate 5 (rw [Layer.past0]; swap; · show ¬(256 ≤ (y0 : ℕ) ∧ (y0 : ℕ) < _); omega)
    rw [Layer.here2 (⟨y0, hy⟩ : Fin 256) y1 (Nat.zero_add _).symm (Nat.zero_add _).symm]
    refine (row_B0 _ _ _ _ _ _ _ _ _ _).trans ?_
    refine row_block rfl (fun k => ?_) (fun k j => ?_) (fun k j => ?_) (fun k j => ?_) (fun k j => ?_) ?_ ?_
    · exact congrArg (iblk m c 0 t) (funext fun a => Fin.ext (by
        match a with
        | ⟨0, _⟩ => show 0 + 1 * (y0 : ℕ) = (y0 : ℕ); omega
        | ⟨1, _⟩ => show 0 + 1 * (k : ℕ) = (k : ℕ); omega))
    · exact congrArg (V m c main_arg1) (funext fun a => Fin.ext (by
        match a with
        | ⟨0, _⟩ => show 0 + 1 * (k : ℕ) = (k : ℕ); omega
        | ⟨1, _⟩ => show 0 + 1 * (j : ℕ) = (j : ℕ); omega))
    · exact congrArg (V m c main_arg1) (funext fun a => Fin.ext (by
        match a with
        | ⟨0, _⟩ => show 0 + 1 * (k : ℕ) = (k : ℕ); omega
        | ⟨1, _⟩ => show 512 + 1 * (j : ℕ) = 512 + (j : ℕ); omega))
    · exact congrArg (V m c main_arg1) (funext fun a => Fin.ext (by
        match a with
        | ⟨0, _⟩ => show 0 + 1 * (k : ℕ) = (k : ℕ); omega
        | ⟨1, _⟩ => show 1024 + 1 * (j : ℕ) = 1024 + (j : ℕ); omega))
    · exact congrArg (V m c main_arg1) (funext fun a => Fin.ext (by
        match a with
        | ⟨0, _⟩ => show 0 + 1 * (k : ℕ) = (k : ℕ); omega
        | ⟨1, _⟩ => show 1536 + 1 * (j : ℕ) = 1536 + (j : ℕ); omega))
    · exact congrArg (iblk m c 1 t) (funext fun a => Fin.ext (by
        match a with
        | ⟨0, _⟩ => show 0 + 1 * (y0 : ℕ) = (y0 : ℕ); omega
        | ⟨1, _⟩ => show 0 + 1 * (y1 : ℕ) = (y1 : ℕ); omega))
    rw [View.readCov_eq_canon']
    refine (congrArg (View.canon _) (?_ : _ = (ix2 y0 y1 : S512x2048.Idx))).trans ?_
    · exact funext fun a => Fin.ext (by
        match a with
        | ⟨0, _⟩ => show 0 + 1 * (y0 : ℕ) = (y0 : ℕ); omega
        | ⟨1, _⟩ => show 0 + 1 * (y1 : ℕ) = (y1 : ℕ); omega)
    by_cases h1536 : 1536 ≤ (y1 : ℕ)
    · rw [Layer.here2 (⟨y0, hy⟩ : Fin 256) (⟨y1 - 1536, by omega⟩ : Fin 512) (Nat.zero_add _).symm (by show (y1 : ℕ) = 1536 + (y1 - 1536); omega)]
      exact tile
        (fun k => by
        exact congrArg (iblk m c 0 t) (funext fun a => Fin.ext (by
        match a with
        | ⟨0, _⟩ => show 0 + 1 * (y0 : ℕ) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 1536 + 1 * ((y1 : ℕ) - 1536) = (y1 : ℕ); omega)))
    rw [Layer.past1]; swap; · show ¬(1536 ≤ (y1 : ℕ) ∧ (y1 : ℕ) < _); omega
    by_cases h1024 : 1024 ≤ (y1 : ℕ)
    · rw [Layer.here2 (⟨y0, hy⟩ : Fin 256) (⟨y1 - 1024, by omega⟩ : Fin 512) (Nat.zero_add _).symm (by show (y1 : ℕ) = 1024 + (y1 - 1024); omega)]
      exact tile
        (fun k => by
        exact congrArg (iblk m c 0 t) (funext fun a => Fin.ext (by
        match a with
        | ⟨0, _⟩ => show 0 + 1 * (y0 : ℕ) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 1024 + 1 * ((y1 : ℕ) - 1024) = (y1 : ℕ); omega)))
    rw [Layer.past1]; swap; · show ¬(1024 ≤ (y1 : ℕ) ∧ (y1 : ℕ) < _); omega
    by_cases h512 : 512 ≤ (y1 : ℕ)
    · rw [Layer.here2 (⟨y0, hy⟩ : Fin 256) (⟨y1 - 512, by omega⟩ : Fin 512) (Nat.zero_add _).symm (by show (y1 : ℕ) = 512 + (y1 - 512); omega)]
      exact tile
        (fun k => by
        exact congrArg (iblk m c 0 t) (funext fun a => Fin.ext (by
        match a with
        | ⟨0, _⟩ => show 0 + 1 * (y0 : ℕ) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 512 + 1 * ((y1 : ℕ) - 512) = (y1 : ℕ); omega)))
    rw [Layer.past1]; swap; · show ¬(512 ≤ (y1 : ℕ) ∧ (y1 : ℕ) < _); omega
    rw [Layer.here2 (⟨y0, hy⟩ : Fin 256) (⟨y1, by omega⟩ : Fin 512) (Nat.zero_add _).symm (Nat.zero_add _).symm]
    exact tile
      (fun k => by
      exact congrArg (iblk m c 0 t) (funext fun a => Fin.ext (by
      match a with
      | ⟨0, _⟩ => show 0 + 1 * (y0 : ℕ) = (y0 : ℕ); omega
      | ⟨1, _⟩ => show 0 + 1 * (k : ℕ) = (k : ℕ); omega)))
      (fun k => by
      exact congrArg (V m c main_arg1) (funext fun a => Fin.ext (by
      match a with
      | ⟨0, _⟩ => show 0 + 1 * (k : ℕ) = (k : ℕ); omega
      | ⟨1, _⟩ => show 0 + 1 * (y1 : ℕ) = (y1 : ℕ); omega)))
  · rw [Layer.here2 (⟨y0 - 256, by omega⟩ : Fin 256) y1 (by show (y0 : ℕ) = 256 + (y0 - 256); omega) (Nat.zero_add _).symm]
    refine (row_B1 _ _ _ _ _ _ _ _ _ _).trans ?_
    refine row_block rfl (fun k => ?_) (fun k j => ?_) (fun k j => ?_) (fun k j => ?_) (fun k j => ?_) ?_ ?_
    · exact congrArg (iblk m c 0 t) (funext fun a => Fin.ext (by
        match a with
        | ⟨0, _⟩ => show 256 + 1 * ((y0 : ℕ) - 256) = (y0 : ℕ); omega
        | ⟨1, _⟩ => show 0 + 1 * (k : ℕ) = (k : ℕ); omega))
    · exact congrArg (V m c main_arg1) (funext fun a => Fin.ext (by
        match a with
        | ⟨0, _⟩ => show 0 + 1 * (k : ℕ) = (k : ℕ); omega
        | ⟨1, _⟩ => show 0 + 1 * (j : ℕ) = (j : ℕ); omega))
    · exact congrArg (V m c main_arg1) (funext fun a => Fin.ext (by
        match a with
        | ⟨0, _⟩ => show 0 + 1 * (k : ℕ) = (k : ℕ); omega
        | ⟨1, _⟩ => show 512 + 1 * (j : ℕ) = 512 + (j : ℕ); omega))
    · exact congrArg (V m c main_arg1) (funext fun a => Fin.ext (by
        match a with
        | ⟨0, _⟩ => show 0 + 1 * (k : ℕ) = (k : ℕ); omega
        | ⟨1, _⟩ => show 1024 + 1 * (j : ℕ) = 1024 + (j : ℕ); omega))
    · exact congrArg (V m c main_arg1) (funext fun a => Fin.ext (by
        match a with
        | ⟨0, _⟩ => show 0 + 1 * (k : ℕ) = (k : ℕ); omega
        | ⟨1, _⟩ => show 1536 + 1 * (j : ℕ) = 1536 + (j : ℕ); omega))
    · exact congrArg (iblk m c 1 t) (funext fun a => Fin.ext (by
        match a with
        | ⟨0, _⟩ => show 256 + 1 * ((y0 : ℕ) - 256) = (y0 : ℕ); omega
        | ⟨1, _⟩ => show 0 + 1 * (y1 : ℕ) = (y1 : ℕ); omega))
    rw [View.readCov_eq_canon']
    refine (congrArg (View.canon _) (?_ : _ = (ix2 y0 y1 : S512x2048.Idx))).trans ?_
    · exact funext fun a => Fin.ext (by
        match a with
        | ⟨0, _⟩ => show 256 + 1 * ((y0 : ℕ) - 256) = (y0 : ℕ); omega
        | ⟨1, _⟩ => show 0 + 1 * (y1 : ℕ) = (y1 : ℕ); omega)
    by_cases h1536 : 1536 ≤ (y1 : ℕ)
    · rw [Layer.here2 (⟨y0 - 256, by omega⟩ : Fin 256) (⟨y1 - 1536, by omega⟩ : Fin 512) (by show (y0 : ℕ) = 256 + (y0 - 256); omega) (by show (y1 : ℕ) = 1536 + (y1 - 1536); omega)]
      exact tile
        (fun k => by
        exact congrArg (iblk m c 0 t) (funext fun a => Fin.ext (by
        match a with
        | ⟨0, _⟩ => show 256 + 1 * ((y0 : ℕ) - 256) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 1536 + 1 * ((y1 : ℕ) - 1536) = (y1 : ℕ); omega)))
    rw [Layer.past1]; swap; · show ¬(1536 ≤ (y1 : ℕ) ∧ (y1 : ℕ) < _); omega
    by_cases h1024 : 1024 ≤ (y1 : ℕ)
    · rw [Layer.here2 (⟨y0 - 256, by omega⟩ : Fin 256) (⟨y1 - 1024, by omega⟩ : Fin 512) (by show (y0 : ℕ) = 256 + (y0 - 256); omega) (by show (y1 : ℕ) = 1024 + (y1 - 1024); omega)]
      exact tile
        (fun k => by
        exact congrArg (iblk m c 0 t) (funext fun a => Fin.ext (by
        match a with
        | ⟨0, _⟩ => show 256 + 1 * ((y0 : ℕ) - 256) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 1024 + 1 * ((y1 : ℕ) - 1024) = (y1 : ℕ); omega)))
    rw [Layer.past1]; swap; · show ¬(1024 ≤ (y1 : ℕ) ∧ (y1 : ℕ) < _); omega
    by_cases h512 : 512 ≤ (y1 : ℕ)
    · rw [Layer.here2 (⟨y0 - 256, by omega⟩ : Fin 256) (⟨y1 - 512, by omega⟩ : Fin 512) (by show (y0 : ℕ) = 256 + (y0 - 256); omega) (by show (y1 : ℕ) = 512 + (y1 - 512); omega)]
      exact tile
        (fun k => by
        exact congrArg (iblk m c 0 t) (funext fun a => Fin.ext (by
        match a with
        | ⟨0, _⟩ => show 256 + 1 * ((y0 : ℕ) - 256) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 512 + 1 * ((y1 : ℕ) - 512) = (y1 : ℕ); omega)))
    rw [Layer.past1]; swap; · show ¬(512 ≤ (y1 : ℕ) ∧ (y1 : ℕ) < _); omega
    rw [Layer.here2 (⟨y0 - 256, by omega⟩ : Fin 256) (⟨y1, by omega⟩ : Fin 512) (by show (y0 : ℕ) = 256 + (y0 - 256); omega) (Nat.zero_add _).symm]
    exact tile
      (fun k => by
      exact congrArg (iblk m c 0 t) (funext fun a => Fin.ext (by
      match a with
      | ⟨0, _⟩ => show 256 + 1 * ((y0 : ℕ) - 256) = (y0 : ℕ); omega
      | ⟨1, _⟩ => show 0 + 1 * (k : ℕ) = (k : ℕ); omega)))
      (fun k => by
      exact congrArg (V m c main_arg1) (funext fun a => Fin.ext (by
      match a with
      | ⟨0, _⟩ => show 0 + 1 * (k : ℕ) = (k : ℕ); omega
      | ⟨1, _⟩ => show 0 + 1 * (y1 : ℕ) = (y1 : ℕ); omega)))

/-- A block of the output at the first point. -/
theorem point_A (c : Dev nD) (t : Fin cfg0.N) (h0 : t.val % 16 = 0) (h1 : ¬1 ≤ t.val) (y : S512x2048.Idx) :
    (outsAt0 m c t.val t.isLt).1 y = block (iblk m c 0 t) (V m c main_arg1) (iblk m c 1 t) (iblk m c 2 t) (iblk m c 3 t) y := by
  rw [outsAt0_A m c t h0 h1]
  dsimp only
  frame_open
  simp (disch := decide) only [↓ View.readCov_skip, ↓ View.readCov_cons_toLoadRect, ↓ View.readCov_fill]
  frame_out
  idx_vars y
  by_cases hy : (y0 : ℕ) < 256
  · iterate 5 (rw [Layer.past0]; swap; · show ¬(256 ≤ (y0 : ℕ) ∧ (y0 : ℕ) < _); omega)
    rw [Layer.here2 (⟨y0, hy⟩ : Fin 256) y1 (Nat.zero_add _).symm (Nat.zero_add _).symm]
    refine (row_A0 _ _ _ _ _ _ _ _ _ _).trans ?_
    refine row_block rfl (fun k => ?_) (fun k j => ?_) (fun k j => ?_) (fun k j => ?_) (fun k j => ?_) ?_ ?_
    · exact congrArg (iblk m c 0 t) (funext fun a => Fin.ext (by
        match a with
        | ⟨0, _⟩ => show 0 + 1 * (y0 : ℕ) = (y0 : ℕ); omega
        | ⟨1, _⟩ => show 0 + 1 * (k : ℕ) = (k : ℕ); omega))
    · exact congrArg (V m c main_arg1) (funext fun a => Fin.ext (by
        match a with
        | ⟨0, _⟩ => show 0 + 1 * (k : ℕ) = (k : ℕ); omega
        | ⟨1, _⟩ => show 0 + 1 * (j : ℕ) = (j : ℕ); omega))
    · exact congrArg (V m c main_arg1) (funext fun a => Fin.ext (by
        match a with
        | ⟨0, _⟩ => show 0 + 1 * (k : ℕ) = (k : ℕ); omega
        | ⟨1, _⟩ => show 512 + 1 * (j : ℕ) = 512 + (j : ℕ); omega))
    · exact congrArg (V m c main_arg1) (funext fun a => Fin.ext (by
        match a with
        | ⟨0, _⟩ => show 0 + 1 * (k : ℕ) = (k : ℕ); omega
        | ⟨1, _⟩ => show 1024 + 1 * (j : ℕ) = 1024 + (j : ℕ); omega))
    · exact congrArg (V m c main_arg1) (funext fun a => Fin.ext (by
        match a with
        | ⟨0, _⟩ => show 0 + 1 * (k : ℕ) = (k : ℕ); omega
        | ⟨1, _⟩ => show 1536 + 1 * (j : ℕ) = 1536 + (j : ℕ); omega))
    · exact congrArg (iblk m c 1 t) (funext fun a => Fin.ext (by
        match a with
        | ⟨0, _⟩ => show 0 + 1 * (y0 : ℕ) = (y0 : ℕ); omega
        | ⟨1, _⟩ => show 0 + 1 * (y1 : ℕ) = (y1 : ℕ); omega))
    rw [View.readCov_eq_canon']
    refine (congrArg (View.canon _) (?_ : _ = (ix2 y0 y1 : S512x2048.Idx))).trans ?_
    · exact funext fun a => Fin.ext (by
        match a with
        | ⟨0, _⟩ => show 0 + 1 * (y0 : ℕ) = (y0 : ℕ); omega
        | ⟨1, _⟩ => show 0 + 1 * (y1 : ℕ) = (y1 : ℕ); omega)
    by_cases h1536 : 1536 ≤ (y1 : ℕ)
    · rw [Layer.here2 (⟨y0, hy⟩ : Fin 256) (⟨y1 - 1536, by omega⟩ : Fin 512) (Nat.zero_add _).symm (by show (y1 : ℕ) = 1536 + (y1 - 1536); omega)]
      exact tile
        (fun k => by
        exact congrArg (iblk m c 0 t) (funext fun a => Fin.ext (by
        match a with
        | ⟨0, _⟩ => show 0 + 1 * (y0 : ℕ) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 1536 + 1 * ((y1 : ℕ) - 1536) = (y1 : ℕ); omega)))
    rw [Layer.past1]; swap; · show ¬(1536 ≤ (y1 : ℕ) ∧ (y1 : ℕ) < _); omega
    by_cases h1024 : 1024 ≤ (y1 : ℕ)
    · rw [Layer.here2 (⟨y0, hy⟩ : Fin 256) (⟨y1 - 1024, by omega⟩ : Fin 512) (Nat.zero_add _).symm (by show (y1 : ℕ) = 1024 + (y1 - 1024); omega)]
      exact tile
        (fun k => by
        exact congrArg (iblk m c 0 t) (funext fun a => Fin.ext (by
        match a with
        | ⟨0, _⟩ => show 0 + 1 * (y0 : ℕ) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 1024 + 1 * ((y1 : ℕ) - 1024) = (y1 : ℕ); omega)))
    rw [Layer.past1]; swap; · show ¬(1024 ≤ (y1 : ℕ) ∧ (y1 : ℕ) < _); omega
    by_cases h512 : 512 ≤ (y1 : ℕ)
    · rw [Layer.here2 (⟨y0, hy⟩ : Fin 256) (⟨y1 - 512, by omega⟩ : Fin 512) (Nat.zero_add _).symm (by show (y1 : ℕ) = 512 + (y1 - 512); omega)]
      exact tile
        (fun k => by
        exact congrArg (iblk m c 0 t) (funext fun a => Fin.ext (by
        match a with
        | ⟨0, _⟩ => show 0 + 1 * (y0 : ℕ) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 512 + 1 * ((y1 : ℕ) - 512) = (y1 : ℕ); omega)))
    rw [Layer.past1]; swap; · show ¬(512 ≤ (y1 : ℕ) ∧ (y1 : ℕ) < _); omega
    rw [Layer.here2 (⟨y0, hy⟩ : Fin 256) (⟨y1, by omega⟩ : Fin 512) (Nat.zero_add _).symm (Nat.zero_add _).symm]
    exact tile
      (fun k => by
      exact congrArg (iblk m c 0 t) (funext fun a => Fin.ext (by
      match a with
      | ⟨0, _⟩ => show 0 + 1 * (y0 : ℕ) = (y0 : ℕ); omega
      | ⟨1, _⟩ => show 0 + 1 * (k : ℕ) = (k : ℕ); omega)))
      (fun k => by
      exact congrArg (V m c main_arg1) (funext fun a => Fin.ext (by
      match a with
      | ⟨0, _⟩ => show 0 + 1 * (k : ℕ) = (k : ℕ); omega
      | ⟨1, _⟩ => show 0 + 1 * (y1 : ℕ) = (y1 : ℕ); omega)))
  · rw [Layer.here2 (⟨y0 - 256, by omega⟩ : Fin 256) y1 (by show (y0 : ℕ) = 256 + (y0 - 256); omega) (Nat.zero_add _).symm]
    refine (row_A1 _ _ _ _ _ _ _ _ _ _).trans ?_
    refine row_block rfl (fun k => ?_) (fun k j => ?_) (fun k j => ?_) (fun k j => ?_) (fun k j => ?_) ?_ ?_
    · exact congrArg (iblk m c 0 t) (funext fun a => Fin.ext (by
        match a with
        | ⟨0, _⟩ => show 256 + 1 * ((y0 : ℕ) - 256) = (y0 : ℕ); omega
        | ⟨1, _⟩ => show 0 + 1 * (k : ℕ) = (k : ℕ); omega))
    · exact congrArg (V m c main_arg1) (funext fun a => Fin.ext (by
        match a with
        | ⟨0, _⟩ => show 0 + 1 * (k : ℕ) = (k : ℕ); omega
        | ⟨1, _⟩ => show 0 + 1 * (j : ℕ) = (j : ℕ); omega))
    · exact congrArg (V m c main_arg1) (funext fun a => Fin.ext (by
        match a with
        | ⟨0, _⟩ => show 0 + 1 * (k : ℕ) = (k : ℕ); omega
        | ⟨1, _⟩ => show 512 + 1 * (j : ℕ) = 512 + (j : ℕ); omega))
    · exact congrArg (V m c main_arg1) (funext fun a => Fin.ext (by
        match a with
        | ⟨0, _⟩ => show 0 + 1 * (k : ℕ) = (k : ℕ); omega
        | ⟨1, _⟩ => show 1024 + 1 * (j : ℕ) = 1024 + (j : ℕ); omega))
    · exact congrArg (V m c main_arg1) (funext fun a => Fin.ext (by
        match a with
        | ⟨0, _⟩ => show 0 + 1 * (k : ℕ) = (k : ℕ); omega
        | ⟨1, _⟩ => show 1536 + 1 * (j : ℕ) = 1536 + (j : ℕ); omega))
    · exact congrArg (iblk m c 1 t) (funext fun a => Fin.ext (by
        match a with
        | ⟨0, _⟩ => show 256 + 1 * ((y0 : ℕ) - 256) = (y0 : ℕ); omega
        | ⟨1, _⟩ => show 0 + 1 * (y1 : ℕ) = (y1 : ℕ); omega))
    rw [View.readCov_eq_canon']
    refine (congrArg (View.canon _) (?_ : _ = (ix2 y0 y1 : S512x2048.Idx))).trans ?_
    · exact funext fun a => Fin.ext (by
        match a with
        | ⟨0, _⟩ => show 256 + 1 * ((y0 : ℕ) - 256) = (y0 : ℕ); omega
        | ⟨1, _⟩ => show 0 + 1 * (y1 : ℕ) = (y1 : ℕ); omega)
    by_cases h1536 : 1536 ≤ (y1 : ℕ)
    · rw [Layer.here2 (⟨y0 - 256, by omega⟩ : Fin 256) (⟨y1 - 1536, by omega⟩ : Fin 512) (by show (y0 : ℕ) = 256 + (y0 - 256); omega) (by show (y1 : ℕ) = 1536 + (y1 - 1536); omega)]
      exact tile
        (fun k => by
        exact congrArg (iblk m c 0 t) (funext fun a => Fin.ext (by
        match a with
        | ⟨0, _⟩ => show 256 + 1 * ((y0 : ℕ) - 256) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 1536 + 1 * ((y1 : ℕ) - 1536) = (y1 : ℕ); omega)))
    rw [Layer.past1]; swap; · show ¬(1536 ≤ (y1 : ℕ) ∧ (y1 : ℕ) < _); omega
    by_cases h1024 : 1024 ≤ (y1 : ℕ)
    · rw [Layer.here2 (⟨y0 - 256, by omega⟩ : Fin 256) (⟨y1 - 1024, by omega⟩ : Fin 512) (by show (y0 : ℕ) = 256 + (y0 - 256); omega) (by show (y1 : ℕ) = 1024 + (y1 - 1024); omega)]
      exact tile
        (fun k => by
        exact congrArg (iblk m c 0 t) (funext fun a => Fin.ext (by
        match a with
        | ⟨0, _⟩ => show 256 + 1 * ((y0 : ℕ) - 256) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 1024 + 1 * ((y1 : ℕ) - 1024) = (y1 : ℕ); omega)))
    rw [Layer.past1]; swap; · show ¬(1024 ≤ (y1 : ℕ) ∧ (y1 : ℕ) < _); omega
    by_cases h512 : 512 ≤ (y1 : ℕ)
    · rw [Layer.here2 (⟨y0 - 256, by omega⟩ : Fin 256) (⟨y1 - 512, by omega⟩ : Fin 512) (by show (y0 : ℕ) = 256 + (y0 - 256); omega) (by show (y1 : ℕ) = 512 + (y1 - 512); omega)]
      exact tile
        (fun k => by
        exact congrArg (iblk m c 0 t) (funext fun a => Fin.ext (by
        match a with
        | ⟨0, _⟩ => show 256 + 1 * ((y0 : ℕ) - 256) = (y0 : ℕ); omega
        | ⟨1, _⟩ => show 0 + 1 * (k : ℕ) = (k : ℕ); omega)))
        (fun k => by
        exact congrArg (V m c main_arg1) (funext fun a => Fin.ext (by
        match a with
        | ⟨0, _⟩ => show 0 + 1 * (k : ℕ) = (k : ℕ); omega
        | ⟨1, _⟩ => show 512 + 1 * ((y1 : ℕ) - 512) = (y1 : ℕ); omega)))
    rw [Layer.past1]; swap; · show ¬(512 ≤ (y1 : ℕ) ∧ (y1 : ℕ) < _); omega
    rw [Layer.here2 (⟨y0 - 256, by omega⟩ : Fin 256) (⟨y1, by omega⟩ : Fin 512) (by show (y0 : ℕ) = 256 + (y0 - 256); omega) (Nat.zero_add _).symm]
    exact tile
      (fun k => by
      exact congrArg (iblk m c 0 t) (funext fun a => Fin.ext (by
      match a with
      | ⟨0, _⟩ => show 256 + 1 * ((y0 : ℕ) - 256) = (y0 : ℕ); omega
      | ⟨1, _⟩ => show 0 + 1 * (k : ℕ) = (k : ℕ); omega)))
      (fun k => by
      exact congrArg (V m c main_arg1) (funext fun a => Fin.ext (by
      match a with
      | ⟨0, _⟩ => show 0 + 1 * (k : ℕ) = (k : ℕ); omega
      | ⟨1, _⟩ => show 0 + 1 * (y1 : ℕ) = (y1 : ℕ); omega)))

/-! ## The whole array -/

/-- Where each window's block sits at a point. -/
theorem idx : ∀ t : Fin cfg0.N, win0_0.index t = ![t.val, 0] ∧ win0_1.index t = ![t.val, 0] ∧ win0_2.index t = ![0, 3]
    ∧ win0_3.index t = ![0, 0] ∧ win0_4.index t = ![t.val, 0] :=
  (by decide +kernel : ∀ t : Fin grid0.N, _)

open Cert.Reference3Ideal.Read in
/-- An entry of the reference's result, as the kernel's sums have it. -/
theorem ref_at (A : FVec Ideal S8192x5632 .bf16) (W : FVec Ideal S5632x2048 .bf16) (X : FVec Ideal S8192x2048 .f32) (T : FVec Ideal S1x8192 .f32)
    (G : FVec Ideal S2048 .f32) (i0 : Fin 8192) (i1 : Fin 2048) : val_main_v22 (F := Ideal) A W X T G (ix2 i0 i1)
      = X (ix2 i0 i1) + (∑ k : Fin 5632, A (ix2 i0 k) * W (ix2 k i1)) * Ideal.rsqrt ((∑ j : Fin 2048,
          (∑ k : Fin 5632, A (ix2 i0 k) * W (ix2 k j)) * ∑ k : Fin 5632, A (ix2 i0 k) * W (ix2 k j)) * Ideal.ofBits .f32 973078528#32
          + Ideal.ofBits .f32 897988541#32) * (T (ix2 0 ⟨6144 + i1, by omega⟩) * G (ix1 i1)) := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rw [Layer.mean_2048]
  exact congrArg (X (ix2 i0 i1) + ·) (by rw [mul_left_comm])

/-- The gain's one row is the gain. -/
theorem gain_row (c : Dev nD) (t : Fin cfg0.N) (q : Fin 2048) :
    iblk m c 3 t (ix2 0 q) = m ((c : Thread nD τ).loc main_arg4) (ix1 q) := by
  blk_point [iblk, V, idx t]

/-- The call's result, whole, is the reference's. -/
theorem final (c : Dev nD) : (dats m 0 c).arrAt 4 cfg0.N
    = Cert.Reference3Ideal.Read.val_main_v22 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4]
  have hN : t.val < 16 := lt_of_lt_of_eq t.isLt N_0
  have e : (outsAt0 m c t.val t.isLt).1 y = block (iblk m c 0 t) (V m c main_arg1) (iblk m c 1 t) (iblk m c 2 t) (iblk m c 3 t) y := by
    by_cases h1 : 1 ≤ t.val
    · exact point_B m c t (by omega) h1 y
    · exact point_A m c t (by omega) h1 y
  refine e.trans ?_
  obtain ⟨y0, y1, rfl⟩ : ∃ (y0 : Fin 512) (y1 : Fin 2048), y = ix2 y0 y1 := ⟨y 0, y 1, by funext a; fin_cases a <;> rfl⟩
  have hi : (win0_4.blk t).view.emb (ix2 y0 y1) = (ix2 (⟨512 * t.val + y0, by omega⟩ : Fin 8192) y1 : S8192x2048.Idx) := by
    blk_ext [idx t]
  rw [hi]
  refine Eq.trans ?_ (ref_at _ _ _ _ _ _ _).symm
  unfold block dot
  blk_point [iblk, V, idx t]
end Cert.Kernel3Ideal.Down
-- ==== Proof.MixRunA.lean ====
/- The mixer's body at the grid's first point, where it also brings the three weights it keeps into its own memory. -/
module

public import proofs.«01_k».proof.Proof.Gen.KernelIdeal.Frame.Runs

@[expose] public section

-- the blocks have long axes: membership in a rectangle recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) :
    Σ' (L18 : List (View.Piece (Elt F) S256x2048 .f32)), Σ' (L19 : List (View.Piece (Elt F) S256x2048 .bf16)), Σ' (LS9 : List (View.Piece (Elt F) S2048x2048 .bf16)), Σ' (LS10 : List (View.Piece (Elt F) S1024x2048 .bf16)), Σ' (LS11 : List (View.Piece (Elt F) S2048x2048 .bf16)), Σ' (LT0 : List (View.Piece (Elt F) S256x2048 .bf16)), Σ' (LT1 : List (View.Piece (Elt F) S288x1024 .f32)), Σ' (LT2 : List (View.Piece (Elt F) S288x1024 .f32)), Σ' (LT3 : List (View.Piece (Elt F) S288x768 .f32)), Σ' (LT4 : List (View.Piece (Elt F) S288x512 .f32)), Σ' (LT5 : List (View.Piece (Elt F) S288x256 .f32)), Σ' (LT6 : List (View.Piece (Elt F) S256x1024 .bf16)), Σ' (LT7 : List (View.Piece (Elt F) S256x2048 .bf16)), { LT8 : List (View.Piece (Elt F) S256x2048 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg18 fullShare x14 ∗ owns (c : Thread nD τ) arg19 fullShare x15 ∗ owns (c : Thread nD τ) arg20 fullShare x16 ∗ owns (c : Thread nD τ) arg21 fullShare x17 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg18 fullShare x14 ∗ owns (c : Thread nD τ) arg19 fullShare x15 ∗ owns (c : Thread nD τ) arg20 fullShare x16 ∗ owns (c : Thread nD τ) arg21 fullShare x17 ∗ (∃ f, arg22.view.loc (c : Thread nD τ) ↦[arg22.view.set]{fullShare} arg22.view.writes (Elt F) f L18) ∗ (∃ f, arg23.view.loc (c : Thread nD τ) ↦[arg23.view.set]{fullShare} arg23.view.writes (Elt F) f L19) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1) ∗ (∃ f, arg26.view.loc (c : Thread nD τ) ↦[arg26.view.set]{fullShare} arg26.view.writes (Elt F) f LT2) ∗ (∃ f, arg27.view.loc (c : Thread nD τ) ↦[arg27.view.set]{fullShare} arg27.view.writes (Elt F) f LT3) ∗ (∃ f, arg28.view.loc (c : Thread nD τ) ↦[arg28.view.set]{fullShare} arg28.view.writes (Elt F) f LT4) ∗ (∃ f, arg29.view.loc (c : Thread nD τ) ↦[arg29.view.set]{fullShare} arg29.view.writes (Elt F) f LT5) ∗ (∃ f, arg30.view.loc (c : Thread nD τ) ↦[arg30.view.set]{fullShare} arg30.view.writes (Elt F) f LT6) ∗ (∃ f, arg31.view.loc (c : Thread nD τ) ↦[arg31.view.set]{fullShare} arg31.view.writes (Elt F) f LT7) ∗ (∃ f, arg32.view.loc (c : Thread nD τ) ↦[arg32.view.set]{fullShare} arg32.view.writes (Elt F) f LT8) ∗ (∃ f, arg33.view.loc (c : Thread nD τ) ↦[arg33.view.set]{fullShare} arg33.view.writes (Elt F) f LS9) ∗ (∃ f, arg34.view.loc (c : Thread nD τ) ↦[arg34.view.set]{fullShare} arg34.view.writes (Elt F) f LS10) ∗ (∃ f, arg35.view.loc (c : Thread nD τ) ↦[arg35.view.set]{fullShare} arg35.view.writes (Elt F) f LS11) ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_token_mix i arg1 harg1 arg2 harg2 arg3 harg3 arg4 harg4 arg5 harg5 arg6 harg6 arg7 harg7 arg8 harg8 arg9 harg9 arg10 harg10 arg11 harg11 arg12 harg12 arg13 harg13 arg14 harg14 (Memref.whole main_arg9) (Memref.isWhole_whole _) (Memref.whole main_arg10) (Memref.isWhole_whole _) (Memref.whole main_arg11) (Memref.isWhole_whole _) arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 cc0_scratch12) K } := by
  refine ⟨?_, ?_, ?_, ?_, ?_, ?_, ?_, ?_, ?_, ?_, ?_, ?_, ?_, ?_, fun W K => ?run⟩
  case run =>
    simp only [cc0_token_mix_eq_skeleton]; unfold cc0_token_mix_skel
    simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hq0, Hq1, Hq2, Hh0, Hh1, Hh2, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg18.eq_unread hf14; obtain rfl := harg19.eq_unread hf15; obtain rfl := harg20.eq_unread hf16; obtain rfl := harg21.eq_unread hf17
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg18.read_unread _
      iexact H14
    isplitl [H15]
    · iexists _; isplitr; · ipureintro; exact harg19.read_unread _
      iexact H15
    isplitl [H16]
    · iexists _; isplitr; · ipureintro; exact harg20.read_unread _
      iexact H16
    isplitl [H17]
    · iexists _; isplitr; · ipureintro; exact harg21.read_unread _
      iexact H17
    isplitl [H18]; · iexists _; iexact H18
    isplitl [H19]; · iexists _; iexact H19
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW

end Cert.KernelIdeal.Gen

end
-- ==== Proof.MixRunB.lean ====
/- The mixer's body at every later point, where the kept weights are read back. -/
module

public import proofs.«01_k».proof.Proof.MixRunA

@[expose] public section

-- the blocks have long axes: membership in a rectangle recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken, `scf.if` 1 taken: points 1, 2, … 31: 31 of 32), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : ¬cond0_0 i) (hc1 : cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (xs9 : Vec F S2048x2048 .bf16) (xs10 : Vec F S1024x2048 .bf16) (xs11 : Vec F S2048x2048 .bf16) (fh0 : HbBuf0 (F := F) c hbM0_0) (fh1 : HbBuf0 (F := F) c hbM0_1) (fh2 : HbBuf0 (F := F) c hbM0_2) :
    Σ' (L18 : List (View.Piece (Elt F) S256x2048 .f32)), Σ' (L19 : List (View.Piece (Elt F) S256x2048 .bf16)), Σ' (LS9 : List (View.Piece (Elt F) S2048x2048 .bf16)), Σ' (LS10 : List (View.Piece (Elt F) S1024x2048 .bf16)), Σ' (LS11 : List (View.Piece (Elt F) S2048x2048 .bf16)), Σ' (LT0 : List (View.Piece (Elt F) S256x2048 .bf16)), Σ' (LT1 : List (View.Piece (Elt F) S288x1024 .f32)), Σ' (LT2 : List (View.Piece (Elt F) S288x1024 .f32)), Σ' (LT3 : List (View.Piece (Elt F) S288x768 .f32)), Σ' (LT4 : List (View.Piece (Elt F) S288x512 .f32)), Σ' (LT5 : List (View.Piece (Elt F) S288x256 .f32)), Σ' (LT6 : List (View.Piece (Elt F) S256x1024 .bf16)), Σ' (LT7 : List (View.Piece (Elt F) S256x2048 .bf16)), { LT8 : List (View.Piece (Elt F) S256x2048 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg18 fullShare x14 ∗ owns (c : Thread nD τ) arg19 fullShare x15 ∗ owns (c : Thread nD τ) arg20 fullShare x16 ∗ owns (c : Thread nD τ) arg21 fullShare x17 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ owns (c : Thread nD τ) arg33 fullShare xs9 ∗ owns (c : Thread nD τ) arg34 fullShare xs10 ∗ owns (c : Thread nD τ) arg35 fullShare xs11 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg18 fullShare x14 ∗ owns (c : Thread nD τ) arg19 fullShare x15 ∗ owns (c : Thread nD τ) arg20 fullShare x16 ∗ owns (c : Thread nD τ) arg21 fullShare x17 ∗ (∃ f, arg22.view.loc (c : Thread nD τ) ↦[arg22.view.set]{fullShare} arg22.view.writes (Elt F) f L18) ∗ (∃ f, arg23.view.loc (c : Thread nD τ) ↦[arg23.view.set]{fullShare} arg23.view.writes (Elt F) f L19) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1) ∗ (∃ f, arg26.view.loc (c : Thread nD τ) ↦[arg26.view.set]{fullShare} arg26.view.writes (Elt F) f LT2) ∗ (∃ f, arg27.view.loc (c : Thread nD τ) ↦[arg27.view.set]{fullShare} arg27.view.writes (Elt F) f LT3) ∗ (∃ f, arg28.view.loc (c : Thread nD τ) ↦[arg28.view.set]{fullShare} arg28.view.writes (Elt F) f LT4) ∗ (∃ f, arg29.view.loc (c : Thread nD τ) ↦[arg29.view.set]{fullShare} arg29.view.writes (Elt F) f LT5) ∗ (∃ f, arg30.view.loc (c : Thread nD τ) ↦[arg30.view.set]{fullShare} arg30.view.writes (Elt F) f LT6) ∗ (∃ f, arg31.view.loc (c : Thread nD τ) ↦[arg31.view.set]{fullShare} arg31.view.writes (Elt F) f LT7) ∗ (∃ f, arg32.view.loc (c : Thread nD τ) ↦[arg32.view.set]{fullShare} arg32.view.writes (Elt F) f LT8) ∗ owns (c : Thread nD τ) arg33 fullShare xs9 ∗ owns (c : Thread nD τ) arg34 fullShare xs10 ∗ owns (c : Thread nD τ) arg35 fullShare xs11 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_token_mix i arg1 harg1 arg2 harg2 arg3 harg3 arg4 harg4 arg5 harg5 arg6 harg6 arg7 harg7 arg8 harg8 arg9 harg9 arg10 harg10 arg11 harg11 arg12 harg12 arg13 harg13 arg14 harg14 (Memref.whole main_arg9) (Memref.isWhole_whole _) (Memref.whole main_arg10) (Memref.isWhole_whole _) (Memref.whole main_arg11) (Memref.isWhole_whole _) arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 cc0_scratch12) K } := by
  refine ⟨?_, ?_, [], [], [], ?_, ?_, ?_, ?_, ?_, ?_, ?_, ?_, ?_, fun W K => ?run⟩
  case run =>
    simp only [cc0_token_mix_eq_skeleton]; unfold cc0_token_mix_skel
    simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%fs9, %hfs9, HS9⟩, ⟨%fs10, %hfs10, HS10⟩, ⟨%fs11, %hfs11, HS11⟩, Hq0, Hq1, Hq2, Hh0, Hh1, Hh2, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg18.eq_unread hf14; obtain rfl := harg19.eq_unread hf15; obtain rfl := harg20.eq_unread hf16; obtain rfl := harg21.eq_unread hf17; obtain rfl := harg33.eq_unread hfs9; obtain rfl := harg34.eq_unread hfs10; obtain rfl := harg35.eq_unread hfs11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg18.read_unread _
      iexact H14
    isplitl [H15]
    · iexists _; isplitr; · ipureintro; exact harg19.read_unread _
      iexact H15
    isplitl [H16]
    · iexists _; isplitr; · ipureintro; exact harg20.read_unread _
      iexact H16
    isplitl [H17]
    · iexists _; isplitr; · ipureintro; exact harg21.read_unread _
      iexact H17
    isplitl [H18]; · iexists _; iexact H18
    isplitl [H19]; · iexists _; iexact H19
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]
    · iexists _; isplitr; · ipureintro; exact harg33.read_unread _
      iexact HS9
    isplitl [HS10]
    · iexists _; isplitr; · ipureintro; exact harg34.read_unread _
      iexact HS10
    isplitl [HS11]
    · iexists _; isplitr; · ipureintro; exact harg35.read_unread _
      iexact HS11
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW

end Cert.KernelIdeal.Gen

end
-- ==== Proof.MixDats.lean ====
/- What the mixer's stores leave at each point, and the data of its proof. -/
module

public import proofs.«01_k».proof.Proof.MixRunB
public import Idealize.ShloMosaic.Lib.Claim

@[expose] public section

-- the blocks have long axes: membership in a rectangle recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Case A's pieces for output 18 tile its block (2 stores of `S128x2048`), so they cover it. -/
theorem cover0_A_18 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).1 S128x2048.size (by sl_kernel_rfl) y

/-- What case A leaves in output 18's staging buffer: its pieces read back over junk. -/
def out0_A_18 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) : Vec F S256x2048 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).1)

/-- Case A's pieces for output 19 tile its block (2 stores of `S128x2048`), so they cover it. -/
theorem cover0_A_19 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.1 S128x2048.size (by sl_kernel_rfl) y

/-- What case A leaves in output 19's staging buffer: its pieces read back over junk. -/
def out0_A_19 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) : Vec F S256x2048 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.1)

/-- Case A's pieces for scratch `arg33`, which the kernel carries between points, cover it: 1 piece of `S2048x2048` tiling it. -/
theorem scover0_A_9 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) (y : S2048x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.2.1 S2048x2048.size (by sl_kernel_rfl) y

/-- What case A leaves in scratch `arg33`: its pieces read back over junk. -/
def sout0_A_9 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) : Vec F S2048x2048 .bf16 :=
  VS0_9.read (Elt F) (VS0_9.writes (Elt F) VS0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.2.1)

/-- Case A's pieces for scratch `arg34`, which the kernel carries between points, cover it: 1 piece of `S1024x2048` tiling it. -/
theorem scover0_A_10 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) (y : S1024x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.2.2.1 S1024x2048.size (by sl_kernel_rfl) y

/-- What case A leaves in scratch `arg34`: its pieces read back over junk. -/
def sout0_A_10 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) : Vec F S1024x2048 .bf16 :=
  VS0_10.read (Elt F) (VS0_10.writes (Elt F) VS0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.2.2.1)

/-- Case A's pieces for scratch `arg35`, which the kernel carries between points, cover it: 1 piece of `S2048x2048` tiling it. -/
theorem scover0_A_11 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) (y : S2048x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.2.2.2.1 S2048x2048.size (by sl_kernel_rfl) y

/-- What case A leaves in scratch `arg35`: its pieces read back over junk. -/
def sout0_A_11 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : cond0_0 i) (hc1 : ¬cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (fh0 : HbBuf0 (F := F) c hbM0_0) (fh1 : HbBuf0 (F := F) c hbM0_1) (fh2 : HbBuf0 (F := F) c hbM0_2) : Vec F S2048x2048 .bf16 :=
  VS0_11.read (Elt F) (VS0_11.writes (Elt F) VS0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 fh0 fh1 fh2).2.2.2.2.1)

/-- Case B's pieces for output 18 tile its block (2 stores of `S128x2048`), so they cover it. -/
theorem cover0_B_18 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : ¬cond0_0 i) (hc1 : cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (xs9 : Vec F S2048x2048 .bf16) (xs10 : Vec F S1024x2048 .bf16) (xs11 : Vec F S2048x2048 .bf16) (fh0 : HbBuf0 (F := F) c hbM0_0) (fh1 : HbBuf0 (F := F) c hbM0_1) (fh2 : HbBuf0 (F := F) c hbM0_2) (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 xs9 xs10 xs11 fh0 fh1 fh2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 xs9 xs10 xs11 fh0 fh1 fh2).1 S128x2048.size (by sl_kernel_rfl) y

/-- What case B leaves in output 18's staging buffer: its pieces read back over junk. -/
def out0_B_18 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : ¬cond0_0 i) (hc1 : cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (xs9 : Vec F S2048x2048 .bf16) (xs10 : Vec F S1024x2048 .bf16) (xs11 : Vec F S2048x2048 .bf16) (fh0 : HbBuf0 (F := F) c hbM0_0) (fh1 : HbBuf0 (F := F) c hbM0_1) (fh2 : HbBuf0 (F := F) c hbM0_2) : Vec F S256x2048 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 xs9 xs10 xs11 fh0 fh1 fh2).1)

/-- Case B's pieces for output 19 tile its block (2 stores of `S128x2048`), so they cover it. -/
theorem cover0_B_19 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : ¬cond0_0 i) (hc1 : cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (xs9 : Vec F S2048x2048 .bf16) (xs10 : Vec F S1024x2048 .bf16) (xs11 : Vec F S2048x2048 .bf16) (fh0 : HbBuf0 (F := F) c hbM0_0) (fh1 : HbBuf0 (F := F) c hbM0_1) (fh2 : HbBuf0 (F := F) c hbM0_2) (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 xs9 xs10 xs11 fh0 fh1 fh2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 xs9 xs10 xs11 fh0 fh1 fh2).2.1 S128x2048.size (by sl_kernel_rfl) y

/-- What case B leaves in output 19's staging buffer: its pieces read back over junk. -/
def out0_B_19 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : ¬cond0_0 i) (hc1 : cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (xs9 : Vec F S2048x2048 .bf16) (xs10 : Vec F S1024x2048 .bf16) (xs11 : Vec F S2048x2048 .bf16) (fh0 : HbBuf0 (F := F) c hbM0_0) (fh1 : HbBuf0 (F := F) c hbM0_1) (fh2 : HbBuf0 (F := F) c hbM0_2) : Vec F S256x2048 .bf16 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 x17 xs9 xs10 xs11 fh0 fh1 fh2).2.1)

/-- Case B stores nothing into scratch `arg33`: it holds what the point before left. -/
def sout0_B_9 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : ¬cond0_0 i) (hc1 : cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (xs9 : Vec F S2048x2048 .bf16) (xs10 : Vec F S1024x2048 .bf16) (xs11 : Vec F S2048x2048 .bf16) (fh0 : HbBuf0 (F := F) c hbM0_0) (fh1 : HbBuf0 (F := F) c hbM0_1) (fh2 : HbBuf0 (F := F) c hbM0_2) : Vec F S2048x2048 .bf16 := xs9

/-- Case B stores nothing into scratch `arg34`: it holds what the point before left. -/
def sout0_B_10 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : ¬cond0_0 i) (hc1 : cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (xs9 : Vec F S2048x2048 .bf16) (xs10 : Vec F S1024x2048 .bf16) (xs11 : Vec F S2048x2048 .bf16) (fh0 : HbBuf0 (F := F) c hbM0_0) (fh1 : HbBuf0 (F := F) c hbM0_1) (fh2 : HbBuf0 (F := F) c hbM0_2) : Vec F S1024x2048 .bf16 := xs10

/-- Case B stores nothing into scratch `arg35`: it holds what the point before left. -/
def sout0_B_11 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .bf16) (harg11 : arg11.IsWhole) (arg12 : Memref sig .tc .vmem S128x8 .f32) (harg12 : arg12.IsWhole) (arg13 : Memref sig .tc .vmem S4x256x256 .bf16) (harg13 : arg13.IsWhole) (arg14 : Memref sig .tc .vmem S1x1024 .f32) (harg14 : arg14.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S256x2048 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S288x1024 .f32) (harg25 : arg25.IsWhole) (arg26 : Memref sig .tc .vmem S288x1024 .f32) (harg26 : arg26.IsWhole) (arg27 : Memref sig .tc .vmem S288x768 .f32) (harg27 : arg27.IsWhole) (arg28 : Memref sig .tc .vmem S288x512 .f32) (harg28 : arg28.IsWhole) (arg29 : Memref sig .tc .vmem S288x256 .f32) (harg29 : arg29.IsWhole) (arg30 : Memref sig .tc .vmem S256x1024 .bf16) (harg30 : arg30.IsWhole) (arg31 : Memref sig .tc .vmem S256x2048 .bf16) (harg31 : arg31.IsWhole) (arg32 : Memref sig .tc .vmem S256x2048 .f32) (harg32 : arg32.IsWhole) (arg33 : Memref sig .tc .vmem S2048x2048 .bf16) (harg33 : arg33.IsWhole) (arg34 : Memref sig .tc .vmem S1024x2048 .bf16) (harg34 : arg34.IsWhole) (arg35 : Memref sig .tc .vmem S2048x2048 .bf16) (harg35 : arg35.IsWhole) (hc0 : ¬cond0_0 i) (hc1 : cond0_1 i)
    (x0 : Vec F S256x2048 .bf16) (x1 : Vec F S256x2048 .bf16) (x2 : Vec F S256x2048 .bf16) (x3 : Vec F S256x2048 .bf16) (x4 : Vec F S256x1024 .bf16) (x5 : Vec F S32x1024 .bf16) (x6 : Vec F S256x2048 .f32) (x7 : Vec F S1x2048 .f32) (x8 : Vec F S1x2048 .f32) (x9 : Vec F S1x2048 .f32) (x10 : Vec F S8x128x128 .bf16) (x11 : Vec F S128x8 .f32) (x12 : Vec F S4x256x256 .bf16) (x13 : Vec F S1x1024 .f32) (x14 : Vec F S1x2048 .f32) (x15 : Vec F S1x2048 .f32) (x16 : Vec F S1x2048 .f32) (x17 : Vec F S1x2048 .f32) (xs9 : Vec F S2048x2048 .bf16) (xs10 : Vec F S1024x2048 .bf16) (xs11 : Vec F S2048x2048 .bf16) (fh0 : HbBuf0 (F := F) c hbM0_0) (fh1 : HbBuf0 (F := F) c hbM0_1) (fh2 : HbBuf0 (F := F) c hbM0_2) : Vec F S2048x2048 .bf16 := xs11

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2048 .f32 × Vec F S256x2048 .bf16 × Vec F S2048x2048 .bf16 × Vec F S1024x2048 .bf16 × Vec F S2048x2048 .bf16
  | 0, hn => (out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨0, hn⟩).mpr (Nat.zero_mod _)) (fun h => (fun h => by (try dsimp only at h); omega) ((hcond0_1 ⟨0, hn⟩).mp h)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (V m c main_arg9) (V m c main_arg10) (V m c main_arg11), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨0, hn⟩).mpr (Nat.zero_mod _)) (fun h => (fun h => by (try dsimp only at h); omega) ((hcond0_1 ⟨0, hn⟩).mp h)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (V m c main_arg9) (V m c main_arg10) (V m c main_arg11), sout0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨0, hn⟩).mpr (Nat.zero_mod _)) (fun h => (fun h => by (try dsimp only at h); omega) ((hcond0_1 ⟨0, hn⟩).mp h)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (V m c main_arg9) (V m c main_arg10) (V m c main_arg11), sout0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨0, hn⟩).mpr (Nat.zero_mod _)) (fun h => (fun h => by (try dsimp only at h); omega) ((hcond0_1 ⟨0, hn⟩).mp h)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (V m c main_arg9) (V m c main_arg10) (V m c main_arg11), sout0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨0, hn⟩).mpr (Nat.zero_mod _)) (fun h => (fun h => by (try dsimp only at h); omega) ((hcond0_1 ⟨0, hn⟩).mp h)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (V m c main_arg9) (V m c main_arg10) (V m c main_arg11))
  | n + 1, hn =>
    if h0 : (n + 1) % 32 = 0 then
      if h1 : 1 ≤ (n + 1) then
        False.elim (by have hN : n + 1 < 32 := lt_of_lt_of_eq hn (show cfg0.N = 32 from N_0); omega)
      else
        (out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨n + 1, hn⟩).mpr h0) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (V m c main_arg9) (V m c main_arg10) (V m c main_arg11), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨n + 1, hn⟩).mpr h0) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (V m c main_arg9) (V m c main_arg10) (V m c main_arg11), sout0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨n + 1, hn⟩).mpr h0) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (V m c main_arg9) (V m c main_arg10) (V m c main_arg11), sout0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨n + 1, hn⟩).mpr h0) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (V m c main_arg9) (V m c main_arg10) (V m c main_arg11), sout0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨n + 1, hn⟩).mpr h0) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (V m c main_arg9) (V m c main_arg10) (V m c main_arg11))
    else
      if h1 : 1 ≤ (n + 1) then
        (out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) ((hcond0_1 ⟨n + 1, hn⟩).mpr h1) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_arg9) (V m c main_arg10) (V m c main_arg11), out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) ((hcond0_1 ⟨n + 1, hn⟩).mpr h1) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_arg9) (V m c main_arg10) (V m c main_arg11), sout0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) ((hcond0_1 ⟨n + 1, hn⟩).mpr h1) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_arg9) (V m c main_arg10) (V m c main_arg11), sout0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) ((hcond0_1 ⟨n + 1, hn⟩).mpr h1) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_arg9) (V m c main_arg10) (V m c main_arg11), sout0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) ((hcond0_1 ⟨n + 1, hn⟩).mpr h1) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_arg9) (V m c main_arg10) (V m c main_arg11))
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 32 = 0) (h1 : ¬1 ≤ t.val) :
    outsAt0 m c t.val t.isLt = (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (V m c main_arg9) (V m c main_arg10) (V m c main_arg11), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (V m c main_arg9) (V m c main_arg10) (V m c main_arg11), sout0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (V m c main_arg9) (V m c main_arg10) (V m c main_arg11), sout0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (V m c main_arg9) (V m c main_arg10) (V m c main_arg11), sout0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (V m c main_arg9) (V m c main_arg10) (V m c main_arg11)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : 1 ≤ t.val) :
    outsAt0 m c t.val t.isLt = (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg9) (V m c main_arg10) (V m c main_arg11), out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg9) (V m c main_arg10) (V m c main_arg11), sout0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg9) (V m c main_arg10) (V m c main_arg11), sout0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg9) (V m c main_arg10) (V m c main_arg11), sout0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg9) (V m c main_arg10) (V m c main_arg11)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ owns (c : Thread nD τ) scM0_9 fullShare ((outsAt0 m c n hn).2.2.1) ∗ owns (c : Thread nD τ) scM0_10 fullShare ((outsAt0 m c n hn).2.2.2.1) ∗ owns (c : Thread nD τ) scM0_11 fullShare ((outsAt0 m c n hn).2.2.2.2)) ∗ (∃ r, prngReg c r) ∗ iprop(semVal ((c : Thread nD τ), SemLoc.dma 29) 0 ∗ semVal ((c : Thread nD τ), SemLoc.dma 30) 0 ∗ semVal ((c : Thread nD τ), SemLoc.dma 31) 0) ∗ iprop(hbPt0 c hbM0_0 (V m c main_arg9) ∗ hbPt0 c hbM0_1 (V m c main_arg10) ∗ hbPt0 c hbM0_2 (V m c main_arg11)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ owns (c : Thread nD τ) scM0_9 fullShare ((outsAt0 m c n hn).2.2.1) ∗ owns (c : Thread nD τ) scM0_10 fullShare ((outsAt0 m c n hn).2.2.2.1) ∗ owns (c : Thread nD τ) scM0_11 fullShare ((outsAt0 m c n hn).2.2.2.2)) ∗ (∃ r, prngReg c r) ∗ iprop(semVal ((c : Thread nD τ), SemLoc.dma 29) 0 ∗ semVal ((c : Thread nD τ), SemLoc.dma 30) 0 ∗ semVal ((c : Thread nD τ), SemLoc.dma 31) 0) ∗ iprop(hbPt0 c hbM0_0 (V m c main_arg9) ∗ hbPt0 c hbM0_1 (V m c main_arg10) ∗ hbPt0 c hbM0_2 (V m c main_arg11))) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ owns (c : Thread nD τ) scM0_9 fullShare ((outsAt0 m c (n - 1) (by omega)).2.2.1) ∗ owns (c : Thread nD τ) scM0_10 fullShare ((outsAt0 m c (n - 1) (by omega)).2.2.2.1) ∗ owns (c : Thread nD τ) scM0_11 fullShare ((outsAt0 m c (n - 1) (by omega)).2.2.2.2)) ∗ (∃ r, prngReg c r) ∗ iprop(semVal ((c : Thread nD τ), SemLoc.dma 29) 0 ∗ semVal ((c : Thread nD τ), SemLoc.dma 30) 0 ∗ semVal ((c : Thread nD τ), SemLoc.dma 31) 0) ∗ iprop(hbPt0 c hbM0_0 (V m c main_arg9) ∗ hbPt0 c hbM0_1 (V m c main_arg10) ∗ hbPt0 c hbM0_2 (V m c main_arg11))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; each input's share of its array
    (`Pipeline.shareOf`: the full share of an array several windows stage, dealt among them). -/
def dats (_ : Fin 1) (c : Dev nD) : Dat τ (Elt F) Unit ℕ (Pipeline.UD sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨_ + 20, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t.val t.isLt).1 := by dsimp only [dats]
theorem after0_19 (c : Dev nD) (t : Fin cfg0.N) : (dats m 0 c).after 19 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

end Cert.KernelIdeal.Gen

end
-- ==== Proof.MixVal.lean ====
/- What the mixer's body computes from the blocks it reads: each scratch buffer's contents as one function of the blocks, and each store's
   payload as that function's tile. -/
module

public import proofs.«01_k».proof.Proof.MixDats
public import proofs.«01_k».proof.Proof.Common
public import Idealize.ShloMosaic.Lib.Pipeline.ValueKit
public import Idealize.ShloMosaic.Lib.Pipeline.ReadBack
public import Idealize.ShloMosaic.Lib.IdealHost

@[expose] public section

set_option maxRecDepth 16384

noncomputable section

namespace Cert.KernelIdeal.Mix

open Idealize.ShloMosaic Idealize.ShloMosaic.TcCoe Idealize.ShloMosaic.Pipeline
open Cert.KernelIdeal Cert.KernelIdeal.Gen

/-- The blocks a point of the mixer reads. -/
structure Blk where
  /-- the point's number -/
  i : BitVec 32
  /-- the gate, the gated half, and the two branch gates -/
  u : FVec Ideal S256x2048 .bf16
  v : FVec Ideal S256x2048 .bf16
  ga : FVec Ideal S256x2048 .bf16
  gb : FVec Ideal S256x2048 .bf16
  /-- the pooled tokens and the rows before them -/
  p : FVec Ideal S256x1024 .bf16
  h : FVec Ideal S32x1024 .bf16
  /-- the residual and its gate -/
  x : FVec Ideal S256x2048 .f32
  gate : FVec Ideal S1x2048 .f32
  /-- the layer norm's gain and bias -/
  g : FVec Ideal S1x2048 .f32
  b : FVec Ideal S1x2048 .f32
  /-- the chunk's weights and bias -/
  ws : FVec Ideal S8x128x128 .bf16
  bs : FVec Ideal S128x8 .f32
  /-- the pooling's weights and scale -/
  wp : FVec Ideal S4x256x256 .bf16
  ps : FVec Ideal S1x1024 .f32
  /-- the branch and output weights -/
  wa : FVec Ideal S2048x2048 .bf16
  wb : FVec Ideal S1024x2048 .bf16
  wo : FVec Ideal S2048x2048 .bf16
  /-- the two norms' gains, the shift and the scale -/
  gpost : FVec Ideal S1x2048 .f32
  shift : FVec Ideal S1x2048 .f32
  scale : FVec Ideal S1x2048 .f32
  gpre : FVec Ideal S1x2048 .f32

variable (B : Blk)

/-! ## Places in a rectangle -/

/-- A rectangle's place in a matrix. -/
theorem emb2 {n0 n1 m0 m1 o0 o1 : ℕ} {inb} (x : (Rect.unit (s := ⟨2, ![n0, n1]⟩) ![o0, o1] ![m0, m1] inb).shape.Idx) (r : Fin n0) (j : Fin n1)
    (hr : (r : ℕ) = o0 + x 0) (hj : (j : ℕ) = o1 + x 1) :
    (Rect.unit (s := ⟨2, ![n0, n1]⟩) ![o0, o1] ![m0, m1] inb).emb x = ix2 r j := funext fun a => Fin.ext <| by
  match a with
  | ⟨0, _⟩ => exact Eq.trans (by show o0 + 1 * (x 0 : ℕ) = o0 + x 0; omega) hr.symm
  | ⟨1, _⟩ => exact Eq.trans (by show o1 + 1 * (x 1 : ℕ) = o1 + x 1; omega) hj.symm

/-- A matrix's entries read through a rectangle. -/
theorem ld2 {Val : EltTy → Type} {e : EltTy} {n0 n1 m0 m1 o0 o1 : ℕ} {inb} (X : (⟨2, ![n0, n1]⟩ : Shape).Idx → Val e) (r : Fin m0) (q : Fin m1)
    (r' : Fin n0) (j : Fin n1) (hr : (r' : ℕ) = o0 + r) (hj : (j : ℕ) = o1 + q) :
    View.ld X (Rect.unit (s := ⟨2, ![n0, n1]⟩) ![o0, o1] ![m0, m1] inb) (ix2 r q) = X (ix2 r' j) :=
  congrArg X (emb2 (inb := inb) (ix2 r q) r' j hr hj)

/-- A stack of matrices' entries read through one matrix of it. -/
theorem ld3 {Val : EltTy → Type} {e : EltTy} {n0 n1 n2 o0 : ℕ} {inb} (X : (⟨3, ![n0, n1, n2]⟩ : Shape).Idx → Val e) (r : Fin n1) (q : Fin n2)
    (h : Fin n0) (hh : (h : ℕ) = o0) :
    View.ld X (Rect.unit (s := ⟨3, ![n0, n1, n2]⟩) ![o0, 0, 0] ![1, n1, n2] inb) (ix3 0 r q) = X (ix3 h r q) :=
  congrArg X (funext fun a => Fin.ext <| by
    match a with
    | ⟨0, _⟩ => exact Eq.trans (by show o0 + 1 * 0 = o0; omega) hh.symm
    | ⟨1, _⟩ => show 0 + 1 * (r : ℕ) = r; omega
    | ⟨2, _⟩ => show 0 + 1 * (q : ℕ) = q; omega)

/-- A store's payload is its tile of a function of rows and columns, where its entries are. -/
theorem piece2 {Val : EltTy → Type} {e : EltTy} {n0 n1 m0 m1 o0 o1 : ℕ} {inb} {w : (⟨2, ![m0, m1]⟩ : Shape).Idx → Val e}
    (G : Fin n0 → Fin n1 → Val e) (h0 : o0 + m0 ≤ n0) (h1 : o1 + m1 ≤ n1)
    (h : ∀ (r : Fin m0) (q : Fin m1), w (ix2 r q) = G ⟨o0 + r, by omega⟩ ⟨o1 + q, by omega⟩)
    (x : (Rect.unit (s := ⟨2, ![n0, n1]⟩) ![o0, o1] ![m0, m1] inb).shape.Idx) :
    w x = (fun y : (⟨2, ![n0, n1]⟩ : Shape).Idx => G (y 0) (y 1)) ((Rect.unit (s := ⟨2, ![n0, n1]⟩) ![o0, o1] ![m0, m1] inb).emb x) := by
  have hx0 : (x 0 : ℕ) < m0 := (x 0).isLt
  have hx1 : (x 1 : ℕ) < m1 := (x 1).isLt
  have e1 : w x = w (ix2 (⟨x 0, hx0⟩ : Fin m0) (⟨x 1, hx1⟩ : Fin m1)) := congrArg w (eq_ix2 (n0 := m0) (n1 := m1) x)
  rw [e1, h, emb2 x (⟨o0 + x 0, by omega⟩ : Fin n0) (⟨o1 + x 1, by omega⟩ : Fin n1) rfl rfl]
  rfl

/-! ## The chunked gating -/

/-- A row's mean over its columns. -/
def mean (V : Fin 2048 → EReal) : EReal := Ideal.div (∑ k, V k) (Ideal.ofBits .f32 0x45000000#32)

/-- A row's layer norm, with gain and bias. -/
def lnorm (V : Fin 2048 → EReal) (g b : EReal) (j : Fin 2048) : EReal :=
  (V j - mean V) * Ideal.rsqrt (mean (fun k => (V k - mean V) * (V k - mean V)) + Ideal.ofBits .f32 0x358637BD#32) * g + b

/-- A chunk's layer norm. -/
theorem vn_apply (v6 : FVec Ideal S128x2048 .bf16) (g b : FVec Ideal S1x2048 .f32) (r : Fin 128) (j : Fin 2048) :
    k0_pay78 (F := Ideal) v6 g b (ix2 r j) = lnorm (fun k => v6 (ix2 r k)) (g (ix2 0 j)) (b (ix2 0 j)) j := by
  open_payloads
  pointwise [lnorm, mean]

/-- A head's gating of a chunk: the head's columns at `off`. -/
def gpay (off : ℕ) (h : S128x2048.Slices ![0, off] S128x256) (v : FVec Ideal S128x2048 .bf16) (w : FVec Ideal S1x128x128 .bf16)
    (s : FVec Ideal S128x1 .f32) (u : FVec Ideal S128x256 .bf16) : FVec Ideal S128x256 .bf16 :=
  shapeCast S128x256 (mulf (F := Ideal) u (truncf (F := Ideal) .bf16 (addf (F := Ideal) (matmul (F := Ideal)
    dot_S128x128_S128x256_S128x256_1_0_0_1_n_n none
    (shapeCast S128x128 w shapeCasts_S1x128x128_S128x128) (extractStridedSlice S128x256 ![0, off] v h) (constant S128x256 .f32 0x00000000#32))
    (broadcastTo S128x256 (shapeCast S128x1 s shapeCasts_S128x1_S128x1) broadcasts_S128x1_S128x256)) bitsLt_bf16_f32)) shapeCasts_S128x256_S128x256

/-- An entry of a head's gating. -/
theorem gpay_apply (off : ℕ) (h) (v : FVec Ideal S128x2048 .bf16) (w : FVec Ideal S1x128x128 .bf16)
    (s : FVec Ideal S128x1 .f32) (u : FVec Ideal S128x256 .bf16) (r : Fin 128) (q : Fin 256) (ho : off + 256 ≤ 2048) :
    gpay off h v w s u (ix2 r q) = u (ix2 r q) * ((∑ k : Fin 128, w (ix3 0 r k) * v (ix2 k ⟨off + q, by omega⟩)) + s (ix2 r 0)) := by
  unfold gpay
  pointwise

/-- The layer norm of the block's rows. -/
def Blk.vn (r : Fin 256) (j : Fin 2048) : EReal := lnorm (fun k => B.v (ix2 r k)) (B.g (ix2 0 j)) (B.b (ix2 0 j)) j

/-- The chunked gating of the block's rows. -/
def Blk.gated (r : Fin 256) (j : Fin 2048) : EReal :=
  B.u (ix2 r j) * ((∑ k : Fin 128, B.ws (ix3 ⟨j / 256, by omega⟩ ⟨r % 128, by omega⟩ k) * B.vn ⟨128 * (r / 128) + k, by omega⟩ j)
    + B.bs (ix2 ⟨r % 128, by omega⟩ ⟨j / 256, by omega⟩))

/-- A store of the gating is its tile. -/
theorem gated_piece (o0 o1 a h : ℕ) (ha : o0 = 128 * a) (hh : o1 = 256 * h) (ha2 : a < 2) (hh2 : h < 8) (hs) (i1) (i2) (i3) (i4)
    (x : (Rect.unit (s := S256x2048) ![o0, o1] ![128, 256] i4).shape.Idx) :
    gpay o1 hs (k0_pay78 (F := Ideal) (View.ld (Val := Elt Ideal) (e' := .bf16) B.v (Rect.unit (s := S256x2048) ![o0, 0] ![128, 2048] i1)) B.g B.b)
      (View.ld (Val := Elt Ideal) (e' := .bf16) B.ws (Rect.unit (s := S8x128x128) ![h, 0, 0] ![1, 128, 128] i2))
      (View.ld (Val := Elt Ideal) (e' := .f32) B.bs (Rect.unit (s := S128x8) ![0, h] ![128, 1] i3))
      (View.ld (Val := Elt Ideal) (e' := .bf16) B.u (Rect.unit (s := S256x2048) ![o0, o1] ![128, 256] i4)) x
      = (fun y : S256x2048.Idx => B.gated (y 0) (y 1)) ((Rect.unit (s := S256x2048) ![o0, o1] ![128, 256] i4).emb x) := by
  subst ha hh
  refine piece2 (Val := Elt Ideal) (e := .bf16) B.gated (by omega) (by omega) (fun r q => ?_) x
  rw [gpay_apply _ _ _ _ _ _ _ _ (by omega)]
  have e1 : (⟨(256 * h + q) / 256, by omega⟩ : Fin 8) = ⟨h, hh2⟩ := Fin.ext (by show (256 * h + (q : ℕ)) / 256 = h; omega)
  have e2 : (⟨(128 * a + r) % 128, by omega⟩ : Fin 128) = r := Fin.ext (by show (128 * a + (r : ℕ)) % 128 = r; omega)
  have e3 : (128 * a + (r : ℕ)) / 128 = a := by omega
  unfold Blk.gated Blk.vn
  simp only [e1, e2, e3]
  refine congrArg₂ (· * ·) (ld2 _ _ _ _ _ rfl rfl) (congrArg₂ (· + ·) (Finset.sum_congr rfl fun k _ => congrArg₂ (· * ·) (ld3 _ _ _ _ rfl) ?_)
    (ld2 _ _ _ _ _ (Nat.zero_add _).symm rfl))
  rw [vn_apply]
  exact congrArg (fun V => lnorm V _ _ _) (funext fun j => ld2 _ _ _ _ _ rfl (Nat.zero_add _).symm)

/-! ## The pooling -/

/-- The pooled tokens over the block, the 32 rows before them first. -/
def Blk.pe (n : ℕ) (j : Fin 1024) : EReal :=
  if h : n < 32 then k0_pay102 (F := Ideal) B.i B.h (ix2 ⟨n, h⟩ j)
  else if h' : n < 288 then B.p (ix2 ⟨n - 32, by omega⟩ j) else 0

/-- The sums of 2, 4, 8 and 16 consecutive rows. -/
def Blk.w2 (n : ℕ) (j : Fin 1024) : EReal := B.pe n j + B.pe (n - 1) j
/-- Sums of four rows. -/
def Blk.w4 (n : ℕ) (j : Fin 1024) : EReal := B.w2 n j + B.w2 (n - 2) j
/-- Sums of eight rows. -/
def Blk.w8 (n : ℕ) (j : Fin 1024) : EReal := B.w4 n j + B.w4 (n - 4) j
/-- Sums of sixteen rows. -/
def Blk.w16 (n : ℕ) (j : Fin 1024) : EReal := B.w8 n j + B.w8 (n - 8) j

/-- The rows before the block, stored. -/
theorem pe_halo (i) (x : (Rect.unit (s := S288x1024) ![0, 0] ![32, 1024] i).shape.Idx) :
    k0_pay102 (F := Ideal) B.i B.h x
      = (fun y : S288x1024.Idx => B.pe (y 0 : ℕ) (y 1)) ((Rect.unit (s := S288x1024) ![0, 0] ![32, 1024] i).emb x) := by
  refine piece2 (Val := Elt Ideal) (e := .f32) (w := k0_pay102 (F := Ideal) B.i B.h) (fun (n : Fin 288) j => B.pe n j)
    (by omega) (by omega) (fun r q => ?_) x
  show _ = B.pe (0 + r : ℕ) ⟨0 + q, _⟩
  simp only [Nat.zero_add]
  unfold Blk.pe
  rw [dif_pos r.isLt]

/-- The block's own rows, stored. -/
theorem pe_own (i) (x : (Rect.unit (s := S288x1024) ![32, 0] ![256, 1024] i).shape.Idx) :
    k0_pay103 (F := Ideal) B.p x
      = (fun y : S288x1024.Idx => B.pe (y 0 : ℕ) (y 1)) ((Rect.unit (s := S288x1024) ![32, 0] ![256, 1024] i).emb x) := by
  refine piece2 (Val := Elt Ideal) (e := .f32) (w := k0_pay103 (F := Ideal) B.p) (fun (n : Fin 288) j => B.pe n j)
    (by omega) (by omega) (fun r q => ?_) x
  show _ = B.pe (32 + r : ℕ) ⟨0 + q, _⟩
  simp only [Nat.zero_add]
  unfold Blk.pe
  rw [dif_neg (by omega), dif_pos (by omega)]
  have e1 : (⟨32 + (r : ℕ) - 32, by omega⟩ : Fin 256) = r := Fin.ext (by show 32 + (r : ℕ) - 32 = r; omega)
  rw [e1]
  open_payloads
  pointwise

/-- The sum of two reads of a buffer, one `d` rows above the other. -/
def spay {N C M D : ℕ} (o d c : ℕ) (G : ℕ → Fin C → EReal) (cast : (⟨2, ![M, D]⟩ : Shape).ShapeCasts ⟨2, ![M, D]⟩)
    (i1 : ∀ a : Fin 2, (![o, c] : Fin 2 → ℕ) a + (![M, D] : Fin 2 → ℕ) a ≤ (⟨2, ![N, C]⟩ : Shape).size a)
    (i2 : ∀ a : Fin 2, (![d, c] : Fin 2 → ℕ) a + (![M, D] : Fin 2 → ℕ) a ≤ (⟨2, ![N, C]⟩ : Shape).size a) :
    FVec Ideal ⟨2, ![M, D]⟩ .f32 :=
  shapeCast ⟨2, ![M, D]⟩ (addf (F := Ideal) (φ := .f32)
      (View.ld (Val := Elt Ideal) (e' := .f32) (fun y : (⟨2, ![N, C]⟩ : Shape).Idx => G (y 0 : ℕ) (y 1))
        (Rect.unit (s := ⟨2, ![N, C]⟩) ![o, c] ![M, D] i1))
      (View.ld (Val := Elt Ideal) (e' := .f32) (fun y : (⟨2, ![N, C]⟩ : Shape).Idx => G (y 0 : ℕ) (y 1))
        (Rect.unit (s := ⟨2, ![N, C]⟩) ![d, c] ![M, D] i2))) cast

/-- An entry of it. -/
theorem spay_apply {N C M D o d c : ℕ} (G : ℕ → Fin C → EReal) (cast) (i1) (i2) (r : Fin M) (q : Fin D) (hd : d ≤ o) (ho : o + M ≤ N)
    (hc : c + D ≤ C) : spay (N := N) o d c G cast i1 i2 (ix2 r q)
      = G (o + r) ⟨c + q, by omega⟩ + G (o + r - (o - d)) ⟨c + q, by omega⟩ := by
  unfold spay
  rw [show ∀ X : FVec Ideal ⟨2, ![M, D]⟩ .f32, shapeCast (⟨2, ![M, D]⟩ : Shape) X cast = X from fun X => shapeCast_self X cast]
  rw [addf_apply]
  rw [ld2 (Val := Elt Ideal) (e := .f32) (fun y : (⟨2, ![N, C]⟩ : Shape).Idx => G (y 0 : ℕ) (y 1)) r q ⟨o + r, by omega⟩ ⟨c + q, by omega⟩ rfl rfl,
    ld2 (Val := Elt Ideal) (e := .f32) (fun y : (⟨2, ![N, C]⟩ : Shape).Idx => G (y 0 : ℕ) (y 1)) r q ⟨d + r, by omega⟩ ⟨c + q, by omega⟩ rfl rfl]
  refine congrArg₂ (· + ·) rfl (congrArg (G · _) ?_)
  show d + (r : ℕ) = o + r - (o - d)
  omega

/-- A group's pooled tokens, projected and scaled. -/
def ypay (wd : BitVec 32) (pos : FVec Ideal S256x1 .f32) (s : FVec Ideal S256x256 .f32) (e : FVec Ideal S256x256 .f32)
    (w : FVec Ideal S1x256x256 .bf16) (sc : FVec Ideal S1x256 .f32) : FVec Ideal S256x256 .bf16 :=
  shapeCast S256x256 (truncf (F := Ideal) .bf16 (mulf (F := Ideal) (matmul (F := Ideal) dot_S256x256_S256x256_S256x256_1_0_0_1_n_n none
    (truncf (F := Ideal) .bf16 (subf (F := Ideal) (divf (F := Ideal) s (broadcastTo S256x256 (minimumf (F := Ideal) pos
      (broadcast S256x1 (Scalar.ofBits (F := Ideal) .f32 wd))) broadcasts_S256x1_S256x256)) e) bitsLt_bf16_f32)
    (shapeCast S256x256 w shapeCasts_S1x256x256_S256x256) (constant S256x256 .f32 0x00000000#32))
    (broadcastTo S256x256 (shapeCast S1x256 sc shapeCasts_S1x256_S1x256) broadcasts_S1x256_S256x256)) bitsLt_bf16_f32) shapeCasts_S256x256_S256x256

/-- An entry of it. -/
theorem ypay_apply (wd) (pos : FVec Ideal S256x1 .f32) (s : FVec Ideal S256x256 .f32) (e : FVec Ideal S256x256 .f32)
    (w : FVec Ideal S1x256x256 .bf16) (sc : FVec Ideal S1x256 .f32) (r q : Fin 256) :
    ypay wd pos s e w sc (ix2 r q) = (∑ k : Fin 256, (Ideal.div (s (ix2 r k)) (min (pos (ix2 r 0)) (Ideal.ofBits .f32 wd)) - e (ix2 r k))
      * w (ix3 0 k q)) * sc (ix2 0 q) := by
  unfold ypay
  pointwise

/-- A group's rows summed: 2, 4, 8 or 16 of them. -/
def Blk.wsum (g : ℕ) : ℕ → Fin 1024 → EReal := if g = 0 then B.w2 else if g = 1 then B.w4 else if g = 2 then B.w8 else B.w16

/-- A group's window, as a float word. -/
def word (g : ℕ) : BitVec 32 := if g = 0 then 0x40000000#32 else if g = 1 then 0x40800000#32 else if g = 2 then 0x41000000#32 else 0x41800000#32

/-- A row's mean over its window, less the row. -/
def Blk.pooled (r : Fin 256) (j : Fin 1024) : EReal :=
  Ideal.div (B.wsum (j / 256) (32 + r) j) (min (k0_pay109 (F := Ideal) B.i (ix2 r 0)) (Ideal.ofBits .f32 (word (j / 256)))) - B.pe (32 + r) j

/-- The pooling of the block's rows. -/
def Blk.ybin (r : Fin 256) (j : Fin 1024) : EReal :=
  (∑ k : Fin 256, B.pooled r ⟨256 * (j / 256) + k, by omega⟩ * B.wp (ix3 ⟨j / 256, by omega⟩ k ⟨j % 256, by omega⟩)) * B.ps (ix2 0 j)

/-- A store of the pooling is its tile. -/
theorem ybin_piece (g o : ℕ) (wd : BitVec 32) (ho : o = 256 * g) (hg : g < 4) (hw : wd = word g) (S E : FVec Ideal S256x256 .f32) (i1) (i2) (i3)
    (hS : ∀ r k : Fin 256, S (ix2 r k) = B.wsum g (32 + r) ⟨o + k, by omega⟩)
    (hE : ∀ r k : Fin 256, E (ix2 r k) = B.pe (32 + r) ⟨o + k, by omega⟩)
    (x : (Rect.unit (s := S256x1024) ![0, o] ![256, 256] i3).shape.Idx) :
    ypay wd (k0_pay109 (F := Ideal) B.i) S E
      (View.ld (Val := Elt Ideal) (e' := .bf16) B.wp (Rect.unit (s := S4x256x256) ![g, 0, 0] ![1, 256, 256] i1))
      (View.ld (Val := Elt Ideal) (e' := .f32) B.ps (Rect.unit (s := S1x1024) ![0, o] ![1, 256] i2)) x
      = (fun y : S256x1024.Idx => B.ybin (y 0) (y 1)) ((Rect.unit (s := S256x1024) ![0, o] ![256, 256] i3).emb x) := by
  subst ho hw
  refine piece2 (Val := Elt Ideal) (e := .bf16) B.ybin (by omega) (by omega) (fun r q => ?_) x
  rw [ypay_apply]
  have e0 : (⟨0 + (r : ℕ), by omega⟩ : Fin 256) = r := Fin.ext (Nat.zero_add _)
  have e1 : (⟨(256 * g + q) / 256, by omega⟩ : Fin 4) = ⟨g, hg⟩ := Fin.ext (by show (256 * g + (q : ℕ)) / 256 = g; omega)
  have e1' : (256 * g + (q : ℕ)) / 256 = g := by omega
  have e2 : (⟨(256 * g + q) % 256, by omega⟩ : Fin 256) = q := Fin.ext (by show (256 * g + (q : ℕ)) % 256 = q; omega)
  have e3 : ∀ k : Fin 256, (256 * g + (k : ℕ)) / 256 = g := fun k => by omega
  unfold Blk.ybin Blk.pooled
  simp only [e0, e1, e1', e2, e3, hS, hE, Nat.zero_add]
  refine congrArg₂ (· * ·) (Finset.sum_congr rfl fun k _ => congrArg₂ (· * ·) rfl (ld3 _ _ _ _ rfl)) (ld2 _ _ _ _ _ (Nat.zero_add _).symm rfl)

/-! ## The merge, the output projection and the norms -/

/-- A strip of the merge of the two branches. -/
def mpay (a : FVec Ideal S256x2048 .bf16) (wa : FVec Ideal S2048x512 .bf16) (y : FVec Ideal S256x1024 .bf16) (wb : FVec Ideal S1024x512 .bf16)
    (ga gb : FVec Ideal S256x512 .bf16) : FVec Ideal S256x512 .bf16 :=
  k0_pay118 (F := Ideal) a wa y wb ga gb

/-- An entry of it. -/
theorem mpay_apply (a : FVec Ideal S256x2048 .bf16) (wa : FVec Ideal S2048x512 .bf16) (y : FVec Ideal S256x1024 .bf16) (wb : FVec Ideal S1024x512 .bf16)
    (ga gb : FVec Ideal S256x512 .bf16) (r : Fin 256) (q : Fin 512) :
    mpay a wa y wb ga gb (ix2 r q) = ga (ix2 r q) * (∑ k : Fin 2048, a (ix2 r k) * wa (ix2 k q))
      + gb (ix2 r q) * (∑ k : Fin 1024, y (ix2 r k) * wb (ix2 k q)) := by
  unfold mpay
  open_payloads
  pointwise

/-- The merged branches of the block's rows. -/
def Blk.merged (r : Fin 256) (j : Fin 2048) : EReal :=
  B.ga (ix2 r j) * (∑ k : Fin 2048, B.gated r k * B.wa (ix2 k j)) + B.gb (ix2 r j) * (∑ k : Fin 1024, B.ybin r k * B.wb (ix2 k j))

/-- A store of the merge is its tile. -/
theorem merged_piece (o : ℕ) (ho : o + 512 ≤ 2048) (i0) (i0') (i1) (i2) (i3)
    (x : (Rect.unit (s := S256x2048) ![0, o] ![256, 512] i3).shape.Idx) :
    mpay (View.ld (Val := Elt Ideal) (e' := .bf16) (fun y : S256x2048.Idx => B.gated (y 0) (y 1)) (Rect.unit (s := S256x2048) ![0, 0] ![256, 2048] i0))
      (View.ld (Val := Elt Ideal) (e' := .bf16) B.wa (Rect.unit (s := S2048x2048) ![0, o] ![2048, 512] i1))
      (View.ld (Val := Elt Ideal) (e' := .bf16) (fun y : S256x1024.Idx => B.ybin (y 0) (y 1)) (Rect.unit (s := S256x1024) ![0, 0] ![256, 1024] i0'))
      (View.ld (Val := Elt Ideal) (e' := .bf16) B.wb (Rect.unit (s := S1024x2048) ![0, o] ![1024, 512] i2))
      (View.ld (Val := Elt Ideal) (e' := .bf16) B.ga (Rect.unit (s := S256x2048) ![0, o] ![256, 512] i3))
      (View.ld (Val := Elt Ideal) (e' := .bf16) B.gb (Rect.unit (s := S256x2048) ![0, o] ![256, 512] i3)) x
      = (fun y : S256x2048.Idx => B.merged (y 0) (y 1)) ((Rect.unit (s := S256x2048) ![0, o] ![256, 512] i3).emb x) := by
  refine piece2 (Val := Elt Ideal) (e := .bf16) B.merged (by omega) (by omega) (fun r q => ?_) x
  rw [mpay_apply]
  have e0 : (⟨0 + (r : ℕ), by omega⟩ : Fin 256) = r := Fin.ext (Nat.zero_add _)
  unfold Blk.merged
  rw [e0]
  refine congrArg₂ (· + ·) (congrArg₂ (· * ·) (ld2 _ _ _ _ _ (Nat.zero_add _).symm rfl) (Finset.sum_congr rfl fun k _ => congrArg₂ (· * ·)
      (ld2 _ r k r k (Nat.zero_add _).symm (Nat.zero_add _).symm) (ld2 _ _ _ _ _ (Nat.zero_add _).symm rfl)))
    (congrArg₂ (· * ·) (ld2 _ _ _ _ _ (Nat.zero_add _).symm rfl) (Finset.sum_congr rfl fun k _ => congrArg₂ (· * ·)
      (ld2 _ r k r k (Nat.zero_add _).symm (Nat.zero_add _).symm) (ld2 _ _ _ _ _ (Nat.zero_add _).symm rfl)))

/-- The output projection of the block's rows. -/
def Blk.mix (r : Fin 256) (j : Fin 2048) : EReal := ∑ k : Fin 2048, B.merged r k * B.wo (ix2 k j)

/-- A strip of the projection of half the rows. -/
theorem npay_apply (a : FVec Ideal S128x2048 .bf16) (w : FVec Ideal S2048x512 .bf16) (r : Fin 128) (q : Fin 512) :
    k0_pay125 (F := Ideal) a w (ix2 r q) = ∑ k : Fin 2048, a (ix2 r k) * w (ix2 k q) := by
  open_payloads
  pointwise

/-- Rows `o0 …` of the merge and the columns `o …` of the output weight, as the body reads them. -/
def Blk.mrd (o0 : ℕ)
    (i0 : ∀ a : Fin 2, (![o0, 0] : Fin 2 → ℕ) a + (![128, 2048] : Fin 2 → ℕ) a ≤ S256x2048.size a) : FVec Ideal S128x2048 .bf16 :=
  View.ld (Val := Elt Ideal) (e' := .bf16) (fun y : S256x2048.Idx => B.merged (y 0) (y 1)) (Rect.unit (s := S256x2048) ![o0, 0] ![128, 2048] i0)
/-- The output weight's columns from `o` on. -/
def Blk.wrd (o : ℕ)
    (i1 : ∀ a : Fin 2, (![0, o] : Fin 2 → ℕ) a + (![2048, 512] : Fin 2 → ℕ) a ≤ S2048x2048.size a) : FVec Ideal S2048x512 .bf16 :=
  View.ld (Val := Elt Ideal) (e' := .bf16) B.wo (Rect.unit (s := S2048x2048) ![0, o] ![2048, 512] i1)

/-- An entry of a strip of the projection. -/
theorem strip (o0 o : ℕ) (h0 : o0 + 128 ≤ 256) (ho : o + 512 ≤ 2048) (i0) (i1) (r : Fin 128) (q : Fin 512) :
    ∑ k : Fin 2048, B.mrd o0 i0 (ix2 r k) * B.wrd o i1 (ix2 k q) = B.mix ⟨o0 + r, by omega⟩ ⟨o + q, by omega⟩ :=
  by
  unfold Blk.mrd Blk.wrd
  exact Finset.sum_congr rfl fun k _ => congrArg₂ (· * ·) (ld2 _ _ _ _ _ rfl (Nat.zero_add _).symm) (ld2 _ _ _ _ _ (Nat.zero_add _).symm rfl)

/-- A store of the projection is its tile. -/
theorem mix_piece (o0 o : ℕ) (h0 : o0 + 128 ≤ 256) (ho : o + 512 ≤ 2048) (i0) (i1) (i2)
    (x : (Rect.unit (s := S256x2048) ![o0, o] ![128, 512] i2).shape.Idx) :
    k0_pay125 (F := Ideal) (B.mrd o0 i0) (B.wrd o i1) x
      = (fun y : S256x2048.Idx => B.mix (y 0) (y 1)) ((Rect.unit (s := S256x2048) ![o0, o] ![128, 512] i2).emb x) := by
  refine piece2 (Val := Elt Ideal) (e := .f32) B.mix (by omega) (by omega) (fun r q => ?_) x
  rw [npay_apply]
  exact strip B o0 o h0 ho i0 i1 r q

/-- The residual of the block's rows after the mixer. -/
def Blk.x1 (r : Fin 256) (j : Fin 2048) : EReal :=
  B.x (ix2 r j) + B.mix r j * Ideal.rsqrt (mean (fun k => B.mix r k * B.mix r k) + Ideal.ofBits .f32 0x358637BD#32)
    * (B.gate (ix2 0 j) * B.gpost (ix2 0 j))

/-- The next norm of the block's rows. -/
def Blk.h2 (r : Fin 256) (j : Fin 2048) : EReal :=
  B.x1 r j * Ideal.rsqrt (mean (fun k => B.x1 r k * B.x1 r k) + Ideal.ofBits .f32 0x358637BD#32)
    * (B.gpre (ix2 0 j) * (1 + B.scale (ix2 0 j))) + B.shift (ix2 0 j)

/-- The residual of half the rows, as stored. -/
theorem xpay_apply (g p : FVec Ideal S1x2048 .f32) (a : FVec Ideal S128x2048 .bf16) (w0 w1 w2 w3 : FVec Ideal S2048x512 .bf16)
    (x n : FVec Ideal S128x2048 .f32) (r : Fin 128) (j : Fin 2048) :
    k0_pay133 (F := Ideal) (k0_pay122 g p) (k0_pay128 a w0 a w1) a w2 (constant S128x512 .f32 0x00000000#32) a w3 x n (ix2 r j)
      = x (ix2 r j) + n (ix2 r j) * Ideal.rsqrt (((∑ q : Fin 512, (∑ k : Fin 2048, a (ix2 r k) * w0 (ix2 k q)) * (∑ k : Fin 2048, a (ix2 r k) * w0 (ix2 k q)))
        + (∑ q : Fin 512, (∑ k : Fin 2048, a (ix2 r k) * w1 (ix2 k q)) * (∑ k : Fin 2048, a (ix2 r k) * w1 (ix2 k q)))
        + (∑ q : Fin 512, (∑ k : Fin 2048, a (ix2 r k) * w2 (ix2 k q)) * (∑ k : Fin 2048, a (ix2 r k) * w2 (ix2 k q)))
        + (∑ q : Fin 512, (∑ k : Fin 2048, a (ix2 r k) * w3 (ix2 k q)) * (∑ k : Fin 2048, a (ix2 r k) * w3 (ix2 k q))))
          * Ideal.ofBits .f32 0x3A000000#32 + Ideal.ofBits .f32 0x358637BD#32) * (g (ix2 0 j) * p (ix2 0 j)) := by
  open_payloads
  pointwise

/-- A store of the residual is its tile. -/
theorem x1_piece (o0 : ℕ) (h0 : o0 + 128 ≤ 256) (i0) (j0) (j1) (j2) (j3) (i1)
    (x : (Rect.unit (s := S256x2048) ![o0, 0] ![128, 2048] i1).shape.Idx) :
    k0_pay133 (F := Ideal) (k0_pay122 B.gate B.gpost) (k0_pay128 (B.mrd o0 i0) (B.wrd 0 j0) (B.mrd o0 i0) (B.wrd 512 j1)) (B.mrd o0 i0) (B.wrd 1024 j2)
      (constant S128x512 .f32 0x00000000#32) (B.mrd o0 i0) (B.wrd 1536 j3)
      (View.ld (Val := Elt Ideal) (e' := .f32) B.x (Rect.unit (s := S256x2048) ![o0, 0] ![128, 2048] i1))
      (View.ld (Val := Elt Ideal) (e' := .f32) (fun y : S256x2048.Idx => B.mix (y 0) (y 1)) (Rect.unit (s := S256x2048) ![o0, 0] ![128, 2048] i1)) x
      = (fun y : S256x2048.Idx => B.x1 (y 0) (y 1)) ((Rect.unit (s := S256x2048) ![o0, 0] ![128, 2048] i1).emb x) := by
  refine piece2 (Val := Elt Ideal) (e := .f32) B.x1 (by omega) (by omega) (fun r q => ?_) x
  rw [xpay_apply]
  simp only [strip B o0 _ h0 (by omega : 0 + 512 ≤ 2048), strip B o0 _ h0 (by omega : 512 + 512 ≤ 2048),
    strip B o0 _ h0 (by omega : 1024 + 512 ≤ 2048), strip B o0 _ h0 (by omega : 1536 + 512 ≤ 2048)]
  have e0 : (⟨0 + (q : ℕ), by omega⟩ : Fin 2048) = q := Fin.ext (Nat.zero_add _)
  have ex := ld2 (Val := Elt Ideal) (e := .f32) (inb := i1) B.x r q ⟨o0 + r, by omega⟩ q rfl (Nat.zero_add _).symm
  have en := ld2 (Val := Elt Ideal) (e := .f32) (inb := i1) (fun y : S256x2048.Idx => B.mix (y 0) (y 1)) r q ⟨o0 + r, by omega⟩ q rfl (Nat.zero_add _).symm
  rw [ex, en, e0]
  unfold Blk.x1 mean
  rw [Layer.mean_2048, Layer.sum_strips]
  simp only [Nat.zero_add]
  rfl

/-- The next norm of half the rows, as stored. -/
theorem hpay_apply (gp sc shift : FVec Ideal S1x2048 .f32) (X : FVec Ideal S128x2048 .f32) (r : Fin 128) (j : Fin 2048) :
    k0_pay1 (F := Ideal) (k0_pay123 gp sc) X shift (ix2 r j)
      = X (ix2 r j) * Ideal.rsqrt (mean (fun k => X (ix2 r k) * X (ix2 r k)) + Ideal.ofBits .f32 0x358637BD#32) * (gp (ix2 0 j) * (1 + sc (ix2 0 j)))
        + shift (ix2 0 j) := by
  open_payloads
  pointwise [mean]

/-- A store of the next norm is its tile, where what it norms is the residual's. -/
theorem h2_piece (o0 : ℕ) (h0 : o0 + 128 ≤ 256) (i1) (X : FVec Ideal S128x2048 .f32)
    (hX : ∀ x : (Rect.unit (s := S256x2048) ![o0, 0] ![128, 2048] i1).shape.Idx,
      X x = (fun y : S256x2048.Idx => B.x1 (y 0) (y 1)) ((Rect.unit (s := S256x2048) ![o0, 0] ![128, 2048] i1).emb x))
    (x : (Rect.unit (s := S256x2048) ![o0, 0] ![128, 2048] i1).shape.Idx) :
    k0_pay1 (F := Ideal) (k0_pay123 B.gpre B.scale) X B.shift x
      = (fun y : S256x2048.Idx => B.h2 (y 0) (y 1)) ((Rect.unit (s := S256x2048) ![o0, 0] ![128, 2048] i1).emb x) := by
  refine piece2 (Val := Elt Ideal) (e := .bf16) B.h2 (by omega) (by omega) (fun r q => ?_) x
  rw [hpay_apply]
  have e0 : (⟨0 + (q : ℕ), by omega⟩ : Fin 2048) = q := Fin.ext (Nat.zero_add _)
  have hX' : ∀ k : Fin 2048, X (ix2 r k) = B.x1 ⟨o0 + r, by omega⟩ k := fun k =>
    (hX (ix2 r k)).trans (congrArg (fun y : S256x2048.Idx => B.x1 (y 0) (y 1))
      (emb2 (inb := i1) (ix2 r k) (⟨o0 + r, by omega⟩ : Fin 256) k rfl (Nat.zero_add _).symm))
  simp only [hX', e0]
  rfl

/-! ## Reads of a scratch buffer -/

/-- A read of a buffer whose stores are tiles of one function, where they cover the read. -/
theorem read_cover {sig : RefSig} {κ : Kind} {sp : Space} {Val : EltTy → Type} [∀ e, Nonempty (Val e)] {s : Shape} {e : EltTy}
    (v : View sig κ sp s e) (G : s.Idx → Val e) (L : List (View.Piece Val s e)) (r : Rect s) (hG : View.PiecesOf G L)
    (hc : ∀ j : r.shape.Idx, ∃ p ∈ L, r.idx j ∈ p.1.set) : v.readCov L r.toLoadRect = View.ld G r := by
  rw [View.readCov_eq_canon']
  exact funext fun j => View.canon_apply_of_pieces G L hG.mem _ (hc j)

/-- A read of a buffer whose stores tile it with tiles of one function. -/
theorem read_tiles {sig : RefSig} {κ : Kind} {sp : Space} {Val : EltTy → Type} [∀ e, Nonempty (Val e)] {s : Shape} {e : EltTy}
    (v : View sig κ sp s e) (G : s.Idx → Val e) (L : List (View.Piece Val s e)) (r : Rect s) (size : Fin s.rank → ℕ)
    (hG : View.PiecesOf G L) (ht : View.Piece.tiledL L size = true) : v.readCov L r.toLoadRect = View.ld G r :=
  read_cover v G L r hG fun j => View.cover_of_tiledL L size ht _

/-- A read within a buffer's one store. -/
theorem read_one {sig : RefSig} {κ : Kind} {sp : Space} {Val : EltTy → Type} [∀ e, Nonempty (Val e)] {e : EltTy} {N C o M a b m n : ℕ}
    (v : View sig κ sp ⟨2, ![N, C]⟩ e) (G : (⟨2, ![N, C]⟩ : Shape).Idx → Val e) {i1} {i2}
    (w : (Rect.unit (s := ⟨2, ![N, C]⟩) ![o, 0] ![M, C] i1).shape.Idx → Val e) (hw : ∀ x, w x = G ((Rect.unit (s := ⟨2, ![N, C]⟩) ![o, 0] ![M, C] i1).emb x))
    (h : o ≤ a ∧ a + m ≤ o + M) (hb : b + n ≤ C) :
    v.readCov [⟨Rect.unit (s := ⟨2, ![N, C]⟩) ![o, 0] ![M, C] i1, w⟩] (Rect.unit (s := ⟨2, ![N, C]⟩) ![a, b] ![m, n] i2).toLoadRect
      = View.ld G (Rect.unit (s := ⟨2, ![N, C]⟩) ![a, b] ![m, n] i2) :=
  read_cover v G _ _ ⟨hw, trivial⟩ fun j => ⟨_, List.mem_singleton.mpr rfl, (Rect.mem_set_unit (inb := i1)).mpr fun d => by
    have h0 : (j 0 : ℕ) < m := (j 0).isLt
    have h1 : (j 1 : ℕ) < n := (j 1).isLt
    match d with
    | ⟨0, _⟩ => show o ≤ a + 1 * (j 0 : ℕ) ∧ a + 1 * (j 0 : ℕ) < o + M; omega
    | ⟨1, _⟩ => show 0 ≤ b + 1 * (j 1 : ℕ) ∧ b + 1 * (j 1 : ℕ) < 0 + C; omega⟩

/-- Reads of the pooled tokens' buffer. -/
theorem pe_read (v : View sig .tc .vmem S288x1024 .f32) {i1} {i2} (w1) (w2) (h1 : w1 = k0_pay103 (F := Ideal) B.p) (h2 : w2 = k0_pay102 (F := Ideal) B.i B.h) (r : Rect S288x1024) :
    v.readCov (Val := Elt Ideal) [⟨Rect.unit (s := S288x1024) ![32, 0] ![256, 1024] i1, w1⟩, ⟨Rect.unit (s := S288x1024) ![0, 0] ![32, 1024] i2, w2⟩] r.toLoadRect
      = View.ld (Val := Elt Ideal) (e' := .f32) (fun y : S288x1024.Idx => B.pe (y 0 : ℕ) (y 1)) r := by
  subst h1 h2
  exact read_cover v _ _ r ⟨pe_own B i1, pe_halo B i2, trivial⟩ fun j => by
    have h0 : (r.idx j 0 : ℕ) < 288 := (r.idx j 0).isLt
    have h1 : (r.idx j 1 : ℕ) < 1024 := (r.idx j 1).isLt
    by_cases h : (r.idx j 0 : ℕ) < 32
    · refine ⟨_, List.mem_cons_of_mem _ List.mem_cons_self, (Rect.mem_set_unit (inb := i2)).mpr fun d => ?_⟩
      match d with
      | ⟨0, _⟩ => show 0 ≤ (r.idx j 0 : ℕ) ∧ (r.idx j 0 : ℕ) < 0 + 32; omega
      | ⟨1, _⟩ => show 0 ≤ (r.idx j 1 : ℕ) ∧ (r.idx j 1 : ℕ) < 0 + 1024; omega
    · refine ⟨_, List.mem_cons_self, (Rect.mem_set_unit (inb := i1)).mpr fun d => ?_⟩
      match d with
      | ⟨0, _⟩ => show 32 ≤ (r.idx j 0 : ℕ) ∧ (r.idx j 0 : ℕ) < 32 + 256; omega
      | ⟨1, _⟩ => show 0 ≤ (r.idx j 1 : ℕ) ∧ (r.idx j 1 : ℕ) < 0 + 1024; omega

end Cert.KernelIdeal.Mix
-- ==== Proof.MixRead.lean ====
/- What the mixer's scratch buffers read back as, store lists and all. -/
module

public import proofs.«01_k».proof.Proof.MixVal

@[expose] public section

set_option maxRecDepth 16384

noncomputable section

namespace Cert.KernelIdeal.Mix

open Idealize.ShloMosaic Idealize.ShloMosaic.TcCoe Idealize.ShloMosaic.Pipeline Idealize.ShloMosaic.Tactic
open Cert.KernelIdeal Cert.KernelIdeal.Gen

variable (B : Blk)

/-- A rectangle of a matrix lies in it. -/
theorem inb2 {n0 n1 o0 o1 m0 m1 : ℕ} (h0 : o0 + m0 ≤ n0) (h1 : o1 + m1 ≤ n1) :
    ∀ a : Fin 2, (![o0, o1] : Fin 2 → ℕ) a + (![m0, m1] : Fin 2 → ℕ) a ≤ (⟨2, ![n0, n1]⟩ : Shape).size a := fun a =>
  match a with
  | ⟨0, _⟩ => h0
  | ⟨1, _⟩ => h1

/-- One matrix of a stack lies in it. -/
theorem inb3 {n0 n1 n2 o0 : ℕ} (h0 : o0 < n0) :
    ∀ a : Fin 3, (![o0, 0, 0] : Fin 3 → ℕ) a + (![1, n1, n2] : Fin 3 → ℕ) a ≤ (⟨3, ![n0, n1, n2]⟩ : Shape).size a := fun a =>
  match a with
  | ⟨0, _⟩ => h0
  | ⟨1, _⟩ => Nat.le_of_eq (Nat.zero_add _)
  | ⟨2, _⟩ => Nat.le_of_eq (Nat.zero_add _)

/-- A head's columns lie in a chunk. -/
theorem head_slices (h : Fin 8) : S128x2048.Slices ![0, 256 * (h : ℕ)] S128x256 := by
  revert h; decide

/-- A list of pieces made by one function is a list of tiles where each of them is one. -/
theorem pieces_map {ι : Type} {Val : EltTy → Type} {s : Shape} {e : EltTy} (G : s.Idx → Val e) (f : ι → View.Piece Val s e)
    (hf : ∀ i, ∀ x : (f i).1.shape.Idx, (f i).2 x = G ((f i).1.emb x)) : ∀ l : List ι, View.PiecesOf G (l.map f)
  | [] => trivial
  | i :: l => ⟨hf i, pieces_map G f hf l⟩

/-- A buffer's one whole store is what it holds. -/
theorem canon_whole {Val : EltTy → Type} [∀ e, Nonempty (Val e)] {s : Shape} {e : EltTy} (w : s.Idx → Val e) :
    View.canon (Val := Val) [⟨Rect.whole s, w⟩] = w := by
  funext y
  have hy : (Rect.whole s).emb y = y := funext fun a => Fin.ext (by show 0 + 1 * (y a : ℕ) = y a; omega)
  exact (congrArg (View.canon (Val := Val) [⟨Rect.whole s, w⟩]) hy.symm).trans (View.canon_cons_emb (Rect.whole s) w [] y)

/-- A read of a buffer's one whole store reads what was stored. -/
theorem whole_read {sig : RefSig} {κ : Kind} {sp : Space} {Val : EltTy → Type} [∀ e, Nonempty (Val e)] {s : Shape} {e : EltTy}
    (v : View sig κ sp s e) (w : s.Idx → Val e) (r : Rect s) : v.readCov [⟨Rect.whole s, w⟩] r.toLoadRect = View.ld w r := by
  rw [View.readCov_eq_canon']
  rw [canon_whole]

/-! ## The gating -/

/-- The store of a head's gating of a chunk. -/
def Blk.gp (p : Fin 2 × Fin 8) : View.Piece (Elt Ideal) S256x2048 .bf16 :=
  ⟨Rect.unit (s := S256x2048) ![128 * (p.1 : ℕ), 256 * (p.2 : ℕ)] ![128, 256] (inb2 (by omega) (by omega)),
    gpay (256 * (p.2 : ℕ)) (head_slices p.2)
      (k0_pay78 (F := Ideal) (View.ld (Val := Elt Ideal) (e' := .bf16) B.v
        (Rect.unit (s := S256x2048) ![128 * (p.1 : ℕ), 0] ![128, 2048] (inb2 (by omega) (by omega)))) B.g B.b)
      (View.ld (Val := Elt Ideal) (e' := .bf16) B.ws (Rect.unit (s := S8x128x128) ![(p.2 : ℕ), 0, 0] ![1, 128, 128] (inb3 p.2.isLt)))
      (View.ld (Val := Elt Ideal) (e' := .f32) B.bs (Rect.unit (s := S128x8) ![0, (p.2 : ℕ)] ![128, 1] (inb2 (by omega) (by omega))))
      (View.ld (Val := Elt Ideal) (e' := .bf16) B.u
        (Rect.unit (s := S256x2048) ![128 * (p.1 : ℕ), 256 * (p.2 : ℕ)] ![128, 256] (inb2 (by omega) (by omega))))⟩

/-- The stores of the gating, the last first. -/
def Blk.gl : List (View.Piece (Elt Ideal) S256x2048 .bf16) :=
  [(1, 7), (1, 6), (1, 5), (1, 4), (1, 3), (1, 2), (1, 1), (1, 0), (0, 7), (0, 6), (0, 5), (0, 4), (0, 3), (0, 2), (0, 1), (0, 0)].map B.gp

/-- Each is its tile of the gating. -/
theorem Blk.gp_piece (p : Fin 2 × Fin 8) :
    ∀ x : (B.gp p).1.shape.Idx, (B.gp p).2 x = (fun y : S256x2048.Idx => B.gated (y 0) (y 1)) ((B.gp p).1.emb x) :=
  gated_piece B (128 * (p.1 : ℕ)) (256 * (p.2 : ℕ)) p.1 p.2 rfl rfl p.1.isLt p.2.isLt _ _ _ _ (inb2 (by omega) (by omega))

/-- They read back as the gating. -/
theorem gated_read (v : View sig .tc .vmem S256x2048 .bf16) (p0 p1 p2 p3 p4 p5 p6 p7 p8 p9 p10 p11 p12 p13 p14 p15 : View.Piece (Elt Ideal) S256x2048 .bf16)
    (r : Rect S256x2048) (h : [p0, p1, p2, p3, p4, p5, p6, p7, p8, p9, p10, p11, p12, p13, p14, p15] = B.gl) :
    v.readCov (Val := Elt Ideal) [p0, p1, p2, p3, p4, p5, p6, p7, p8, p9, p10, p11, p12, p13, p14, p15] r.toLoadRect
      = View.ld (Val := Elt Ideal) (e' := .bf16) (fun y : S256x2048.Idx => B.gated (y 0) (y 1)) r := by
  rw [h]
  exact read_tiles v _ B.gl r ![128, 256] (pieces_map _ B.gp B.gp_piece _) (by sl_kernel_rfl)

/-! ## The windows' sums -/

/-- The pooled tokens read back. -/
theorem pe_read' (v : View sig .tc .vmem S288x1024 .f32) (p0 p1 : View.Piece (Elt Ideal) S288x1024 .f32) (r : Rect S288x1024)
    (h : [p0, p1] = [⟨Rect.unit (s := S288x1024) ![32, 0] ![256, 1024] (inb2 (by omega) (by omega)), k0_pay103 (F := Ideal) B.p⟩,
      ⟨Rect.unit (s := S288x1024) ![0, 0] ![32, 1024] (inb2 (by omega) (by omega)), k0_pay102 (F := Ideal) B.i B.h⟩]) :
    v.readCov (Val := Elt Ideal) [p0, p1] r.toLoadRect
      = View.ld (Val := Elt Ideal) (e' := .f32) (fun y : S288x1024.Idx => B.pe (y 0 : ℕ) (y 1)) r := by
  rw [h]
  exact pe_read B v _ _ rfl rfl r

/-- The sums of two rows read back. -/
theorem w2_read (v : View sig .tc .vmem S288x1024 .f32) {a b k n : ℕ} {i2} (p : View.Piece (Elt Ideal) S288x1024 .f32)
    (hw : p = ⟨Rect.unit (s := S288x1024) ![8, 0] ![280, 1024] (inb2 (by omega) (by omega)),
      spay (N := 288) (M := 280) (D := 1024) 8 7 0 B.pe shapeCasts_S280x1024_S280x1024 inb_S288x1024_S280x1024_8_0 inb_S288x1024_S280x1024_7_0⟩)
    (h : 8 ≤ a ∧ a + k ≤ 8 + 280) (hb : b + n ≤ 1024) :
    v.readCov (Val := Elt Ideal) [p] (Rect.unit (s := S288x1024) ![a, b] ![k, n] i2).toLoadRect
      = View.ld (Val := Elt Ideal) (e' := .f32) (fun y : S288x1024.Idx => B.w2 (y 0 : ℕ) (y 1)) (Rect.unit (s := S288x1024) ![a, b] ![k, n] i2) := by
  subst hw
  refine read_one v _ _ (fun x => piece2 (Val := Elt Ideal) (e := .f32) (fun (n : Fin 288) j => B.w2 n j) (by omega) (by omega) (fun r q => ?_) x) h hb
  rw [spay_apply _ _ _ _ r q (by omega) (by omega) (by omega)]
  rfl

/-- The sums of four rows read back. -/
theorem w4_read (v : View sig .tc .vmem S288x768 .f32) {a b k n : ℕ} {i2} (p : View.Piece (Elt Ideal) S288x768 .f32)
    (hw : p = ⟨Rect.unit (s := S288x768) ![16, 0] ![272, 768] (inb2 (by omega) (by omega)),
      spay (N := 288) (M := 272) (D := 768) 16 14 256 B.w2 shapeCasts_S272x768_S272x768 inb_S288x1024_S272x768_16_256 inb_S288x1024_S272x768_14_256⟩)
    (h : 16 ≤ a ∧ a + k ≤ 16 + 272) (hb : b + n ≤ 768) :
    v.readCov (Val := Elt Ideal) [p] (Rect.unit (s := S288x768) ![a, b] ![k, n] i2).toLoadRect
      = View.ld (Val := Elt Ideal) (e' := .f32) (fun y : S288x768.Idx => (fun (n : ℕ) (q : Fin 768) => B.w4 n ⟨256 + q, by omega⟩) (y 0 : ℕ) (y 1))
          (Rect.unit (s := S288x768) ![a, b] ![k, n] i2) := by
  subst hw
  refine read_one v _ _ (fun x => piece2 (Val := Elt Ideal) (e := .f32) (fun (n : Fin 288) (q : Fin 768) => B.w4 n ⟨256 + q, by omega⟩)
    (by omega) (by omega) (fun r q => ?_) x) h hb
  rw [spay_apply _ _ _ _ r q (by omega) (by omega) (by omega)]
  simp only [Nat.zero_add]
  rfl

/-- The sums of eight rows read back. -/
theorem w8_read (v : View sig .tc .vmem S288x512 .f32) {a b k n : ℕ} {i2} (p : View.Piece (Elt Ideal) S288x512 .f32)
    (hw : p = ⟨Rect.unit (s := S288x512) ![24, 0] ![264, 512] (inb2 (by omega) (by omega)),
      spay (N := 288) (M := 264) (D := 512) 24 20 256 (fun (n : ℕ) (q : Fin 768) => B.w4 n ⟨256 + q, by omega⟩)
      shapeCasts_S264x512_S264x512 inb_S288x768_S264x512_24_256 inb_S288x768_S264x512_20_256⟩)
    (h : 24 ≤ a ∧ a + k ≤ 24 + 264) (hb : b + n ≤ 512) :
    v.readCov (Val := Elt Ideal) [p] (Rect.unit (s := S288x512) ![a, b] ![k, n] i2).toLoadRect
      = View.ld (Val := Elt Ideal) (e' := .f32) (fun y : S288x512.Idx => (fun (n : ℕ) (q : Fin 512) => B.w8 n ⟨512 + q, by omega⟩) (y 0 : ℕ) (y 1))
          (Rect.unit (s := S288x512) ![a, b] ![k, n] i2) := by
  subst hw
  refine read_one v _ _ (fun x => piece2 (Val := Elt Ideal) (e := .f32) (fun (n : Fin 288) (q : Fin 512) => B.w8 n ⟨512 + q, by omega⟩)
    (by omega) (by omega) (fun r q => ?_) x) h hb
  rw [spay_apply _ _ _ _ r q (by omega) (by omega) (by omega)]
  have e : (⟨256 + (256 + (q : ℕ)), by omega⟩ : Fin 1024) = ⟨512 + (0 + (q : ℕ)), by omega⟩ := Fin.ext (by show 256 + (256 + (q : ℕ)) = 512 + (0 + (q : ℕ)); omega)
  simp only [e]
  rfl

/-! ## The pooling -/

/-- The store of a group's pooling, of sums `S`. -/
def Blk.yp (g : Fin 4) (S : FVec Ideal S256x256 .f32) : View.Piece (Elt Ideal) S256x1024 .bf16 :=
  ⟨Rect.unit (s := S256x1024) ![0, 256 * (g : ℕ)] ![256, 256] (inb2 (by omega) (by omega)),
    ypay (word g) (k0_pay109 (F := Ideal) B.i) S
      (View.ld (Val := Elt Ideal) (e' := .f32) (fun y : S288x1024.Idx => B.pe (y 0 : ℕ) (y 1))
        (Rect.unit (s := S288x1024) ![32, 256 * (g : ℕ)] ![256, 256] (inb2 (by omega) (by omega))))
      (View.ld (Val := Elt Ideal) (e' := .bf16) B.wp (Rect.unit (s := S4x256x256) ![(g : ℕ), 0, 0] ![1, 256, 256] (inb3 g.isLt)))
      (View.ld (Val := Elt Ideal) (e' := .f32) B.ps (Rect.unit (s := S1x1024) ![0, 256 * (g : ℕ)] ![1, 256] (inb2 (by omega) (by omega))))⟩

/-- Such a store is its tile where the sums are the group's. -/
theorem Blk.yp_piece (g : Fin 4) (S) (hS : ∀ r k : Fin 256, S (ix2 r k) = B.wsum g (32 + r) ⟨256 * g + k, by omega⟩) :
    ∀ x : (B.yp g S).1.shape.Idx, (B.yp g S).2 x = (fun y : S256x1024.Idx => B.ybin (y 0) (y 1)) ((B.yp g S).1.emb x) :=
  ybin_piece B g _ _ rfl g.isLt rfl _ _ _ _ (inb2 (by omega) (by omega)) hS fun r k => ld2 _ _ _ (⟨32 + r, by omega⟩ : Fin 288) (⟨256 * g + k, by omega⟩ : Fin 1024) rfl rfl

/-- The stores of the pooling, the last first. -/
def Blk.yl : List (View.Piece (Elt Ideal) S256x1024 .bf16) :=
  [B.yp 3 (spay (N := 288) (M := 256) (D := 256) 32 24 256 (fun (n : ℕ) (q : Fin 512) => B.w8 n ⟨512 + q, by omega⟩)
      shapeCasts_S256x256_S256x256 inb_S288x512_S256x256_32_256 inb_S288x512_S256x256_24_256),
    B.yp 2 (View.ld (Val := Elt Ideal) (e' := .f32) (fun y : S288x512.Idx => (fun (n : ℕ) (q : Fin 512) => B.w8 n ⟨512 + q, by omega⟩) (y 0 : ℕ) (y 1))
      (Rect.unit (s := S288x512) ![32, 0] ![256, 256] inb_S288x512_S256x256_32_0)),
    B.yp 1 (View.ld (Val := Elt Ideal) (e' := .f32) (fun y : S288x768.Idx => (fun (n : ℕ) (q : Fin 768) => B.w4 n ⟨256 + q, by omega⟩) (y 0 : ℕ) (y 1))
      (Rect.unit (s := S288x768) ![32, 0] ![256, 256] inb_S288x768_S256x256_32_0)),
    B.yp 0 (View.ld (Val := Elt Ideal) (e' := .f32) (fun y : S288x1024.Idx => B.w2 (y 0 : ℕ) (y 1))
      (Rect.unit (s := S288x1024) ![32, 0] ![256, 256] inb_S288x1024_S256x256_32_0))]

/-- They read back as the pooling. -/
theorem ybin_read (v : View sig .tc .vmem S256x1024 .bf16) (p0 p1 p2 p3 : View.Piece (Elt Ideal) S256x1024 .bf16)
    (r : Rect S256x1024) (h : [p0, p1, p2, p3] = B.yl) :
    v.readCov (Val := Elt Ideal) [p0, p1, p2, p3] r.toLoadRect
      = View.ld (Val := Elt Ideal) (e' := .bf16) (fun y : S256x1024.Idx => B.ybin (y 0) (y 1)) r := by
  rw [h]
  refine read_tiles v _ B.yl r ![256, 256] ⟨B.yp_piece 3 _ fun r k => ?_, B.yp_piece 2 _ fun r k => ?_, B.yp_piece 1 _ fun r k => ?_,
    B.yp_piece 0 _ fun r k => ?_, trivial⟩ (by sl_kernel_rfl)
  · rw [spay_apply _ _ _ _ r k (by omega) (by omega) (by omega)]
    have e : (⟨512 + (256 + (k : ℕ)), by omega⟩ : Fin 1024) = ⟨256 * 3 + (k : ℕ), by omega⟩ := Fin.ext (by show 512 + (256 + (k : ℕ)) = 256 * 3 + (k : ℕ); omega)
    simp only [e]
    rfl
  · exact ld2 _ _ _ (⟨32 + r, by omega⟩ : Fin 288) (⟨k, by omega⟩ : Fin 512) rfl (Nat.zero_add _).symm
  · exact ld2 _ _ _ (⟨32 + r, by omega⟩ : Fin 288) (⟨k, by omega⟩ : Fin 768) rfl (Nat.zero_add _).symm
  · exact (ld2 (Val := Elt Ideal) (e := .f32) (fun y : S288x1024.Idx => B.w2 (y 0 : ℕ) (y 1)) r k
      (⟨32 + r, by omega⟩ : Fin 288) (⟨k, by omega⟩ : Fin 1024) rfl (Nat.zero_add _).symm).trans
      (congrArg (B.w2 (32 + r)) (Fin.ext (Nat.zero_add (k : ℕ)).symm : (⟨k, by omega⟩ : Fin 1024) = ⟨256 * 0 + k, by omega⟩))

/-! ## The merge and its projection -/

/-- The store of a strip of the merge. -/
def Blk.mp (s : Fin 4) : View.Piece (Elt Ideal) S256x2048 .bf16 :=
  ⟨Rect.unit (s := S256x2048) ![0, 512 * (s : ℕ)] ![256, 512] (inb2 (by omega) (by omega)),
    mpay (View.ld (Val := Elt Ideal) (e' := .bf16) (fun y : S256x2048.Idx => B.gated (y 0) (y 1))
        (Rect.unit (s := S256x2048) ![0, 0] ![256, 2048] inb_S256x2048_S256x2048_0_0))
      (View.ld (Val := Elt Ideal) (e' := .bf16) B.wa (Rect.unit (s := S2048x2048) ![0, 512 * (s : ℕ)] ![2048, 512] (inb2 (by omega) (by omega))))
      (View.ld (Val := Elt Ideal) (e' := .bf16) (fun y : S256x1024.Idx => B.ybin (y 0) (y 1))
        (Rect.unit (s := S256x1024) ![0, 0] ![256, 1024] inb_S256x1024_S256x1024_0_0))
      (View.ld (Val := Elt Ideal) (e' := .bf16) B.wb (Rect.unit (s := S1024x2048) ![0, 512 * (s : ℕ)] ![1024, 512] (inb2 (by omega) (by omega))))
      (View.ld (Val := Elt Ideal) (e' := .bf16) B.ga (Rect.unit (s := S256x2048) ![0, 512 * (s : ℕ)] ![256, 512] (inb2 (by omega) (by omega))))
      (View.ld (Val := Elt Ideal) (e' := .bf16) B.gb (Rect.unit (s := S256x2048) ![0, 512 * (s : ℕ)] ![256, 512] (inb2 (by omega) (by omega))))⟩

/-- The stores of the merge, the last first. -/
def Blk.ml : List (View.Piece (Elt Ideal) S256x2048 .bf16) := [3, 2, 1, 0].map B.mp

/-- Each is its tile of the merge. -/
theorem Blk.mp_piece (s : Fin 4) :
    ∀ x : (B.mp s).1.shape.Idx, (B.mp s).2 x = (fun y : S256x2048.Idx => B.merged (y 0) (y 1)) ((B.mp s).1.emb x) :=
  merged_piece B (512 * (s : ℕ)) (by omega) _ _ _ _ (inb2 (by omega) (by omega))

/-- They read back as the merge. -/
theorem merged_read (v : View sig .tc .vmem S256x2048 .bf16) (p0 p1 p2 p3 : View.Piece (Elt Ideal) S256x2048 .bf16) {o : ℕ} {i}
    (h : [p0, p1, p2, p3] = B.ml) :
    v.readCov (Val := Elt Ideal) [p0, p1, p2, p3] (Rect.unit (s := S256x2048) ![o, 0] ![128, 2048] i).toLoadRect = B.mrd o i := by
  rw [h]
  exact read_tiles v (fun y : S256x2048.Idx => B.merged (y 0) (y 1)) B.ml _ ![256, 512] (pieces_map _ B.mp B.mp_piece _) (by sl_kernel_rfl)

/-- The store of a strip of half the rows' projection. -/
def Blk.np (p : Fin 2 × Fin 4) : View.Piece (Elt Ideal) S256x2048 .f32 :=
  ⟨Rect.unit (s := S256x2048) ![128 * (p.1 : ℕ), 512 * (p.2 : ℕ)] ![128, 512] (inb2 (by omega) (by omega)),
    k0_pay125 (F := Ideal) (B.mrd (128 * (p.1 : ℕ)) (inb2 (by omega) (by omega))) (B.wrd (512 * (p.2 : ℕ)) (inb2 (by omega) (by omega)))⟩

/-- The stores of the first half's projection, the last first. -/
def Blk.nl : List (View.Piece (Elt Ideal) S256x2048 .f32) := [(0, 3), (0, 2), (0, 1), (0, 0)].map B.np
/-- The stores of both halves'. -/
def Blk.nl' : List (View.Piece (Elt Ideal) S256x2048 .f32) := [(1, 3), (1, 2), (1, 1), (1, 0), (0, 3), (0, 2), (0, 1), (0, 0)].map B.np

/-- Each is its tile of the projection. -/
theorem Blk.np_piece (p : Fin 2 × Fin 4) :
    ∀ x : (B.np p).1.shape.Idx, (B.np p).2 x = (fun y : S256x2048.Idx => B.mix (y 0) (y 1)) ((B.np p).1.emb x) :=
  mix_piece B (128 * (p.1 : ℕ)) (512 * (p.2 : ℕ)) (by omega) (by omega) _ _ (inb2 (by omega) (by omega))

/-- The second half reads back as the projection. -/
theorem mix_read1 (v : View sig .tc .vmem S256x2048 .f32) (p0 p1 p2 p3 p4 p5 p6 p7 : View.Piece (Elt Ideal) S256x2048 .f32) (r : Rect S256x2048)
    (h : [p0, p1, p2, p3, p4, p5, p6, p7] = B.nl') :
    v.readCov (Val := Elt Ideal) [p0, p1, p2, p3, p4, p5, p6, p7] r.toLoadRect
      = View.ld (Val := Elt Ideal) (e' := .f32) (fun y : S256x2048.Idx => B.mix (y 0) (y 1)) r := by
  rw [h]
  exact read_tiles v _ B.nl' _ ![128, 512] (pieces_map _ B.np B.np_piece _) (by sl_kernel_rfl)

/-- The first half reads back as the projection. -/
theorem mix_read0 (v : View sig .tc .vmem S256x2048 .f32) (p0 p1 p2 p3 : View.Piece (Elt Ideal) S256x2048 .f32) {i}
    (h : [p0, p1, p2, p3] = B.nl) :
    v.readCov (Val := Elt Ideal) [p0, p1, p2, p3] (Rect.unit (s := S256x2048) ![0, 0] ![128, 2048] i).toLoadRect
      = View.ld (Val := Elt Ideal) (e' := .f32) (fun y : S256x2048.Idx => B.mix (y 0) (y 1)) (Rect.unit (s := S256x2048) ![0, 0] ![128, 2048] i) := by
  rw [h]
  refine read_cover v _ B.nl _ (pieces_map _ B.np B.np_piece _) fun j => ?_
  have h0 : (j 0 : ℕ) < 128 := (j 0).isLt
  have h1 : (j 1 : ℕ) < 2048 := (j 1).isLt
  obtain ⟨s, hs⟩ : ∃ s : Fin 4, (s : ℕ) = (j 1 : ℕ) / 512 := ⟨⟨(j 1 : ℕ) / 512, by omega⟩, rfl⟩
  refine ⟨B.np (0, s), List.mem_map.mpr ⟨(0, s), (by decide : ∀ s : Fin 4, ((0 : Fin 2), s) ∈ [((0 : Fin 2), (3 : Fin 4)), (0, 2), (0, 1), (0, 0)]) s, rfl⟩, ?_⟩
  refine (Rect.mem_set_unit (inb := inb2 (n0 := 256) (n1 := 2048) (by omega) (by omega))).mpr fun d => ?_
  match d with
  | ⟨0, _⟩ => show 128 * 0 ≤ 0 + 1 * (j 0 : ℕ) ∧ 0 + 1 * (j 0 : ℕ) < 128 * 0 + 128; omega
  | ⟨1, _⟩ => show 512 * (s : ℕ) ≤ 0 + 1 * (j 1 : ℕ) ∧ 0 + 1 * (j 1 : ℕ) < 512 * (s : ℕ) + 512; omega

/-! ## The outputs -/

/-- The residual of half the rows, of what the body has read. -/
def Blk.xw (a : Fin 2) : FVec Ideal S128x2048 .f32 :=
  k0_pay133 (F := Ideal) (k0_pay122 B.gate B.gpost)
    (k0_pay128 (B.mrd (128 * (a : ℕ)) (inb2 (by omega) (by omega))) (B.wrd 0 (inb2 (by omega) (by omega)))
      (B.mrd (128 * (a : ℕ)) (inb2 (by omega) (by omega))) (B.wrd 512 (inb2 (by omega) (by omega))))
    (B.mrd (128 * (a : ℕ)) (inb2 (by omega) (by omega))) (B.wrd 1024 (inb2 (by omega) (by omega)))
    (constant S128x512 .f32 0x00000000#32) (B.mrd (128 * (a : ℕ)) (inb2 (by omega) (by omega))) (B.wrd 1536 (inb2 (by omega) (by omega)))
    (View.ld (Val := Elt Ideal) (e' := .f32) B.x (Rect.unit (s := S256x2048) ![128 * (a : ℕ), 0] ![128, 2048] (inb2 (by omega) (by omega))))
    (View.ld (Val := Elt Ideal) (e' := .f32) (fun y : S256x2048.Idx => B.mix (y 0) (y 1))
      (Rect.unit (s := S256x2048) ![128 * (a : ℕ), 0] ![128, 2048] (inb2 (by omega) (by omega))))

/-- Its store. -/
def Blk.xp (a : Fin 2) : View.Piece (Elt Ideal) S256x2048 .f32 :=
  ⟨Rect.unit (s := S256x2048) ![128 * (a : ℕ), 0] ![128, 2048] (inb2 (by omega) (by omega)), B.xw a⟩

/-- The store of half the rows' next norm. -/
def Blk.hp (a : Fin 2) : View.Piece (Elt Ideal) S256x2048 .bf16 :=
  ⟨Rect.unit (s := S256x2048) ![128 * (a : ℕ), 0] ![128, 2048] (inb2 (by omega) (by omega)),
    k0_pay1 (F := Ideal) (k0_pay123 B.gpre B.scale) (B.xw a) B.shift⟩

/-- The stores of the residual are its tiles. -/
theorem Blk.xp_piece (a : Fin 2) :
    ∀ x : (B.xp a).1.shape.Idx, (B.xp a).2 x = (fun y : S256x2048.Idx => B.x1 (y 0) (y 1)) ((B.xp a).1.emb x) :=
  x1_piece B (128 * (a : ℕ)) (by omega) _ _ _ _ _ (inb2 (by omega) (by omega))

/-- The stores of the next norm are its tiles. -/
theorem Blk.hp_piece (a : Fin 2) :
    ∀ x : (B.hp a).1.shape.Idx, (B.hp a).2 x = (fun y : S256x2048.Idx => B.h2 (y 0) (y 1)) ((B.hp a).1.emb x) :=
  h2_piece B (128 * (a : ℕ)) (by omega) (inb2 (by omega) (by omega)) _ (B.xp_piece a)

/-- The residual's stores cover the block. -/
theorem xp_cover (y : S256x2048.Idx) : ∃ p ∈ [B.xp 1, B.xp 0], y ∈ p.1.set :=
  View.cover_of_tiledL [B.xp 1, B.xp 0] ![128, 2048] (by sl_kernel_rfl) y

/-- The next norm's stores cover it. -/
theorem hp_cover (y : S256x2048.Idx) : ∃ p ∈ [B.hp 1, B.hp 0], y ∈ p.1.set :=
  View.cover_of_tiledL [B.hp 1, B.hp 0] ![128, 2048] (by sl_kernel_rfl) y

/-- The residual's stores leave the residual. -/
theorem Blk.x1_canon (y : S256x2048.Idx) : View.canon (Val := Elt Ideal) [B.xp 1, B.xp 0] y = B.x1 (y 0) (y 1) := by
  have hG : View.PiecesOf (fun y : S256x2048.Idx => B.x1 (y 0) (y 1)) [B.xp 1, B.xp 0] := ⟨B.xp_piece 1, B.xp_piece 0, trivial⟩
  exact View.canon_apply_of_pieces (fun y : S256x2048.Idx => B.x1 (y 0) (y 1)) _ hG.mem y (xp_cover B y)

/-- The next norm's stores leave the next norm. -/
theorem Blk.h2_canon (y : S256x2048.Idx) : View.canon (Val := Elt Ideal) [B.hp 1, B.hp 0] y = B.h2 (y 0) (y 1) := by
  have hG : View.PiecesOf (fun y : S256x2048.Idx => B.h2 (y 0) (y 1)) [B.hp 1, B.hp 0] := ⟨B.hp_piece 1, B.hp_piece 0, trivial⟩
  exact View.canon_apply_of_pieces (fun y : S256x2048.Idx => B.h2 (y 0) (y 1)) _ hG.mem y (hp_cover B y)

end Cert.KernelIdeal.Mix
-- ==== Proof.MixPoint.lean ====
/- What a point of the mixer leaves in its blocks. -/
module

public import proofs.«01_k».proof.Proof.MixRead

@[expose] public section

set_option maxRecDepth 16384

noncomputable section

namespace Cert.KernelIdeal.Mix

open Idealize.ShloMosaic Idealize.ShloMosaic.TcCoe Idealize.ShloMosaic.Pipeline Idealize.ShloMosaic.Tactic
open Cert.KernelIdeal Cert.KernelIdeal.Gen

variable (m : (ℓ : Loc nD τ sig) → Buf (Elt Ideal) ℓ)

/-- The blocks the mixer reads at a point. -/
def blk (c : Dev nD) (t : Fin cfg0.N) : Blk where
  i := BitVec.ofNat 32 (grid0.coords t 0).val
  u := X0_0 m c t
  v := X0_1 m c t
  ga := X0_2 m c t
  gb := X0_3 m c t
  p := iblk m c 4 t
  h := iblk m c 5 t
  x := iblk m c 6 t
  gate := iblk m c 7 t
  g := iblk m c 8 t
  b := iblk m c 9 t
  ws := iblk m c 10 t
  bs := iblk m c 11 t
  wp := iblk m c 12 t
  ps := iblk m c 13 t
  wa := V m c main_arg9
  wb := V m c main_arg10
  wo := V m c main_arg11
  gpost := iblk m c 14 t
  shift := iblk m c 15 t
  scale := iblk m c 16 t
  gpre := iblk m c 17 t

/-- The first point brings the weights into the scratch. -/
theorem scr_A (c : Dev nD) (t : Fin cfg0.N) (h0 : t.val % 32 = 0) (h1 : ¬1 ≤ t.val) :
    (outsAt0 m c t.val t.isLt).2.2 = (V m c main_arg9, V m c main_arg10, V m c main_arg11) := by
  rw [outsAt0_A m c t h0 h1]
  dsimp only
  frame_open
  refine congrArg₂ Prod.mk ?_ (congrArg₂ Prod.mk ?_ ?_)
  all_goals
    rw [View.read_writes_junk_eq_canon]
    exact canon_whole _

/-- A later point leaves them. -/
theorem scr_B (c : Dev nD) (t : Fin cfg0.N) (h0 : ¬t.val % 32 = 0) (h1 : 1 ≤ t.val) :
    (outsAt0 m c t.val t.isLt).2.2 = (outsAt0 m c (t.val - 1) (Nat.lt_of_le_of_lt (Nat.sub_le _ _) t.isLt)).2.2 := by
  rw [outsAt0_B m c t h0 h1]
  try dsimp only
  first | done | rfl

/-- The scratch holds the weights at every point. -/
theorem scr (c : Dev nD) (t : Fin cfg0.N) : (outsAt0 m c t.val t.isLt).2.2 = (V m c main_arg9, V m c main_arg10, V m c main_arg11) := by
  obtain ⟨n, hn⟩ := t
  have hN : cfg0.N = 32 := N_0
  induction n with
  | zero => exact scr_A m c ⟨0, hn⟩ rfl (by show ¬1 ≤ 0; omega)
  | succ n ih =>
    exact (scr_B m c ⟨n + 1, hn⟩ (by show ¬(n + 1) % 32 = 0; omega) (by show 1 ≤ n + 1; omega)).trans
      (ih (by omega))

set_option maxHeartbeats 2000000 in
/-- What a later point leaves. -/
theorem point_B (c : Dev nD) (t : Fin cfg0.N) (h0 : ¬t.val % 32 = 0) (h1 : 1 ≤ t.val) (y : S256x2048.Idx) :
    (outsAt0 m c t.val t.isLt).1 y = (blk m c t).x1 (y 0) (y 1) ∧ (outsAt0 m c t.val t.isLt).2.1 y = (blk m c t).h2 (y 0) (y 1) := by
  rw [outsAt0_B m c t h0 h1]
  dsimp only
  frame_open
  simp (disch := decide) only [↓ View.readCov_skip, ↓ View.readCov_cons_toLoadRect, ↓ View.readCov_fill]
  frame_out
  simp only [read_unread_whole]
  rw [scr m c ⟨t.val - 1, Nat.lt_of_le_of_lt (Nat.sub_le _ _) t.isLt⟩]
  simp (disch := as_aux_lemma => sl_kernel_rfl) only [pe_read' (blk m c t)]
  simp (disch := first | omega | as_aux_lemma => sl_kernel_rfl) only [w2_read (blk m c t)]
  simp (disch := first | omega | as_aux_lemma => sl_kernel_rfl) only [w4_read (blk m c t)]
  simp (disch := first | omega | as_aux_lemma => sl_kernel_rfl) only [w8_read (blk m c t)]
  simp (disch := as_aux_lemma => sl_kernel_rfl) only [gated_read (blk m c t)]
  simp (disch := as_aux_lemma => sl_kernel_rfl) only [ybin_read (blk m c t)]
  simp (disch := as_aux_lemma => sl_kernel_rfl) only [merged_read (blk m c t)]
  simp (disch := as_aux_lemma => sl_kernel_rfl) only [mix_read1 (blk m c t), mix_read0 (blk m c t)]
  exact ⟨Eq.trans (congrFun (congrArg View.canon (by sl_kernel_rfl)) y) ((blk m c t).x1_canon y),
    Eq.trans (congrFun (congrArg View.canon (by sl_kernel_rfl)) y) ((blk m c t).h2_canon y)⟩

set_option maxHeartbeats 2000000 in
/-- What the first point leaves. -/
theorem point_A (c : Dev nD) (t : Fin cfg0.N) (h0 : t.val % 32 = 0) (h1 : ¬1 ≤ t.val) (y : S256x2048.Idx) :
    (outsAt0 m c t.val t.isLt).1 y = (blk m c t).x1 (y 0) (y 1) ∧ (outsAt0 m c t.val t.isLt).2.1 y = (blk m c t).h2 (y 0) (y 1) := by
  rw [outsAt0_A m c t h0 h1]
  dsimp only
  frame_open
  simp (disch := decide) only [↓ View.readCov_skip, ↓ View.readCov_cons_toLoadRect, ↓ View.readCov_fill]
  frame_out
  simp only [whole_read]
  simp only [show ReadAs.same.apply (View.read (Elt Ideal) (View.whole main_arg9) (V m c main_arg9)) = V m c main_arg9 from rfl,
    show ReadAs.same.apply (View.read (Elt Ideal) (View.whole main_arg10) (V m c main_arg10)) = V m c main_arg10 from rfl,
    show ReadAs.same.apply (View.read (Elt Ideal) (View.whole main_arg11) (V m c main_arg11)) = V m c main_arg11 from rfl]
  simp (disch := as_aux_lemma => sl_kernel_rfl) only [pe_read' (blk m c t)]
  simp (disch := first | omega | as_aux_lemma => sl_kernel_rfl) only [w2_read (blk m c t)]
  simp (disch := first | omega | as_aux_lemma => sl_kernel_rfl) only [w4_read (blk m c t)]
  simp (disch := first | omega | as_aux_lemma => sl_kernel_rfl) only [w8_read (blk m c t)]
  simp (disch := as_aux_lemma => sl_kernel_rfl) only [gated_read (blk m c t)]
  simp (disch := as_aux_lemma => sl_kernel_rfl) only [ybin_read (blk m c t)]
  simp (disch := as_aux_lemma => sl_kernel_rfl) only [merged_read (blk m c t)]
  simp (disch := as_aux_lemma => sl_kernel_rfl) only [mix_read1 (blk m c t), mix_read0 (blk m c t)]
  exact ⟨Eq.trans (congrFun (congrArg View.canon (by sl_kernel_rfl)) y) ((blk m c t).x1_canon y),
    Eq.trans (congrFun (congrArg View.canon (by sl_kernel_rfl)) y) ((blk m c t).h2_canon y)⟩

/-- What a point leaves. -/
theorem point (c : Dev nD) (t : Fin cfg0.N) (y : S256x2048.Idx) :
    (outsAt0 m c t.val t.isLt).1 y = (blk m c t).x1 (y 0) (y 1) ∧ (outsAt0 m c t.val t.isLt).2.1 y = (blk m c t).h2 (y 0) (y 1) := by
  have hN : t.val < 32 := N_0 ▸ t.isLt
  by_cases h : t.val = 0
  · exact point_A m c t (by omega) (by omega) y
  · exact point_B m c t (by omega) (by omega) y

end Cert.KernelIdeal.Mix
-- ==== Proof.MixRef.lean ====
/- What the mixer's reference writes, one row and column at a time, each stage from the stages before it. -/
module

public import proofs.«01_k».proof.Proof.Gen.ReferenceIdeal.Read
public import proofs.«01_k».proof.Proof.MixVal

@[expose] public section

set_option maxRecDepth 16384

noncomputable section

namespace Cert.ReferenceIdeal.Mix

open Idealize.ShloMosaic
open Cert.ReferenceIdeal Cert.ReferenceIdeal.Read
open Cert.KernelIdeal.Mix (mean lnorm)

variable (x0 : FVec Ideal S8192x9216 .bf16) (x1 : FVec Ideal S8192x2048 .f32) (x2 : FVec Ideal S1x8192 .f32) (x3 x4 : FVec Ideal S2048 .f32)
  (x5 : FVec Ideal S8x128x128 .f32) (x6 : FVec Ideal S8x128 .f32) (x7 : FVec Ideal S4x256x256 .bf16) (x8 : FVec Ideal S1024 .f32)
  (x9 : FVec Ideal S2048x2048 .bf16) (x10 : FVec Ideal S1024x2048 .bf16) (x11 : FVec Ideal S2048x2048 .bf16) (x12 x13 : FVec Ideal S2048 .f32)

/-- The layer norm of a row's second 2048 columns. -/
theorem vn_at (s : Fin 8192) (j : Fin 2048) : val_main_v35 (F := Ideal) x0 x3 x4 (ix2 s j)
    = lnorm (fun k => x0 (ix2 s ⟨2048 + k, by omega⟩)) (x3 (ix1 j)) (x4 (ix1 j)) j := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v6, val_main_v0, val_main_cst, val_main_cst_0, val_main_cst_1, val_main_cst_2, val_main_cst_3, lnorm, mean]

/-- The gated half: a row's first 2048 columns times its chunk's mixture of the normalised rows. -/
theorem gated_at (s : Fin 8192) (j : Fin 2048) : val_main_v49 (F := Ideal) x0 x3 x4 x5 x6 (ix2 s j)
    = x0 (ix2 s ⟨j, by omega⟩) * ((∑ k : Fin 128, val_main_v35 (F := Ideal) x0 x3 x4 (ix2 (⟨s / 128 * 128 + k, by omega⟩ : Fin 8192) j)
        * val_main_v41 (F := Ideal) x5 (ix3 (⟨j / 256, by omega⟩ : Fin 8) (⟨s % 128, by omega⟩ : Fin 128) k))
      + x6 (ix2 (⟨j / 256, by omega⟩ : Fin 8) (⟨s % 128, by omega⟩ : Fin 128))) := by
  pointwise [val_main_v49, val_main_v48, val_main_v47, val_main_v46, val_main_v45, val_main_v44, val_main_v43, val_main_v42, val_main_v36, val_main_v5, val_main_v0]

/-- The two branches' projections, gated and added. -/
theorem merged_at (s : Fin 8192) (j : Fin 2048) : val_main_v120 (F := Ideal) x0 x3 x4 x5 x6 x7 x8 x9 x10 (ix2 s j)
    = x0 (ix2 s ⟨4096 + j, by omega⟩) * (∑ k : Fin 2048, val_main_v49 (F := Ideal) x0 x3 x4 x5 x6 (ix2 s k) * x9 (ix2 k j))
      + x0 (ix2 s ⟨6144 + j, by omega⟩) * (∑ k : Fin 1024, (val_main_v113 (F := Ideal) x0 x7 (ix2 s k) * x8 (ix1 k)) * x10 (ix2 k j)) := by
  pointwise [val_main_v120, val_main_v119, val_main_v118, val_main_v117, val_main_v116, val_main_v115, val_main_v114, val_main_v50, val_main_v8, val_main_v7, val_main_v3, val_main_v2, val_main_v0]

/-- The output projection. -/
theorem mix_at (s : Fin 8192) (j : Fin 2048) : val_main_v121 (F := Ideal) x0 x3 x4 x5 x6 x7 x8 x9 x10 x11 (ix2 s j)
    = ∑ k : Fin 2048, val_main_v120 (F := Ideal) x0 x3 x4 x5 x6 x7 x8 x9 x10 (ix2 s k) * x11 (ix2 k j) := by
  pointwise [val_main_v121, val_main_v4]

/-- The first result: the residual plus the gated, normalised mixture. -/
theorem x1_at (s : Fin 8192) (j : Fin 2048) : val_main_v137 (F := Ideal) x0 x1 x2 x3 x4 x5 x6 x7 x8 x9 x10 x11 x12 (ix2 s j)
    = x1 (ix2 s j) + val_main_v121 (F := Ideal) x0 x3 x4 x5 x6 x7 x8 x9 x10 x11 (ix2 s j)
        * Ideal.rsqrt (mean (fun k => val_main_v121 (F := Ideal) x0 x3 x4 x5 x6 x7 x8 x9 x10 x11 (ix2 s k)
            * val_main_v121 (F := Ideal) x0 x3 x4 x5 x6 x7 x8 x9 x10 x11 (ix2 s k)) + Ideal.ofBits .f32 0x358637BD#32)
        * (x2 (ix2 0 ⟨j, by omega⟩) * x12 (ix1 j)) := by
  pointwise [val_main_v137, val_main_v136, val_main_v135, val_main_v134, val_main_v133, val_main_v132, val_main_v131, val_main_v130, val_main_v129, val_main_v128, val_main_v127, val_main_v126, val_main_v125, val_main_v124, val_main_v123, val_main_v122, val_main_v10, val_main_cst_14, val_main_cst_15, val_main_cst_16, mean]
  exact congrArg (x1 (ix2 s j) + ·) (by rw [mul_left_comm])

/-- The second result: the first one normalised, scaled and shifted. -/
theorem h2_at (s : Fin 8192) (j : Fin 2048) : val_main_v157 (F := Ideal) x0 x1 x2 x3 x4 x5 x6 x7 x8 x9 x10 x11 x12 x13 (ix2 s j)
    = val_main_v137 (F := Ideal) x0 x1 x2 x3 x4 x5 x6 x7 x8 x9 x10 x11 x12 (ix2 s j)
        * Ideal.rsqrt (mean (fun k => val_main_v137 (F := Ideal) x0 x1 x2 x3 x4 x5 x6 x7 x8 x9 x10 x11 x12 (ix2 s k)
            * val_main_v137 (F := Ideal) x0 x1 x2 x3 x4 x5 x6 x7 x8 x9 x10 x11 x12 (ix2 s k)) + Ideal.ofBits .f32 0x358637BD#32)
        * (x13 (ix1 j) * (1 + x2 (ix2 0 ⟨4096 + j, by omega⟩))) + x2 (ix2 0 ⟨2048 + j, by omega⟩) := by
  pointwise [val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v12, val_main_v11, val_main_cst_17, val_main_cst_18, val_main_cst_19, val_main_cst_20, mean]
  exact congrArg (· + _) (mul_assoc _ _ _)

end Cert.ReferenceIdeal.Mix
-- ==== Proof.MixPool.lean ====
/- The mixer's pooling in the reference: running sums down a column, the sums a window earlier, and their differences. -/
module

public import proofs.«01_k».proof.Proof.MixRef
public import Idealize.ShloMosaic.Lib.KernelVsHost

@[expose] public section

set_option maxRecDepth 16384

noncomputable section

namespace Cert.ReferenceIdeal.Mix

open Idealize.ShloMosaic
open Cert.ReferenceIdeal Cert.ReferenceIdeal.Read

/-! ## Sums -/

/-- Adding a list's terms one after another onto a start. -/
theorem foldl_add {ι : Type} (l : List ι) (g : ι → EReal) (v : EReal) : l.foldl (fun r n => r + g n) v = v + (l.map g).sum := by
  induction l generalizing v with
  | nil => simp
  | cons a l ih => simp only [List.foldl_cons, List.map_cons, List.sum_cons, ih, add_assoc]

/-- A window reaching `K` places back, read from place `s`, holds the first `s + 1` terms. -/
theorem sum_back (f : Nat → EReal) (K s : Nat) (hs : s ≤ K) :
    ∑ n ∈ Finset.range (K + 1), (if K ≤ s + n then f (s + n - K) else 0) = ∑ n ∈ Finset.range (s + 1), f n := by
  obtain ⟨d, rfl⟩ : ∃ d, K = s + d := ⟨K - s, by omega⟩
  rw [show s + d + 1 = d + (s + 1) by omega, Finset.sum_range_add, Finset.sum_eq_zero, zero_add]
  · exact Finset.sum_congr rfl fun n _ => by rw [if_pos (by omega)]; congr 1; omega
  · intro n hn
    rw [if_neg]
    have := Finset.mem_range.1 hn
    omega

/-- A sum of finitely many real numbers is real. -/
theorem sum_real (F : Nat → EReal) (hF : ∀ a, ∃ r : ℝ, F a = (r : EReal)) (n : Nat) : ∃ r : ℝ, ∑ a ∈ Finset.range n, F a = (r : EReal) := by
  induction n with
  | zero => exact ⟨0, by simp⟩
  | succ n ih =>
    obtain ⟨a, ha⟩ := ih
    obtain ⟨b, hb⟩ := hF n
    exact ⟨a + b, by rw [Finset.sum_range_succ, ha, hb, EReal.coe_add]⟩

/-- The first terms being zero, a sum starting after them is the sum from the start. -/
theorem sum_shift (F : Nat → EReal) (h0 : ∀ a < 32, F a = 0) (n : Nat) :
    ∑ a ∈ Finset.range n, F (32 + a) = ∑ a ∈ Finset.range (32 + n), F a := by
  rw [Finset.sum_range_add, Finset.sum_eq_zero (s := Finset.range 32) fun a ha => h0 a (Finset.mem_range.1 ha), zero_add]

/-- The difference of two running sums of reals is the sum of the terms between. -/
theorem window_sum (F : Nat → EReal) (h0 : ∀ a < 32, F a = 0) (hF : ∀ a, ∃ r : ℝ, F a = (r : EReal)) (s w : Nat) (hw : w ≤ 16) :
    (∑ n ∈ Finset.range (s + 1), F (32 + n)) - (if w ≤ s then ∑ n ∈ Finset.range (s - w + 1), F (32 + n) else 0)
      = ∑ k ∈ Finset.range w, F (32 + s - k) := by
  have e : (if w ≤ s then ∑ n ∈ Finset.range (s - w + 1), F (32 + n) else 0) = ∑ a ∈ Finset.range (33 + s - w), F a := by
    split
    · rw [sum_shift F h0]; congr 2; omega
    · rw [Finset.sum_eq_zero]
      intro a ha
      exact h0 a (by have := Finset.mem_range.1 ha; omega)
  obtain ⟨r, hr⟩ := sum_real F hF (33 + s - w)
  rw [e, sum_shift F h0, show 32 + (s + 1) = (33 + s - w) + w by omega, Finset.sum_range_add, hr, add_comm, EReal.add_sub_cancel_right,
    ← Finset.sum_range_reflect]
  exact Finset.sum_congr rfl fun k hk => by have := Finset.mem_range.1 hk; congr 1; omega

/-! ## Reading a column -/

/-- The window of a running sum over 8192 rows, place by place. -/
theorem window_symm (n : Fin (⟨2, ![8192, 1]⟩ : Shape).numel) :
    (⟨2, ![8192, 1]⟩ : Shape).rowMajor.symm n = ix2 (⟨n.val, by simpa [Shape.numel] using n.isLt⟩ : Fin 8192) (0 : Fin 1) := by
  rw [Equiv.symm_apply_eq]
  apply Fin.ext
  rw [Shape.rowMajor_val_two]
  show n.val = n.val * 1 + 0
  omega

/-- A running sum down a column. -/
theorem cumsum_at (x : FVec Ideal S8192x256 .f32) (init : FVec Ideal S_ .f32) (h) (hu) (h0 : init (Shape.Idx.first hu) = 0) (f : Nat → EReal) (s : Fin 8192)
    (q : Fin 256) (hx : ∀ n : Fin 8192, x (ix2 n q) = f n) :
    Host.reduceWindowAdd (F := Ideal) (t := S8192x256) ![8192, 1] ![1, 1] ![8191, 0] ![0, 0] x init h hu (ix2 s q) = ∑ n ∈ Finset.range (s + 1), f n := by
  unfold Host.reduceWindowAdd
  rw [Ideal.hostReduceWindowAdd_def, h0]
  unfold Ideal.hostReduceWindowAdd Host.reduceWindow
  dsimp only
  rw [foldl_add, zero_add, ← sum_back f 8191 s (by omega), ← Fin.sum_univ_def]
  have e : (⟨2, ![8192, 1]⟩ : Shape).numel = 8192 := by simp [Shape.numel]
  refine (Finset.sum_congr rfl fun n _ => ?_).trans
    ((Fin.sum_univ_eq_sum_range (fun n => if 8191 ≤ s.val + n then f (s + n - 8191) else 0) _).trans (by rw [e]))
  have hn : n.val < 8192 := lt_of_lt_of_eq n.isLt e
  have hw0 : ((⟨2, ![8192, 1]⟩ : Shape).rowMajor.symm n 0).val = n.val := by rw [window_symm]; rfl
  have hw1 : ((⟨2, ![8192, 1]⟩ : Shape).rowMajor.symm n 1).val = 0 := by rw [window_symm]; rfl
  split
  · next hin =>
    have i0 := hin 0
    change 8191 ≤ s.val * 1 + ((⟨2, ![8192, 1]⟩ : Shape).rowMajor.symm n 0).val
      ∧ s.val * 1 + ((⟨2, ![8192, 1]⟩ : Shape).rowMajor.symm n 0).val - 8191 < 8192 at i0
    rw [hw0] at i0
    rw [if_pos (by omega)]
    refine (congrArg x (funext fun a => Fin.ext ?_)).trans (hx ⟨s + n - 8191, by omega⟩)
    match a with
    | ⟨0, _⟩ =>
      show s.val * 1 + ((⟨2, ![8192, 1]⟩ : Shape).rowMajor.symm n 0).val - 8191 = s.val + n.val - 8191
      rw [hw0, Nat.mul_one]
    | ⟨1, _⟩ =>
      show q.val * 1 + ((⟨2, ![8192, 1]⟩ : Shape).rowMajor.symm n 1).val - 0 = q.val
      rw [hw1]; omega
  · next hin =>
    rw [if_neg fun hle => hin fun a => by
      match a with
      | ⟨0, _⟩ =>
        show 8191 ≤ s.val * 1 + ((⟨2, ![8192, 1]⟩ : Shape).rowMajor.symm n 0).val
          ∧ s.val * 1 + ((⟨2, ![8192, 1]⟩ : Shape).rowMajor.symm n 0).val - 8191 < 8192
        rw [hw0]; omega
      | ⟨1, _⟩ =>
        show 0 ≤ q.val * 1 + ((⟨2, ![8192, 1]⟩ : Shape).rowMajor.symm n 1).val
          ∧ q.val * 1 + ((⟨2, ![8192, 1]⟩ : Shape).rowMajor.symm n 1).val - 0 < 256
        rw [hw1]; omega]

/-- The same column `w` rows earlier, with a value above its top. -/
theorem lag_at (w : Nat) (x : FVec Ideal S8192x256 .f32) (v : FVec Ideal S_ .f32) (h hu hs) (s : Fin 8192) (q : Fin 256) :
    extractStridedSlice S8192x256 ![0, 0] (pad ⟨2, ![8192 + w, 256]⟩ ![w, 0] ![0, 0] ![0, 0] x v h hu) hs (ix2 s q)
      = if hw : w ≤ s then x (ix2 (⟨s - w, by omega⟩ : Fin 8192) q) else v (Shape.Idx.first hu) := by
  have e : extractStridedSlice S8192x256 ![0, 0] (pad ⟨2, ![8192 + w, 256]⟩ ![w, 0] ![0, 0] ![0, 0] x v h hu) hs (ix2 s q)
      = pad ⟨2, ![8192 + w, 256]⟩ ![w, 0] ![0, 0] ![0, 0] x v h hu (ix2 (⟨s, by omega⟩ : Fin (8192 + w)) q) := by
    unfold extractStridedSlice
    refine congrArg _ (funext fun a => Fin.ext ?_)
    match a with
    | ⟨0, _⟩ => show 0 + s.val = s.val; omega
    | ⟨1, _⟩ => show 0 + q.val = q.val; omega
  rw [e]
  split
  · next hw =>
    exact pad_apply_of_inside _ _ _ x v h hu _ _ fun a => match a with
      | ⟨0, _⟩ => by show s.val = w + (s.val - w) * (0 + 1); omega
      | ⟨1, _⟩ => by show q.val = 0 + q.val * (0 + 1); omega
  · next hw =>
    exact pad_apply_of_not_inside _ _ _ x v h hu _ (0 : Fin 2) fun hh => hw hh.1

/-! ## The four groups -/

variable (x0 : FVec Ideal S8192x9216 .bf16) (x7 : FVec Ideal S4x256x256 .bf16)

/-- Column `c` of the tokens to be pooled, zero past its end. -/
def tok (c : Fin 1024) (n : Nat) : EReal := if h : n < 8192 then x0 (ix2 (⟨n, h⟩ : Fin 8192) (⟨8192 + c, by omega⟩ : Fin 9216)) else 0

/-- The mean of the last `w` tokens of a column, less the token itself. -/
def pool (w : Nat) (wd : BitVec 32) (c : Fin 1024) (s : Nat) : EReal :=
  Ideal.div ((∑ n ∈ Finset.range (s + 1), tok x0 c n) - (if w ≤ s then ∑ n ∈ Finset.range (s - w + 1), tok x0 c n else 0))
    (min (FloatOps.sitofp (F := Ideal) .f32 (IntOp.addi 1#32 (BitVec.ofNat 32 s))) (Ideal.ofBits .f32 wd)) - tok x0 c s

/-- The integer zero as a float. -/
theorem zero_word : FloatOps.sitofp (F := Ideal) .f32 0#32 = 0 := by
  show (((0#32 : BitVec 32).toInt : ℝ) : EReal) = 0
  simp

/-- A group's pooled tokens, from its tokens, their running sums and those `w` rows earlier. -/
theorem pool_of (w : Nat) (wd : BitVec 32) (c : Fin 1024) (T : FVec Ideal S8192x256 .f32) (z v : FVec Ideal S_ .f32) {h hu h' hu' hs}
    (hz : z (Shape.Idx.first hu) = 0) (hv : v (Shape.Idx.first hu') = 0) (s : Fin 8192) (q : Fin 256) (hT : ∀ n : Fin 8192, T (ix2 n q) = tok x0 c n) :
    Ideal.div (Host.reduceWindowAdd (F := Ideal) (t := S8192x256) ![8192, 1] ![1, 1] ![8191, 0] ![0, 0] T z h hu (ix2 s q)
          - extractStridedSlice S8192x256 ![0, 0] (pad ⟨2, ![8192 + w, 256]⟩ ![w, 0] ![0, 0] ![0, 0]
              (Host.reduceWindowAdd (F := Ideal) (t := S8192x256) ![8192, 1] ![1, 1] ![8191, 0] ![0, 0] T z h hu) v h' hu') hs (ix2 s q))
        (min (FloatOps.sitofp (F := Ideal) .f32 (IntOp.addi 1#32 (BitVec.ofNat 32 s))) (Ideal.ofBits .f32 wd)) - T (ix2 s q) = pool x0 w wd c s := by
  rw [lag_at, cumsum_at T z h hu hz _ s q hT, hT, hv]
  unfold pool
  split
  · rw [cumsum_at T z h hu hz _ _ q hT]
  · rfl

/-- The first group: windows of two. -/
theorem pool_at0 (s : Fin 8192) (q : Fin 256) : val_main_v67 (F := Ideal) x0 (ix2 s q) = pool x0 2 0x40000000#32 ⟨q, by omega⟩ s := by
  pointwise [val_main_v67, val_main_v66, val_main_v65, val_main_v64, val_main_v63, val_main_v62, val_main_v56, val_main_v55, val_main_v54, val_main_v53, val_main_v52, val_main_c_5, val_main_cst_7]
  refine pool_of x0 2 _ _ (val_main_v58 (F := Ideal) x0) _ _ ?_ ?_ s q fun n => ?_
  · pointwise [val_main_call2_call0_v0, val_main_call2_call0_cst]
  · pointwise [val_main_call3_v0, val_main_c_6]
    exact zero_word
  · unfold tok
    rw [dif_pos n.isLt]
    pointwise [val_main_v58, val_main_v57, val_main_v51, val_main_v9, val_main_v0]

/-- The second group: windows of four. -/
theorem pool_at1 (s : Fin 8192) (q : Fin 256) : val_main_v81 (F := Ideal) x0 (ix2 s q) = pool x0 4 0x40800000#32 ⟨256 + q, by omega⟩ s := by
  pointwise [val_main_v81, val_main_v80, val_main_v79, val_main_v78, val_main_v77, val_main_v76, val_main_v56, val_main_v55, val_main_v54, val_main_v53, val_main_v52, val_main_c_5, val_main_cst_9]
  refine pool_of x0 4 _ _ (val_main_v72 (F := Ideal) x0) _ _ ?_ ?_ s q fun n => ?_
  · pointwise [val_main_call4_call0_v0, val_main_call4_call0_cst]
  · pointwise [val_main_call5_v0, val_main_c_8]
    exact zero_word
  · unfold tok
    rw [dif_pos n.isLt]
    pointwise [val_main_v72, val_main_v71, val_main_v51, val_main_v9, val_main_v0]

/-- The third group: windows of eight. -/
theorem pool_at2 (s : Fin 8192) (q : Fin 256) : val_main_v95 (F := Ideal) x0 (ix2 s q) = pool x0 8 0x41000000#32 ⟨512 + q, by omega⟩ s := by
  pointwise [val_main_v95, val_main_v94, val_main_v93, val_main_v92, val_main_v91, val_main_v90, val_main_v56, val_main_v55, val_main_v54, val_main_v53, val_main_v52, val_main_c_5, val_main_cst_11]
  refine pool_of x0 8 _ _ (val_main_v86 (F := Ideal) x0) _ _ ?_ ?_ s q fun n => ?_
  · pointwise [val_main_call6_call0_v0, val_main_call6_call0_cst]
  · pointwise [val_main_call7_v0, val_main_c_10]
    exact zero_word
  · unfold tok
    rw [dif_pos n.isLt]
    pointwise [val_main_v86, val_main_v85, val_main_v51, val_main_v9, val_main_v0]

/-- The fourth group: windows of sixteen. -/
theorem pool_at3 (s : Fin 8192) (q : Fin 256) : val_main_v109 (F := Ideal) x0 (ix2 s q) = pool x0 16 0x41800000#32 ⟨768 + q, by omega⟩ s := by
  pointwise [val_main_v109, val_main_v108, val_main_v107, val_main_v106, val_main_v105, val_main_v104, val_main_v56, val_main_v55, val_main_v54, val_main_v53, val_main_v52, val_main_c_5, val_main_cst_13]
  refine pool_of x0 16 _ _ (val_main_v100 (F := Ideal) x0) _ _ ?_ ?_ s q fun n => ?_
  · pointwise [val_main_call8_call0_v0, val_main_call8_call0_cst]
  · pointwise [val_main_call9_v0, val_main_c_12]
    exact zero_word
  · unfold tok
    rw [dif_pos n.isLt]
    pointwise [val_main_v100, val_main_v99, val_main_v51, val_main_v9, val_main_v0]

/-- The window of a group of columns. -/
def win (g : Nat) : Nat := if g = 0 then 2 else if g = 1 then 4 else if g = 2 then 8 else 16

/-- A piece of the four groups side by side. -/
theorem piece_at (g : Nat) (hg : g < 4) (s : Fin 8192) (q : Fin 256) (y : FVec Ideal S8192x256 .f32)
    (hy : [val_main_v70 (F := Ideal) x0 x7, val_main_v84 (F := Ideal) x0 x7, val_main_v98 (F := Ideal) x0 x7, val_main_v112 (F := Ideal) x0 x7][g]'hg = y) :
    val_main_v113 (F := Ideal) x0 x7 (ix2 s ⟨256 * g + q, by omega⟩) = y (ix2 s q) := by
  subst hy
  unfold val_main_v113
  refine concatenate_apply_piece (t := S8192x1024) 1 [⟨S8192x256, val_main_v70 (F := Ideal) x0 x7⟩, ⟨S8192x256, val_main_v84 (F := Ideal) x0 x7⟩,
    ⟨S8192x256, val_main_v98 (F := Ideal) x0 x7⟩, ⟨S8192x256, val_main_v112 (F := Ideal) x0 x7⟩] _ _ g hg S8192x256 _ ?_ rfl (256 * g) ?_ (ix2 s q)
    (fun b hb => ?_) rfl
  · interval_cases g <;> rfl
  · interval_cases g <;> rfl
  · match b with
    | ⟨0, _⟩ => rfl
    | ⟨1, _⟩ => exact absurd rfl hb

/-- A group's products: its pooled tokens times its weight. -/
theorem y_piece (g : Nat) (hg : g < 4) (s : Fin 8192) (q : Fin 256) : val_main_v113 (F := Ideal) x0 x7 (ix2 s ⟨256 * g + q, by omega⟩)
    = ∑ k : Fin 256, pool x0 (win g) (Cert.KernelIdeal.Mix.word g) ⟨256 * g + k, by omega⟩ s * x7 (ix3 (⟨g, hg⟩ : Fin 4) k q) := by
  refine (piece_at x0 x7 g hg s q _ rfl).trans ?_
  interval_cases g
  · show val_main_v70 (F := Ideal) x0 x7 (ix2 s q) = _
    pointwise [val_main_v70, val_main_v69, val_main_v68, val_main_v1]
    simp only [pool_at0]
    rfl
  · show val_main_v84 (F := Ideal) x0 x7 (ix2 s q) = _
    pointwise [val_main_v84, val_main_v83, val_main_v82, val_main_v1]
    simp only [pool_at1]
    rfl
  · show val_main_v98 (F := Ideal) x0 x7 (ix2 s q) = _
    pointwise [val_main_v98, val_main_v97, val_main_v96, val_main_v1]
    simp only [pool_at2]
    rfl
  · show val_main_v112 (F := Ideal) x0 x7 (ix2 s q) = _
    pointwise [val_main_v112, val_main_v111, val_main_v110, val_main_v1]
    simp only [pool_at3]
    rfl

/-- The pooling's products, column by column. -/
theorem y_at (s : Fin 8192) (j : Fin 1024) : val_main_v113 (F := Ideal) x0 x7 (ix2 s j)
    = ∑ k : Fin 256, pool x0 (win (j / 256)) (Cert.KernelIdeal.Mix.word (j / 256)) ⟨256 * (j / 256) + k, by omega⟩ s
        * x7 (ix3 (⟨j / 256, by omega⟩ : Fin 4) k (⟨j % 256, by omega⟩ : Fin 256)) := by
  refine Eq.trans (congrArg (fun i => val_main_v113 (F := Ideal) x0 x7 (ix2 s i)) (Fin.ext ?_)) (y_piece x0 x7 (j / 256) (by omega) s ⟨j % 256, by omega⟩)
  exact (Nat.div_add_mod _ _).symm

end Cert.ReferenceIdeal.Mix
-- ==== Proof.MixBlk.lean ====
/- The mixer's blocks as parts of the arrays: row `r` of point `t` is row `256 t + r`. -/
module

public import proofs.«01_k».proof.Proof.MixPoint
public import proofs.«01_k».proof.Proof.MixPool

@[expose] public section

set_option maxRecDepth 16384

noncomputable section

namespace Cert.KernelIdeal.Mix

open Idealize.ShloMosaic Idealize.ShloMosaic.TcCoe Idealize.ShloMosaic.Pipeline Idealize.ShloMosaic.Tactic
open Cert.KernelIdeal Cert.KernelIdeal.Gen

variable (m : (ℓ : Loc nD τ sig) → Buf (Elt Ideal) ℓ) (c : Dev nD) (t : Fin cfg0.N)

/-- The place of each window at a point. -/
theorem idx : ∀ t : Fin cfg0.N, win0_0.index t = ![t.val, 0] ∧ win0_1.index t = ![t.val, 1] ∧ win0_2.index t = ![t.val, 2]
    ∧ win0_3.index t = ![t.val, 3] ∧ win0_4.index t = ![t.val, 8] ∧ win0_5.index t = ![8 * t.val - 1, 8] ∧ win0_6.index t = ![t.val, 0]
    ∧ win0_7.index t = ![0, 0] ∧ win0_8.index t = ![0, 0] ∧ win0_9.index t = ![0, 0] ∧ win0_10.index t = ![0, 0, 0] ∧ win0_11.index t = ![0, 0]
    ∧ win0_12.index t = ![0, 0, 0] ∧ win0_13.index t = ![0, 0] ∧ win0_14.index t = ![0, 0] ∧ win0_15.index t = ![0, 1] ∧ win0_16.index t = ![0, 2]
    ∧ win0_17.index t = ![0, 0] ∧ win0_18.index t = ![t.val, 0] ∧ win0_19.index t = ![t.val, 0] :=
  (by decide +kernel : ∀ t : Fin grid0.N, _)

/-- There are 32 points. -/
theorem point_lt : t.val < 32 := lt_of_lt_of_eq t.isLt N_0

/-- The row of the arrays that is row `r` of point `t`. -/
def row (r : Fin 256) : Fin 8192 := ⟨256 * t.val + r.val, by have := point_lt t; omega⟩

/-- A vector stored as a one-row matrix. -/
theorem cast_row {n : Nat} (x : FVec Ideal ⟨1, ![n]⟩ .f32) (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_two, Shape.rowMajor_val_one]
  show j.val = 0 * n + j.val
  omega

/-- The gate's columns. -/
theorem u_at (r : Fin 256) (j : Fin 2048) : (blk m c t).u (ix2 r j) = m ((c : Thread nD τ).loc main_arg0) (ix2 (row t r) ⟨j, by omega⟩) := by
  show X0_0 m c t (ix2 r j) = _
  unfold X0_0 Window.fill row
  have hN := point_lt t
  rw [dif_pos (moved0_0 t _)]
  blk_point [iblk, V, idx t]

/-- The gated half's columns. -/
theorem v_at (r : Fin 256) (j : Fin 2048) : (blk m c t).v (ix2 r j) = m ((c : Thread nD τ).loc main_arg0) (ix2 (row t r) ⟨2048 + j, by omega⟩) := by
  show X0_1 m c t (ix2 r j) = _
  unfold X0_1 Window.fill row
  have hN := point_lt t
  rw [dif_pos (moved0_1 t _)]
  blk_point [iblk, V, idx t]

/-- The first branch's gate. -/
theorem ga_at (r : Fin 256) (j : Fin 2048) : (blk m c t).ga (ix2 r j) = m ((c : Thread nD τ).loc main_arg0) (ix2 (row t r) ⟨4096 + j, by omega⟩) := by
  show X0_2 m c t (ix2 r j) = _
  unfold X0_2 Window.fill row
  have hN := point_lt t
  rw [dif_pos (moved0_2 t _)]
  blk_point [iblk, V, idx t]

/-- The second branch's gate. -/
theorem gb_at (r : Fin 256) (j : Fin 2048) : (blk m c t).gb (ix2 r j) = m ((c : Thread nD τ).loc main_arg0) (ix2 (row t r) ⟨6144 + j, by omega⟩) := by
  show X0_3 m c t (ix2 r j) = _
  unfold X0_3 Window.fill row
  have hN := point_lt t
  rw [dif_pos (moved0_3 t _)]
  blk_point [iblk, V, idx t]

/-- The tokens to be pooled. -/
theorem p_at (r : Fin 256) (j : Fin 1024) : (blk m c t).p (ix2 r j) = m ((c : Thread nD τ).loc main_arg0) (ix2 (row t r) ⟨8192 + j, by omega⟩) := by
  show iblk m c 4 t (ix2 r j) = _
  unfold row
  have hN := point_lt t
  blk_point [iblk, V, idx t]

/-- The rows before a block that is not the first. -/
theorem h_at (h0 : 0 < t.val) (r : Fin 32) (j : Fin 1024) : (blk m c t).h (ix2 r j)
    = m ((c : Thread nD τ).loc main_arg0) (ix2 (⟨256 * t + r - 32, by have := point_lt t; omega⟩ : Fin 8192) (⟨8192 + j, by omega⟩ : Fin 9216)) := by
  show iblk m c 5 t (ix2 r j) = _
  have hN := point_lt t
  blk_point [iblk, V, idx t]

/-- The residual. -/
theorem x_at (r : Fin 256) (j : Fin 2048) : (blk m c t).x (ix2 r j) = m ((c : Thread nD τ).loc main_arg1) (ix2 (row t r) j) := by
  show iblk m c 6 t (ix2 r j) = _
  unfold row
  have hN := point_lt t
  blk_point [iblk, V, idx t]

/-- The residual's gate. -/
theorem gate_at (j : Fin 2048) : (blk m c t).gate (ix2 0 j) = m ((c : Thread nD τ).loc main_arg2) (ix2 0 ⟨j, by omega⟩) := by
  show iblk m c 7 t (ix2 0 j) = _
  blk_point [iblk, V, idx t]

/-- The layer norm's gain. -/
theorem g_at (j : Fin 2048) : (blk m c t).g (ix2 0 j) = m ((c : Thread nD τ).loc main_arg3) (ix1 j) := by
  have hi : (win0_8.blk t).view.emb (ix2 0 j) = (ix2 0 j : S1x2048.Idx) := by blk_ext [idx t]
  show (V m c main_v5 : FVec Ideal S1x2048 .f32) ((win0_8.blk t).view.emb (ix2 0 j)) = _
  rw [hi]
  exact cast_row (m ((c : Thread nD τ).loc main_arg3)) shapeCasts_S2048_S1x2048 j

/-- The layer norm's bias. -/
theorem b_at (j : Fin 2048) : (blk m c t).b (ix2 0 j) = m ((c : Thread nD τ).loc main_arg4) (ix1 j) := by
  have hi : (win0_9.blk t).view.emb (ix2 0 j) = (ix2 0 j : S1x2048.Idx) := by blk_ext [idx t]
  show (V m c main_v6 : FVec Ideal S1x2048 .f32) ((win0_9.blk t).view.emb (ix2 0 j)) = _
  rw [hi]
  exact cast_row (m ((c : Thread nD τ).loc main_arg4)) shapeCasts_S2048_S1x2048 j

/-- The chunk's weights, their upper triangle zeroed as in the reference. -/
theorem ws_at (h : Fin 8) (i k : Fin 128) : (blk m c t).ws (ix3 h i k)
    = Cert.ReferenceIdeal.Read.val_main_v41 (F := Ideal) (m ((c : Thread nD τ).loc main_arg5)) (ix3 h i k) := by
  show iblk m c 10 t (ix3 h i k) = _
  blk_point [iblk, V, idx t]

/-- The chunk's bias, transposed. -/
theorem bs_at (i : Fin 128) (h : Fin 8) : (blk m c t).bs (ix2 i h) = m ((c : Thread nD τ).loc main_arg6) (ix2 h i) := by
  have hi : (win0_11.blk t).view.emb (ix2 i h) = (ix2 i h : S128x8.Idx) := by blk_ext [idx t]
  show (V m c main_v7 : FVec Ideal S128x8 .f32) ((win0_11.blk t).view.emb (ix2 i h)) = _
  rw [hi]
  show transpose S128x8 [1, 0] (m ((c : Thread nD τ).loc main_arg6)) transposes_S8x128_S128x8_1_0 (ix2 i h) = _
  exact transpose_apply [1, 0] (m ((c : Thread nD τ).loc main_arg6)) transposes_S8x128_S128x8_1_0 (ix2 i h) (ix2 h i) (fun b => match b with
    | ⟨0, _⟩ => rfl
    | ⟨1, _⟩ => rfl)

/-- The pooling's weights. -/
theorem wp_at (g : Fin 4) (k q : Fin 256) : (blk m c t).wp (ix3 g k q) = m ((c : Thread nD τ).loc main_arg7) (ix3 g k q) := by
  show iblk m c 12 t (ix3 g k q) = _
  blk_point [iblk, V, idx t]

/-- The pooling's scale. -/
theorem ps_at (j : Fin 1024) : (blk m c t).ps (ix2 0 j) = m ((c : Thread nD τ).loc main_arg8) (ix1 j) := by
  have hi : (win0_13.blk t).view.emb (ix2 0 j) = (ix2 0 j : S1x1024.Idx) := by blk_ext [idx t]
  show (V m c main_v8 : FVec Ideal S1x1024 .f32) ((win0_13.blk t).view.emb (ix2 0 j)) = _
  rw [hi]
  exact cast_row (m ((c : Thread nD τ).loc main_arg8)) shapeCasts_S1024_S1x1024 j

/-- The first norm's gain. -/
theorem gpost_at (j : Fin 2048) : (blk m c t).gpost (ix2 0 j) = m ((c : Thread nD τ).loc main_arg12) (ix1 j) := by
  have hi : (win0_14.blk t).view.emb (ix2 0 j) = (ix2 0 j : S1x2048.Idx) := by blk_ext [idx t]
  show (V m c main_v9 : FVec Ideal S1x2048 .f32) ((win0_14.blk t).view.emb (ix2 0 j)) = _
  rw [hi]
  exact cast_row (m ((c : Thread nD τ).loc main_arg12)) shapeCasts_S2048_S1x2048 j

/-- The shift. -/
theorem shift_at (j : Fin 2048) : (blk m c t).shift (ix2 0 j) = m ((c : Thread nD τ).loc main_arg2) (ix2 0 ⟨2048 + j, by omega⟩) := by
  show iblk m c 15 t (ix2 0 j) = _
  blk_point [iblk, V, idx t]

/-- The scale. -/
theorem scale_at (j : Fin 2048) : (blk m c t).scale (ix2 0 j) = m ((c : Thread nD τ).loc main_arg2) (ix2 0 ⟨4096 + j, by omega⟩) := by
  show iblk m c 16 t (ix2 0 j) = _
  blk_point [iblk, V, idx t]

/-- The second norm's gain. -/
theorem gpre_at (j : Fin 2048) : (blk m c t).gpre (ix2 0 j) = m ((c : Thread nD τ).loc main_arg13) (ix1 j) := by
  have hi : (win0_17.blk t).view.emb (ix2 0 j) = (ix2 0 j : S1x2048.Idx) := by blk_ext [idx t]
  show (V m c main_v10 : FVec Ideal S1x2048 .f32) ((win0_17.blk t).view.emb (ix2 0 j)) = _
  rw [hi]
  exact cast_row (m ((c : Thread nD τ).loc main_arg13)) shapeCasts_S2048_S1x2048 j

/-- The point's number. -/
theorem i_at : (blk m c t).i = BitVec.ofNat 32 t.val := by
  have h : ∀ t : Fin grid0.N, (grid0.coords t 0).val = t.val := by decide +kernel
  exact congrArg (BitVec.ofNat 32) (h t)

end Cert.KernelIdeal.Mix
-- ==== Proof.MixFinal.lean ====
/- The mixer's two results are the reference's, stage by stage, when the pooled tokens are finite. -/
module

public import proofs.«01_k».proof.Proof.MixBlk

@[expose] public section

set_option maxRecDepth 16384

noncomputable section

namespace Cert.KernelIdeal.Mix

open Idealize.ShloMosaic Idealize.ShloMosaic.TcCoe Idealize.ShloMosaic.Pipeline Idealize.ShloMosaic.Tactic
open Cert.KernelIdeal Cert.KernelIdeal.Gen
open Cert.ReferenceIdeal.Read Cert.ReferenceIdeal.Mix

variable (m : (ℓ : Loc nD τ sig) → Buf (Elt Ideal) ℓ) (c : Dev nD) (t : Fin cfg0.N)

/-! ## The gated half -/

/-- The normalised rows. -/
theorem vn_eq (r : Fin 256) (j : Fin 2048) : (blk m c t).vn r j
    = val_main_v35 (F := Ideal) (m ((c : Thread nD τ).loc main_arg0)) (m ((c : Thread nD τ).loc main_arg3)) (m ((c : Thread nD τ).loc main_arg4))
        (ix2 (row t r) j) := by
  unfold Blk.vn
  rw [vn_at, g_at, b_at]
  simp only [v_at]

/-- The gated rows. -/
theorem gated_eq (r : Fin 256) (j : Fin 2048) : (blk m c t).gated r j
    = val_main_v49 (F := Ideal) (m ((c : Thread nD τ).loc main_arg0)) (m ((c : Thread nD τ).loc main_arg3)) (m ((c : Thread nD τ).loc main_arg4))
        (m ((c : Thread nD τ).loc main_arg5)) (m ((c : Thread nD τ).loc main_arg6)) (ix2 (row t r) j) := by
  have hr : (row t r).val % 128 = r.val % 128 := by show (256 * t.val + r.val) % 128 = _; omega
  unfold Blk.gated
  rw [gated_at, u_at, bs_at]
  refine congrArg₂ (fun a b : EReal => a * b) rfl (congrArg₂ (fun a b : EReal => a + b) (Finset.sum_congr rfl fun k _ => ?_) ?_)
  · rw [mul_comm, vn_eq, ws_at]
    refine congrArg₂ (fun a b : EReal => a * b) (congrArg (fun s => val_main_v35 (F := Ideal) _ _ _ (ix2 s j)) (Fin.ext ?_))
      (congrArg (fun s => val_main_v41 (F := Ideal) _ (ix3 _ s k)) (Fin.ext hr.symm))
    show 256 * t.val + (128 * (r.val / 128) + k.val) = (256 * t.val + r.val) / 128 * 128 + k.val
    omega
  · exact congrArg (fun s => m ((c : Thread nD τ).loc main_arg6) (ix2 _ s)) (Fin.ext hr.symm)

/-! ## The pooling -/

/-- A column of the tokens with 32 zeros above it. -/
def tall (x : FVec Ideal S8192x9216 .bf16) (j : Fin 1024) (a : ℕ) : EReal := if 32 ≤ a then tok x j (a - 32) else 0

/-- The number of the first point is not positive. -/
theorem first (h : t.val = 0) (x : FVec Ideal S32x1024 .bf16) (r : Fin 32) (j : Fin 1024) : k0_pay102 (F := Ideal) (BitVec.ofNat 32 t.val) x (ix2 r j) = 0 := by
  open_payloads
  pointwise
  rw [h, show (Scalar.extui (Scalar.cmpi .sgt (BitVec.ofNat 32 0) 0#32) : BitVec 32) = 0#32 by decide]
  simp

/-- The numbers of the others are. -/
theorem later (h : 0 < t.val) (x : FVec Ideal S32x1024 .bf16) (r : Fin 32) (j : Fin 1024) :
    k0_pay102 (F := Ideal) (BitVec.ofNat 32 t.val) x (ix2 r j) = x (ix2 r j) := by
  open_payloads
  pointwise
  have e : ∀ n : Fin 32, 0 < n.val → (Scalar.extui (Scalar.cmpi .sgt (BitVec.ofNat 32 n.val) 0#32) : BitVec 32) = 1#32 := by decide
  rw [e ⟨t, point_lt t⟩ h]
  simp

/-- The block and the rows before it, as rows of the column. -/
theorem pe_eq (n : ℕ) (hn : n < 288) (j : Fin 1024) : (blk m c t).pe n j = tall (m ((c : Thread nD τ).loc main_arg0)) j (256 * t + n) := by
  have ht := point_lt t
  unfold Blk.pe tall
  rw [i_at]
  by_cases h : n < 32
  · rw [dif_pos h]
    by_cases h0 : t.val = 0
    · rw [first t h0, if_neg (by omega)]
    · rw [later t (by omega), h_at m c t (by omega), if_pos (by omega)]
      unfold tok
      rw [dif_pos (by omega)]
  · rw [dif_neg h, dif_pos hn, if_pos (by omega), p_at]
    unfold tok
    rw [dif_pos (by omega)]
    exact congrArg (fun s => m ((c : Thread nD τ).loc main_arg0) (ix2 s _)) (Fin.ext (by show 256 * t.val + (n - 32) = 256 * t.val + n - 32; omega))

/-- The sum of the `w` terms up to `a`. -/
def back (F : ℕ → EReal) (w a : ℕ) : EReal := ∑ k ∈ Finset.range w, F (a - k)

/-- Two neighbouring sums together. -/
theorem back_add (F : ℕ → EReal) (w a : ℕ) : back F w a + back F w (a - w) = back F (w + w) a := by
  unfold back
  rw [Finset.sum_range_add]
  exact congrArg (_ + ·) (Finset.sum_congr rfl fun k _ => by rw [Nat.sub_sub])

/-- Pairs added level by level: the sum of the 2 rows up to this one. -/
theorem w2_eq (n : ℕ) (h1 : 1 ≤ n) (hn : n < 288) (j : Fin 1024) :
    (blk m c t).w2 n j = back (tall (m ((c : Thread nD τ).loc main_arg0)) j) 2 (256 * t + n) := by
  unfold Blk.w2
  rw [pe_eq m c t n hn, pe_eq m c t (n - 1) (by omega), ← back_add _ 1, ← Nat.add_sub_assoc h1]
  simp [back]

/-- Pairs added level by level: the sum of the 4 rows up to this one. -/
theorem w4_eq (n : ℕ) (h1 : 3 ≤ n) (hn : n < 288) (j : Fin 1024) :
    (blk m c t).w4 n j = back (tall (m ((c : Thread nD τ).loc main_arg0)) j) 4 (256 * t + n) := by
  unfold Blk.w4
  rw [w2_eq m c t n (by omega) hn, w2_eq m c t (n - 2) (by omega) (by omega), ← Nat.add_sub_assoc (show 2 ≤ n by omega), back_add]

/-- Pairs added level by level: the sum of the 8 rows up to this one. -/
theorem w8_eq (n : ℕ) (h1 : 7 ≤ n) (hn : n < 288) (j : Fin 1024) :
    (blk m c t).w8 n j = back (tall (m ((c : Thread nD τ).loc main_arg0)) j) 8 (256 * t + n) := by
  unfold Blk.w8
  rw [w4_eq m c t n (by omega) hn, w4_eq m c t (n - 4) (by omega) (by omega), ← Nat.add_sub_assoc (show 4 ≤ n by omega), back_add]

/-- Pairs added level by level: the sum of the 16 rows up to this one. -/
theorem w16_eq (n : ℕ) (h1 : 15 ≤ n) (hn : n < 288) (j : Fin 1024) :
    (blk m c t).w16 n j = back (tall (m ((c : Thread nD τ).loc main_arg0)) j) 16 (256 * t + n) := by
  unfold Blk.w16
  rw [w8_eq m c t n (by omega) hn, w8_eq m c t (n - 8) (by omega) (by omega), ← Nat.add_sub_assoc (show 8 ≤ n by omega), back_add]

/-- A group's window sums. -/
theorem wsum_eq (g : ℕ) (n : ℕ) (h1 : 15 ≤ n) (hn : n < 288) (j : Fin 1024) :
    (blk m c t).wsum g n j = back (tall (m ((c : Thread nD τ).loc main_arg0)) j) (win g) (256 * t + n) := by
  unfold Blk.wsum win
  split_ifs
  · exact w2_eq m c t n (by omega) hn j
  · exact w4_eq m c t n (by omega) hn j
  · exact w8_eq m c t n (by omega) hn j
  · exact w16_eq m c t n (by omega) hn j

/-- A row's position, counted from one. -/
theorem pos_eq (r : Fin 256) : k0_pay109 (F := Ideal) (BitVec.ofNat 32 t.val) (ix2 r 0)
    = FloatOps.sitofp (F := Ideal) .f32 (IntOp.addi 1#32 (BitVec.ofNat 32 (row t r).val)) := by
  open_payloads
  pointwise
  refine congrArg (FloatOps.sitofp (F := Ideal) .f32) ?_
  show BitVec.ofNat 32 t.val * 256#32 + 1#32 + BitVec.ofNat 32 r.val = 1#32 + BitVec.ofNat 32 (256 * t.val + r.val)
  have := point_lt t
  apply BitVec.eq_of_toNat_eq
  simp only [BitVec.toNat_add, BitVec.toNat_mul, BitVec.toNat_ofNat]
  omega

/-- The tokens' columns are the last of the activations' columns. -/
theorem tok_col (j : Fin 1024) : 8192 + (j : Nat) < 9216 := by omega

variable (hfin : ∀ (s : Fin 8192) (j : Fin 1024), ∃ r : ℝ, m ((c : Thread nD τ).loc main_arg0) (ix2 s ⟨8192 + j, tok_col j⟩) = (r : EReal))
include hfin

/-- A column with zeros above it holds reals. -/
theorem tall_real (j : Fin 1024) (a : ℕ) : ∃ r : ℝ, tall (m ((c : Thread nD τ).loc main_arg0)) j a = (r : EReal) := by
  unfold tall tok
  split_ifs with h h'
  · exact hfin _ _
  · exact ⟨0, rfl⟩
  · exact ⟨0, rfl⟩

/-- The pooled tokens. -/
theorem pooled_eq (r : Fin 256) (j : Fin 1024) : (blk m c t).pooled r j
    = Cert.ReferenceIdeal.Mix.pool (m ((c : Thread nD τ).loc main_arg0)) (win (j / 256)) (word (j / 256)) j (row t r) := by
  have hw : win (j / 256) ≤ 16 := by unfold win; split_ifs <;> omega
  have e := window_sum (tall (m ((c : Thread nD τ).loc main_arg0)) j) (fun a ha => if_neg (by omega)) (tall_real m c hfin j) (row t r) _ hw
  have ht (n : ℕ) : tall (m ((c : Thread nD τ).loc main_arg0)) j (32 + n) = tok (m ((c : Thread nD τ).loc main_arg0)) j n := by
    unfold tall
    rw [if_pos (by omega), Nat.add_sub_cancel_left]
  have ha : 256 * t.val + (32 + r.val) = 32 + (row t r).val := by show _ = 32 + (256 * t.val + r.val); omega
  simp only [ht] at e
  unfold Blk.pooled Cert.ReferenceIdeal.Mix.pool
  rw [wsum_eq m c t _ _ (by omega) (by omega), pe_eq m c t _ (by omega), i_at, pos_eq, ha, ht, e]
  rfl

/-- The pooling's products, scaled. -/
theorem ybin_eq (r : Fin 256) (j : Fin 1024) : (blk m c t).ybin r j
    = val_main_v113 (F := Ideal) (m ((c : Thread nD τ).loc main_arg0)) (m ((c : Thread nD τ).loc main_arg7)) (ix2 (row t r) j)
        * m ((c : Thread nD τ).loc main_arg8) (ix1 j) := by
  unfold Blk.ybin
  rw [y_at, ps_at]
  refine congrArg (· * _) (Finset.sum_congr rfl fun k _ => ?_)
  rw [pooled_eq m c t hfin, wp_at]
  have e : (256 * (j.val / 256) + k.val) / 256 = j.val / 256 := by omega
  simp only [e]

/-! ## The results -/

/-- The branches, gated and added. -/
theorem merged_eq (r : Fin 256) (j : Fin 2048) : (blk m c t).merged r j
    = val_main_v120 (F := Ideal) (m ((c : Thread nD τ).loc main_arg0)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (ix2 (row t r) j) := by
  unfold Blk.merged
  rw [merged_at, ga_at, gb_at]
  simp only [gated_eq, ybin_eq m c t hfin]
  rfl

/-- The mixture. -/
theorem mix_eq (r : Fin 256) (j : Fin 2048) : (blk m c t).mix r j
    = val_main_v121 (F := Ideal) (m ((c : Thread nD τ).loc main_arg0)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (ix2 (row t r) j) := by
  unfold Blk.mix
  rw [mix_at]
  simp only [merged_eq m c t hfin]
  rfl

/-- The first result's rows. -/
theorem x1_eq (r : Fin 256) (j : Fin 2048) : (blk m c t).x1 r j
    = val_main_v137 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (ix2 (row t r) j) := by
  unfold Blk.x1
  rw [x1_at, x_at, gate_at, gpost_at]
  simp only [mix_eq m c t hfin]

/-- The second result's rows. -/
theorem h2_eq (r : Fin 256) (j : Fin 2048) : (blk m c t).h2 r j
    = val_main_v157 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (ix2 (row t r) j) := by
  unfold Blk.h2
  rw [h2_at, shift_at, gpre_at, scale_at]
  simp only [x1_eq m c t hfin]

/-- The first result, whole. -/
theorem final_x1 : (dats m 0 c).arrAt 18 cfg0.N
    = val_main_v137 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  refine (dats m 0 c).arrAt_eq_of_covers 18 _ (by decide +kernel) fun t hf y => ?_
  blk_simp
  rw [after0_18]
  refine (point m c t y).1.trans ((x1_eq m c t hfin (y 0) (y 1)).trans (congrArg _ ?_))
  have hN := point_lt t
  obtain ⟨y0, y1, rfl⟩ : ∃ (y0 : Fin 256) (y1 : Fin 2048), y = ix2 y0 y1 := ⟨y 0, y 1, by funext a; fin_cases a <;> rfl⟩
  unfold row
  symm
  blk_ext [idx t]

/-- The second result, whole. -/
theorem final_h2 : (dats m 0 c).arrAt 19 cfg0.N
    = val_main_v157 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  refine (dats m 0 c).arrAt_eq_of_covers 19 _ (by decide +kernel) fun t hf y => ?_
  blk_simp
  rw [after0_19]
  refine (point m c t y).2.trans ((h2_eq m c t hfin (y 0) (y 1)).trans (congrArg _ ?_))
  have hN := point_lt t
  obtain ⟨y0, y1, rfl⟩ : ∃ (y0 : Fin 256) (y1 : Fin 2048), y = ix2 y0 y1 := ⟨y 0, y 1, by funext a; fin_cases a <;> rfl⟩
  unfold row
  symm
  blk_ext [idx t]

end Cert.KernelIdeal.Mix
-- ==== Proof.MixPre.lean ====
/- The mixing call's precondition, read: the pooled tokens are real numbers. -/
module

public import proofs.«01_k».proof.Defs
public import proofs.«01_k».proof.Proof.MixFinal
public import Idealize.ShloMosaic.Lib.ReduceAll

@[expose] public section

set_option maxRecDepth 16384

noncomputable section

namespace Cert.KernelIdeal.Mix

open Idealize.ShloMosaic Idealize.ShloMosaic.TcCoe
open Cert.KernelIdeal

/-- The shape relations the precondition's operations take. -/
theorem tokens_facts : Cert.Pre_finite_tokens.Facts where
  slices_S8192x9216_S8192x1024_0_8192 := by decide
  bitsLt_bf16_f32 := by decide
  bcast_S_S8192x1024 := by decide
  reducesTo_S8192x1024_S_d0_1 := by decide
  h_S_ := by decide

/-- A number whose absolute value is below the infinity is real. -/
theorem real_of_abs (x : Ideal .f32) (h : FloatOps.cmpf .olt (FloatOps.absf x) (Ideal.ofBits .f32 0x7F800000#32 : Ideal .f32) = 1#1) :
    ∃ r : ℝ, x = (r : EReal) := by
  have htop : Ideal.ofBits .f32 0x7F800000#32 = ⊤ := by simp [Ideal.ofBits, Ideal.ieee]
  rw [htop] at h
  have hlt : max (x : EReal) (-x) < ⊤ := by
    by_contra hn
    have : Ideal.cmp .olt (max (x : EReal) (-x)) ⊤ = 0#1 := by simp [Ideal.cmp, hn]
    rw [show FloatOps.cmpf .olt (FloatOps.absf x) (⊤ : EReal) = Ideal.cmp .olt (max (x : EReal) (-x)) ⊤ from rfl, this] at h
    exact absurd h (by decide)
  induction x using EReal.rec with
  | bot => simp at hlt
  | top => simp at hlt
  | coe r => exact ⟨r, rfl⟩

/-- The precondition, at a row and a column of the tokens. -/
theorem tokens_real (m : (ℓ : Loc nD τ sig) → Buf (Elt Ideal) ℓ) (c : Dev nD)
    (hpre : Cert.Pre_KernelIdeal_finite_tokens (hPre_finite_tokens := tokens_facts) m)
    (s : Fin 8192) (j : Fin 1024) :
    ∃ r : ℝ, m ((c : Thread nD τ).loc main_arg0) (ix2 s ⟨8192 + j, tok_col j⟩) = (r : EReal) := by
  have h := congrFun (hpre c) (fun a => a.elim0)
  unfold Cert.Pre_finite_tokens.fn at h
  haveI : Subsingleton Cert.Pre_finite_tokens.S_.Idx := ⟨fun a b => funext fun k => k.elim0⟩
  have h2 := Host.reduce_andi_all _ _ _ _ _ h (ix2 s j)
  refine real_of_abs _ ?_
  refine Eq.trans ?_ h2
  pointwise []

end Cert.KernelIdeal.Mix
-- ==== Proof.Proj.lean ====
module

public import proofs.«01_k».proof.Proof.Gen.Kernel4Ideal.Value
public import proofs.«01_k».proof.Proof.Gen.Reference4Ideal.Read
public import proofs.«01_k».proof.Proof.Act

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen

variable (m : (ℓ : Loc nD τ sig) → Buf (Elt Ideal) ℓ)

/-- Where each window's block sits at a point. -/
theorem idx : ∀ t : Fin cfg0.N, win0_0.index t = ![t.val / 9, 0] ∧ win0_1.index t = ![0, t.val % 9] ∧ win0_2.index t = ![min t.val 31, 0]
    ∧ win0_3.index t = ![min t.val 31, 0] ∧ win0_4.index t = ![min t.val 31, 0] ∧ win0_5.index t = ![min t.val 31, 0]
    ∧ win0_6.index t = ![0, 0] ∧ win0_7.index t = ![0, 16 + min t.val 31] ∧ win0_8.index t = ![0, 16 + min t.val 31]
    ∧ win0_9.index t = ![t.val / 9, if t.val % 9 < 4 then t.val % 9 else if t.val % 9 < 5 then 8 else t.val % 9 - 1]
    ∧ win0_10.index t = ![min t.val 31, 0] ∧ win0_11.index t = ![min t.val 31, 0] ∧ win0_12.index t = ![min t.val 31, 0]
    ∧ win0_13.index t = ![min t.val 31, 0] ∧ win0_14.index t = ![0, min t.val 31] :=
  (by decide +kernel : ∀ t : Fin grid0.N, _)

/-- The cast of `w_branch_a`. -/
theorem final10 (c : Dev nD) : (dats m 0 c).arrAt 10 cfg0.N
    = Cert.Reference4Ideal.Read.val_main_v52 (F := Ideal) (m ((c : Thread nD τ).loc main_arg2)) := by
  refine (dats m 0 c).arrAt_eq_of_covers 10 _ (by decide +kernel) fun t hf y => ?_
  blk_simp
  rw [after0_10]
  have hN : t.val < 36 := lt_of_lt_of_eq t.isLt N_0
  unfold out0_10 r0_17
  idx_vars y
  rw [Layer.here2 y0 y1 (Nat.zero_add _).symm (Nat.zero_add _).symm]
  open_payloads
  pointwise [Cert.Reference4Ideal.Read.val_main_v52]
  blk_point [iblk, V, idx t]

/-- The cast of `w_out`. -/
theorem final11 (c : Dev nD) : (dats m 0 c).arrAt 11 cfg0.N
    = Cert.Reference4Ideal.Read.val_main_v53 (F := Ideal) (m ((c : Thread nD τ).loc main_arg3)) := by
  refine (dats m 0 c).arrAt_eq_of_covers 11 _ (by decide +kernel) fun t hf y => ?_
  blk_simp
  rw [after0_11]
  have hN : t.val < 36 := lt_of_lt_of_eq t.isLt N_0
  unfold out0_11 r0_17
  idx_vars y
  rw [Layer.here2 y0 y1 (Nat.zero_add _).symm (Nat.zero_add _).symm]
  open_payloads
  pointwise [Cert.Reference4Ideal.Read.val_main_v53]
  blk_point [iblk, V, idx t]

/-- The cast of `w_branch_b`. -/
theorem final12 (c : Dev nD) : (dats m 0 c).arrAt 12 cfg0.N
    = Cert.Reference4Ideal.Read.val_main_v54 (F := Ideal) (m ((c : Thread nD τ).loc main_arg4)) := by
  refine (dats m 0 c).arrAt_eq_of_covers 12 _ (by decide +kernel) fun t hf y => ?_
  blk_simp
  rw [after0_12]
  have hN : t.val < 36 := lt_of_lt_of_eq t.isLt N_0
  unfold out0_12 r0_18
  idx_vars y
  rw [Layer.here2 y0 y1 (Nat.zero_add _).symm (Nat.zero_add _).symm]
  open_payloads
  pointwise [Cert.Reference4Ideal.Read.val_main_v54]
  blk_point [iblk, V, idx t]

/-- The cast of the pooling weights, reshaped to a matrix. -/
theorem final13 (c : Dev nD) : (dats m 0 c).arrAt 13 cfg0.N
    = Cert.Reference4Ideal.Read.val_main_v56 (F := Ideal) (m ((c : Thread nD τ).loc main_arg5)) := by
  refine (dats m 0 c).arrAt_eq_of_covers 13 _ (by decide +kernel) fun t hf y => ?_
  blk_simp
  rw [after0_13]
  have hN : t.val < 36 := lt_of_lt_of_eq t.isLt N_0
  unfold out0_13 r0_19
  idx_vars y
  rw [Layer.here2 y0 y1 (Nat.zero_add _).symm (Nat.zero_add _).symm]
  open_payloads
  pointwise [Cert.Reference4Ideal.Read.val_main_v56]
  have h5 : V m c main_v0 = Cert.Reference4Ideal.Read.val_main_v55 (F := Ideal) (m ((c : Thread nD τ).loc main_arg5)) := rfl
  show V m c main_v0 _ = Cert.Reference4Ideal.Read.val_main_v55 (F := Ideal) (m ((c : Thread nD τ).loc main_arg5)) _
  rw [h5]
  refine congrArg _ ?_
  blk_ext [idx t]

/-- The tail of the modulation. -/
theorem final14 (c : Dev nD) : (dats m 0 c).arrAt 14 cfg0.N
    = Cert.Reference4Ideal.Read.val_main_v57 (F := Ideal) (m ((c : Thread nD τ).loc main_arg6)) (m ((c : Thread nD τ).loc main_arg7))
      (m ((c : Thread nD τ).loc main_arg8)) := by
  refine (dats m 0 c).arrAt_eq_of_covers 14 _ (by decide +kernel) fun t hf y => ?_
  blk_simp
  rw [after0_14]
  have hN : t.val < 36 := lt_of_lt_of_eq t.isLt N_0
  unfold out0_14 r0_22
  idx_vars y
  rw [Layer.here2 y0 y1 (Nat.zero_add _).symm (Nat.zero_add _).symm]
  open_payloads
  pointwise [Cert.Reference4Ideal.Read.val_main_v57, Cert.Reference4Ideal.Read.val_main_v49, Cert.Reference4Ideal.Read.val_main_v48, Cert.Reference4Ideal.Read.val_main_v47, Cert.Reference4Ideal.Read.val_main_v46, Cert.Reference4Ideal.Read.val_main_v45]
  have h6 : ∀ k : Fin 2048, iblk m c 6 t (ix2 0 k) = m ((c : Thread nD τ).loc main_arg6) (ix2 0 k) := fun k => by
    blk_point [iblk, V, idx t]
  have hi : (win0_14.blk t).view.emb (ix2 y0 y1) = (ix2 0 (⟨256 * min t.val 31 + y1, by omega⟩ : Fin 8192) : S1x8192.Idx) := by
    blk_ext [idx t]
  have h7 : ∀ k : Fin 2048, iblk m c 7 t (ix2 k y1) = m ((c : Thread nD τ).loc main_arg7) (ix2 k ⟨4096 + (256 * min t.val 31 + y1), by omega⟩) := fun k => by
    blk_point [iblk, V, idx t]
  have h8 : iblk m c 8 t (ix2 y0 y1) = m ((c : Thread nD τ).loc main_arg8) (ix1 ⟨4096 + (256 * min t.val 31 + y1), by omega⟩) := by
    blk_point [iblk, V, idx t]
  simp only [h6, h7, h8]
  have hi' := congrArg (fun q : S1x8192.Idx => (q 1).val) hi
  have hv : (((View.whole main_v2_5).slice (win0_14.rect t)).emb (ix2 y0 y1) 1).val = 256 * min t.val 31 + y1 := hi'
  simp only [hv]

/-! ## The projection -/

/-- An entry of the products of the tokens with the projection weight. -/
def dot (A : FVec Ideal S8192x2048 .bf16) (W : FVec Ideal S2048x9216 .f32) (i0 : Fin 8192) (i1 : Fin 9216) : EReal :=
  ∑ k : Fin 2048, A (ix2 i0 k) * W (ix2 k i1)

open Cert.Reference4Ideal.Read in
/-- The reference's products. -/
theorem ref_dot (A : FVec Ideal S8192x2048 .bf16) (W : FVec Ideal S2048x9216 .f32) (i0 : Fin 8192) (i1 : Fin 9216) :
    val_main_v1 (F := Ideal) A W (ix2 i0 i1) = dot A W i0 i1 := by
  pointwise [val_main_v1, val_main_v0, dot]

open Cert.Reference4Ideal.Read in
set_option maxHeartbeats 1000000 in
/-- An entry of the reference's projection, activated. -/
theorem ref_act (A : FVec Ideal S8192x2048 .bf16) (W : FVec Ideal S2048x9216 .f32) (i0 : Fin 8192) (i1 : Fin 9216) :
    val_main_v51 (F := Ideal) A W (ix2 i0 i1)
      = if h : i1.val < 4096 then Layer.gelu (dot A W i0 i1)
      else if h' : i1.val < 8192 then Ideal.div 1 (1 + Ideal.exp (-dot A W i0 ⟨i1 + 1024, by omega⟩))
      else dot A W i0 ⟨i1 - 4096, by omega⟩ := by
  rw [val_main_v51_apply]
  unfold val_main_v50
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3, val_main_cst_4, val_main_cst_5, val_main_cst_6, val_main_cst_7, val_main_cst_8, val_main_cst_9, val_main_cst_10]
  simp only [ref_dot, Layer.word_one, Layer.word_half, Layer.word_c0, Layer.word_c1]
  unfold Layer.gelu
  rcases lt_or_ge i1.val 4096 with a | a <;> rcases lt_or_ge i1.val 8192 with b | b
  all_goals first
    | rw [dif_pos a]
    | rw [dif_neg (not_lt.mpr a), dif_pos b]
    | rw [dif_neg (not_lt.mpr a), dif_neg (not_lt.mpr b)]
  all_goals split_ifs
  all_goals try split_ifs
  all_goals first
    | (exfalso; omega)
    | with_reducible rfl
    | simp only [show 2048 + (i1.val - 2048) = i1.val by omega]
    | simp only [show 5120 + (i1.val - 2048 - 2048) = i1.val + 1024 by omega]
    | simp only [show 7168 + (i1.val - 2048 - 2048 - 2048) = i1.val + 1024 by omega]
    | simp only [show 4096 + (i1.val - 2048 - 2048 - 2048 - 2048) = i1.val - 4096 by omega]

/-- Every point's column of the grid is its remainder by nine. -/
theorem coord1 : ∀ t : Fin cfg0.N, (grid0.coords t 1).val = t.val % 9 :=
  (by decide +kernel : ∀ t : Fin grid0.N, _)

/-- The comparison that finds the activation's columns, as the condition it states. -/
theorem class_lt : ∀ n : Fin 9, Scalar.cmpi .slt (BitVec.ofNat 32 n.val) 4#32 = if n.val < 4 then 1#1 else 0#1 := by decide
/-- The comparison that finds the gates' columns, as the condition it states. -/
theorem class_ge : ∀ n : Fin 9, Scalar.cmpi .sge (BitVec.ofNat 32 n.val) 5#32 = if 5 ≤ n.val then 1#1 else 0#1 := by decide

/-- The class constants at a column of the grid. -/
theorem consts (i : grid0.Coords) :
    (k0_pay4 (F := Ideal) i = if (i 1).val < 4 then ((13386282 / 16777216 : ℝ) : EReal) else if 5 ≤ (i 1).val then ((1 / 2 : ℝ) : EReal) else 0)
    ∧ (k0_pay5 (F := Ideal) i = if (i 1).val < 4 then ((80338380498831 / 2251799813685248 : ℝ) : EReal) else 0)
    ∧ (k0_pay6 (F := Ideal) i = if 5 ≤ (i 1).val then ((1 / 2 : ℝ) : EReal) else 0)
    ∧ (k0_pay7 (F := Ideal) i = if (i 1).val < 4 then ((1 / 2 : ℝ) : EReal) else if 5 ≤ (i 1).val then 0 else 1) := by
  have hl := class_lt ⟨(i 1).val, (i 1).isLt⟩
  have hg := class_ge ⟨(i 1).val, (i 1).isLt⟩
  unfold k0_pay4 k0_pay5 k0_pay6 k0_pay7
  simp only [hl, hg]
  refine ⟨?_, ?_, ?_, ?_⟩
  all_goals
    split_ifs
    all_goals first
      | (exfalso; omega)
      | exact Layer.word_c0
      | exact Layer.word_half
      | exact Layer.word_zero
      | exact Layer.word_one
      | rfl

/-- What a body with the class's constants makes of a point's rows: its formula of the products. -/
def rows (c4 c5 c6 c7 : EReal) (X : Vec Ideal S2048x2048 .bf16) (W : Vec Ideal S2048x1024 .f32) (y : S2048x1024.Idx) : EReal :=
  Layer.act c4 c5 c6 c7 (∑ k : Fin 2048, X (ix2 (y 0) k) * W (ix2 k (y 1)))

/-- A stored row block, at an entry of the block. -/
theorem piece (c4 c5 c6 c7 : EReal) (X : Vec Ideal S2048x2048 .bf16) (W : Vec Ideal S2048x1024 .f32) (o : ℕ)
    (h0 : ∀ a, (![o, 0] : Fin 2 → ℕ) a + S256x2048.size a ≤ S2048x2048.size a)
    (h1 : ∀ a, (![o, 0] : Fin 2 → ℕ) a + S256x1024.size a ≤ S2048x1024.size a) (x : S256x1024.Idx) :
    k0_pay14 (F := Ideal) c4 c5 c6 c7 (k0_pay8 (View.ld W r0_0)) (View.ld X (Rect.unit (s := S2048x2048) ![o, 0] S256x2048.size h0)) x
      = rows c4 c5 c6 c7 X W ((Rect.unit (s := S2048x1024) ![o, 0] S256x1024.size h1).emb x) := by
  have hx : o + (x 0).val < 2048 := by
    have := h1 0
    have := (x 0).isLt
    simp only [Matrix.cons_val_zero] at *
    exact lt_of_lt_of_le (Nat.add_lt_add_left this _) (h1 0)
  rw [show (Rect.unit (s := S2048x1024) ![o, 0] S256x1024.size h1).emb x = ix2 ⟨o + (x 0).val, hx⟩ (x 1) from funext fun a => Fin.ext (by
    match a with
    | ⟨0, _⟩ => show o + 1 * (x 0).val = o + (x 0).val; omega
    | ⟨1, _⟩ => show 0 + 1 * (x 1).val = (x 1).val; omega)]
  unfold rows Layer.act
  open_payloads
  pointwise []

/-- A block of the projection. -/
theorem block (i : grid0.Coords) (x0 : Vec Ideal S2048x2048 .bf16) (x1 : Vec Ideal S2048x1024 .f32) (x2 x3 x4 x5 x6 x7 x8) (y : S2048x1024.Idx) :
    out0_9 (F := Ideal) i x0 x1 x2 x3 x4 x5 x6 x7 x8 y
      = rows (k0_pay4 (F := Ideal) i) (k0_pay5 (F := Ideal) i) (k0_pay6 (F := Ideal) i) (k0_pay7 (F := Ideal) i) x0 x1 y := by
  have h := piece (k0_pay4 (F := Ideal) i) (k0_pay5 (F := Ideal) i) (k0_pay6 (F := Ideal) i) (k0_pay7 (F := Ideal) i) x0 x1
  unfold out0_9
  refine View.canon_apply_of_pieces _ _ (View.PiecesOf.mem ?_) y (cover0_9 _ _ _ _ _ _ _ _ y)
  exact ⟨h 1792 inb_S2048x2048_S256x2048_1792_0 inb_S2048x1024_S256x1024_1792_0, h 1536 inb_S2048x2048_S256x2048_1536_0 inb_S2048x1024_S256x1024_1536_0,
    h 1280 inb_S2048x2048_S256x2048_1280_0 inb_S2048x1024_S256x1024_1280_0, h 1024 inb_S2048x2048_S256x2048_1024_0 inb_S2048x1024_S256x1024_1024_0,
    h 768 inb_S2048x2048_S256x2048_768_0 inb_S2048x1024_S256x1024_768_0, h 512 inb_S2048x2048_S256x2048_512_0 inb_S2048x1024_S256x1024_512_0,
    h 256 inb_S2048x2048_S256x2048_256_0 inb_S2048x1024_S256x1024_256_0, h 0 inb_S2048x2048_S256x2048_0_0 inb_S2048x1024_S256x1024_0_0, trivial⟩

/-- The output column block of a column of the grid: the pooled branch's goes last, the gates' one to the left. -/
def col (n : ℕ) : ℕ := if n < 4 then n else if n < 5 then 8 else n - 1

/-- A point's column block is one of the nine. -/
theorem col_lt {n : ℕ} (h : n < 9) : col n < 9 := by unfold col; split_ifs <;> omega

/-- The class's formula of the products is the reference's entry in the class's column block. -/
theorem act_ref (A : FVec Ideal S8192x2048 .bf16) (W : FVec Ideal S2048x9216 .f32) (i0 : Fin 8192) (n : ℕ) (hn : n < 9) (q : Fin 1024)
    (h : 1024 * n + q.val < 9216) (h' : 1024 * col n + q.val < 9216) (i : grid0.Coords) (hi : (i 1).val = n) :
    Layer.act (k0_pay4 (F := Ideal) i) (k0_pay5 (F := Ideal) i) (k0_pay6 (F := Ideal) i) (k0_pay7 (F := Ideal) i) (dot A W i0 ⟨1024 * n + q.val, h⟩)
      = Cert.Reference4Ideal.Read.val_main_v51 (F := Ideal) A W (ix2 i0 ⟨1024 * col n + q.val, h'⟩) := by
  obtain ⟨h4, h5, h6, h7⟩ := consts i
  rw [h4, h5, h6, h7, hi, ref_act]
  unfold col
  by_cases a : n < 4
  · have a5 : ¬ 5 ≤ n := by omega
    simp only [if_pos a, if_neg a5]
    rw [dif_pos (show 1024 * n + q.val < 4096 by omega), Layer.act_gelu]
  · by_cases b : 5 ≤ n
    · have b' : ¬ n < 5 := by omega
      simp only [if_neg a, if_pos b, if_neg b']
      rw [dif_neg (show ¬ 1024 * (n - 1) + q.val < 4096 by omega), dif_pos (show 1024 * (n - 1) + q.val < 8192 by omega),
        Layer.act_logistic]
      simp only [show 1024 * (n - 1) + q.val + 1024 = 1024 * n + q.val by omega]
    · have b' : n < 5 := by omega
      simp only [if_neg a, if_neg b, if_pos b']
      rw [dif_neg (show ¬ 1024 * 8 + q.val < 4096 by omega), dif_neg (show ¬ 1024 * 8 + q.val < 8192 by omega), Layer.act_id]
      simp only [show 1024 * 8 + q.val - 4096 = 1024 * n + q.val by omega]

/-- A block's formula over blocks that are the arrays' is the arrays' formula. -/
theorem rows_dot {c4 c5 c6 c7 : EReal} {X : Vec Ideal S2048x2048 .bf16} {B : Vec Ideal S2048x1024 .f32} {A : FVec Ideal S8192x2048 .bf16}
    {W : FVec Ideal S2048x9216 .f32} {y0 : Fin 2048} {y1 : Fin 1024} {i0 : Fin 8192} {i1 : Fin 9216}
    (h0 : ∀ k : Fin 2048, X (ix2 y0 k) = A (ix2 i0 k)) (h1 : ∀ k : Fin 2048, B (ix2 k y1) = W (ix2 k i1)) :
    rows c4 c5 c6 c7 X B (ix2 y0 y1) = Layer.act c4 c5 c6 c7 (dot A W i0 i1) := by
  unfold rows dot
  refine congrArg (Layer.act c4 c5 c6 c7) (Finset.sum_congr rfl fun k _ => ?_)
  rw [← h0, ← h1]
  rfl

/-- The activated projection. -/
theorem final9 (c : Dev nD) : (dats m 0 c).arrAt 9 cfg0.N
    = Cert.Reference4Ideal.Read.val_main_v51 (F := Ideal) (m ((c : Thread nD τ).loc main_arg0)) (m ((c : Thread nD τ).loc main_arg1)) := by
  refine (dats m 0 c).arrAt_eq_of_covers 9 _ (by decide +kernel) fun t hf y => ?_
  blk_simp
  rw [after0_9]
  have hN : t.val < 36 := lt_of_lt_of_eq t.isLt N_0
  refine (block _ _ _ _ _ _ _ _ _ _ y).trans ?_
  idx_vars y
  have hj : t.val % 9 < 9 := Nat.mod_lt _ (by omega)
  have hc : col (t.val % 9) < 9 := col_lt hj
  have hi : (win0_9.blk t).view.emb (ix2 y0 y1) = (ix2 (⟨2048 * (t.val / 9) + y0, by omega⟩ : Fin 8192)
      (⟨1024 * col (t.val % 9) + y1, by omega⟩ : Fin 9216) : S8192x9216.Idx) := by
    unfold col
    blk_ext [idx t]
  refine Eq.trans ?_ (congrArg _ hi.symm)
  refine Eq.trans (rows_dot (A := m ((c : Thread nD τ).loc main_arg0)) (W := m ((c : Thread nD τ).loc main_arg1))
    (i0 := ⟨2048 * (t.val / 9) + y0, by omega⟩) (i1 := ⟨1024 * (t.val % 9) + y1, by omega⟩) (fun k => ?_) fun k => ?_)
    (act_ref _ _ _ _ hj _ (by omega) (by omega) _ (coord1 t))
  · blk_point [iblk, V, idx t]
  · blk_point [iblk, V, idx t]

end Cert.Kernel4Ideal.Proj
-- ==== Proof.MixBodyA.lean ====
/- The mixer's body at the first point, from what the point is handed. -/
module

public import proofs.«01_k».proof.Proof.MixDats

@[expose] public section

-- the blocks have long axes: membership in a rectangle recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
/-- The body at the first point: from what a point is handed to what it leaves. -/
theorem sound_body_first (c : Dev nD) (t : Fin cfg0.N) (h0 : t.val % 32 = 0) (h1 : ¬1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  rw [show (dats m 0 c).leavesExact 0 t = owns (c : Thread nD τ) (ms0_0 t) fullShare ((dats m 0 c).after 0 t) from by
  unfold Dat.leavesExact; rw [liveAt0_0 t], after0_0]
  rw [show (dats m 0 c).leavesExact 1 t = owns (c : Thread nD τ) (ms0_1 t) fullShare ((dats m 0 c).after 1 t) from by
  unfold Dat.leavesExact; rw [liveAt0_1 t], after0_1]
  rw [show (dats m 0 c).leavesExact 2 t = owns (c : Thread nD τ) (ms0_2 t) fullShare ((dats m 0 c).after 2 t) from by
  unfold Dat.leavesExact; rw [liveAt0_2 t], after0_2]
  rw [show (dats m 0 c).leavesExact 3 t = owns (c : Thread nD τ) (ms0_3 t) fullShare ((dats m 0 c).after 3 t) from by
  unfold Dat.leavesExact; rw [liveAt0_3 t], after0_3]
  rw [show (dats m 0 c).leavesExact 4 t = owns (c : Thread nD τ) (ms0_4 t) fullShare ((dats m 0 c).after 4 t) from by
  unfold Dat.leavesExact; rw [liveAt0_4 t], after0_4]
  rw [show (dats m 0 c).leavesExact 5 t = owns (c : Thread nD τ) (ms0_5 t) fullShare ((dats m 0 c).after 5 t) from by
  unfold Dat.leavesExact; rw [liveAt0_5 t], after0_5]
  rw [show (dats m 0 c).leavesExact 6 t = owns (c : Thread nD τ) (ms0_6 t) fullShare ((dats m 0 c).after 6 t) from by
  unfold Dat.leavesExact; rw [liveAt0_6 t], after0_6]
  rw [show (dats m 0 c).leavesExact 7 t = owns (c : Thread nD τ) (ms0_7 t) fullShare ((dats m 0 c).after 7 t) from by
  unfold Dat.leavesExact; rw [liveAt0_7 t], after0_7]
  rw [show (dats m 0 c).leavesExact 8 t = owns (c : Thread nD τ) (ms0_8 t) fullShare ((dats m 0 c).after 8 t) from by
  unfold Dat.leavesExact; rw [liveAt0_8 t], after0_8]
  rw [show (dats m 0 c).leavesExact 9 t = owns (c : Thread nD τ) (ms0_9 t) fullShare ((dats m 0 c).after 9 t) from by
  unfold Dat.leavesExact; rw [liveAt0_9 t], after0_9]
  rw [show (dats m 0 c).leavesExact 10 t = owns (c : Thread nD τ) (ms0_10 t) fullShare ((dats m 0 c).after 10 t) from by
  unfold Dat.leavesExact; rw [liveAt0_10 t], after0_10]
  rw [show (dats m 0 c).leavesExact 11 t = owns (c : Thread nD τ) (ms0_11 t) fullShare ((dats m 0 c).after 11 t) from by
  unfold Dat.leavesExact; rw [liveAt0_11 t], after0_11]
  rw [show (dats m 0 c).leavesExact 12 t = owns (c : Thread nD τ) (ms0_12 t) fullShare ((dats m 0 c).after 12 t) from by
  unfold Dat.leavesExact; rw [liveAt0_12 t], after0_12]
  rw [show (dats m 0 c).leavesExact 13 t = owns (c : Thread nD τ) (ms0_13 t) fullShare ((dats m 0 c).after 13 t) from by
  unfold Dat.leavesExact; rw [liveAt0_13 t], after0_13]
  rw [show (dats m 0 c).leavesExact 14 t = owns (c : Thread nD τ) (ms0_14 t) fullShare ((dats m 0 c).after 14 t) from by
  unfold Dat.leavesExact; rw [liveAt0_14 t], after0_14]
  rw [show (dats m 0 c).leavesExact 15 t = owns (c : Thread nD τ) (ms0_15 t) fullShare ((dats m 0 c).after 15 t) from by
  unfold Dat.leavesExact; rw [liveAt0_15 t], after0_15]
  rw [show (dats m 0 c).leavesExact 16 t = owns (c : Thread nD τ) (ms0_16 t) fullShare ((dats m 0 c).after 16 t) from by
  unfold Dat.leavesExact; rw [liveAt0_16 t], after0_16]
  rw [show (dats m 0 c).leavesExact 17 t = owns (c : Thread nD τ) (ms0_17 t) fullShare ((dats m 0 c).after 17 t) from by
  unfold Dat.leavesExact; rw [liveAt0_17 t], after0_17]
  rw [show (dats m 0 c).leavesExact 18 t = owns (c : Thread nD τ) (ms0_18 t) fullShare ((dats m 0 c).after 18 t) from by
  unfold Dat.leavesExact; rw [liveAt0_18_A t ((hcond0_0 t).mpr h0) (fun h => h1 ((hcond0_1 t).mp h))], after0_18]
  rw [show (dats m 0 c).leavesExact 19 t = owns (c : Thread nD τ) (ms0_19 t) fullShare ((dats m 0 c).after 19 t) from by
  unfold Dat.leavesExact; rw [liveAt0_19_A t ((hcond0_0 t).mpr h0) (fun h => h1 ((hcond0_1 t).mp h))], after0_19]
  by_cases hz : t.val = 0
  · rw [PhiS_castSucc m c t, PhiS_zero m c _ _ hz, PhiD0_eq]
    rw [outsAt0_A m c t h0 h1]
    unfold out0_A_18 out0_A_19 sout0_A_9 sout0_A_10 sout0_A_11; (try dsimp only)
    iintro ⟨⟨⟨HS0, HS1, HS2, HS3, HS4, HS5, HS6, HS7, HS8, HS9, HS10, HS11⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (V m c main_arg9) (V m c main_arg10) (V m c main_arg11)).2.2.2.2.2.2.2.2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [HW]; · iexact HW
    iintro ⟨H0, H1, H2, H3, H4, H5, H6, H7, H8, H9, H10, H11, H12, H13, H14, H15, H16, H17, ⟨%e18, H18⟩, ⟨%e19, H19⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%es9, HS9⟩, ⟨%es10, HS10⟩, ⟨%es11, HS11⟩, Hq0, Hq1, Hq2, Hh0, Hh1, Hh2, ⟨%W', HW'⟩⟩
    isplitl [HS0 HS1 HS2 HS3 HS4 HS5 HS6 HS7 HS8 HS9 HS10 HS11 Hg Hq0 Hq1 Hq2 Hh0 Hh1 Hh2]
    · isplitl [HS0 HS1 HS2 HS3 HS4 HS5 HS6 HS7 HS8 HS9 HS10 HS11]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexists _; unfold owns; iexists _; isplitr
          swap; · iexact HS6
          ipureintro; rfl
        isplitl [HS7]
        · iexists _; unfold owns; iexists _; isplitr
          swap; · iexact HS7
          ipureintro; rfl
        isplitl [HS8]
        · iexists _; unfold owns; iexists _; isplitr
          swap; · iexact HS8
          ipureintro; rfl
        isplitl [HS9]
        · unfold owns; iexists _; isplitr
          swap; · iexact HS9
          ipureintro; exact View.read_writes_of_cover _ _ _ _ _ (scover0_A_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS10]
        · unfold owns; iexists _; isplitr
          swap; · iexact HS10
          ipureintro; exact View.read_writes_of_cover _ _ _ _ _ (scover0_A_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS11
        ipureintro; exact View.read_writes_of_cover _ _ _ _ _ (scover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [Hg]
      · iexact Hg
      isplitl [Hq0 Hq1 Hq2]
      · isplitl [Hq0]; · iexact Hq0
        isplitl [Hq1]; · iexact Hq1
        iexact Hq2
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · exfalso; have hN : t.val < 32 := lt_of_lt_of_eq t.isLt (show cfg0.N = 32 from N_0); omega

end Cert.KernelIdeal.Gen

end
-- ==== Proof.MixBodyB.lean ====
/- The mixer's body at a later point, from what the point is handed. -/
module

public import proofs.«01_k».proof.Proof.MixDats

@[expose] public section

-- the blocks have long axes: membership in a rectangle recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
/-- The body at a later point: from what a point is handed to what it leaves. -/
theorem sound_body_later (c : Dev nD) (t : Fin cfg0.N) (h0 : ¬t.val % 32 = 0) (h1 : 1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  rw [show (dats m 0 c).leavesExact 0 t = owns (c : Thread nD τ) (ms0_0 t) fullShare ((dats m 0 c).after 0 t) from by
  unfold Dat.leavesExact; rw [liveAt0_0 t], after0_0]
  rw [show (dats m 0 c).leavesExact 1 t = owns (c : Thread nD τ) (ms0_1 t) fullShare ((dats m 0 c).after 1 t) from by
  unfold Dat.leavesExact; rw [liveAt0_1 t], after0_1]
  rw [show (dats m 0 c).leavesExact 2 t = owns (c : Thread nD τ) (ms0_2 t) fullShare ((dats m 0 c).after 2 t) from by
  unfold Dat.leavesExact; rw [liveAt0_2 t], after0_2]
  rw [show (dats m 0 c).leavesExact 3 t = owns (c : Thread nD τ) (ms0_3 t) fullShare ((dats m 0 c).after 3 t) from by
  unfold Dat.leavesExact; rw [liveAt0_3 t], after0_3]
  rw [show (dats m 0 c).leavesExact 4 t = owns (c : Thread nD τ) (ms0_4 t) fullShare ((dats m 0 c).after 4 t) from by
  unfold Dat.leavesExact; rw [liveAt0_4 t], after0_4]
  rw [show (dats m 0 c).leavesExact 5 t = owns (c : Thread nD τ) (ms0_5 t) fullShare ((dats m 0 c).after 5 t) from by
  unfold Dat.leavesExact; rw [liveAt0_5 t], after0_5]
  rw [show (dats m 0 c).leavesExact 6 t = owns (c : Thread nD τ) (ms0_6 t) fullShare ((dats m 0 c).after 6 t) from by
  unfold Dat.leavesExact; rw [liveAt0_6 t], after0_6]
  rw [show (dats m 0 c).leavesExact 7 t = owns (c : Thread nD τ) (ms0_7 t) fullShare ((dats m 0 c).after 7 t) from by
  unfold Dat.leavesExact; rw [liveAt0_7 t], after0_7]
  rw [show (dats m 0 c).leavesExact 8 t = owns (c : Thread nD τ) (ms0_8 t) fullShare ((dats m 0 c).after 8 t) from by
  unfold Dat.leavesExact; rw [liveAt0_8 t], after0_8]
  rw [show (dats m 0 c).leavesExact 9 t = owns (c : Thread nD τ) (ms0_9 t) fullShare ((dats m 0 c).after 9 t) from by
  unfold Dat.leavesExact; rw [liveAt0_9 t], after0_9]
  rw [show (dats m 0 c).leavesExact 10 t = owns (c : Thread nD τ) (ms0_10 t) fullShare ((dats m 0 c).after 10 t) from by
  unfold Dat.leavesExact; rw [liveAt0_10 t], after0_10]
  rw [show (dats m 0 c).leavesExact 11 t = owns (c : Thread nD τ) (ms0_11 t) fullShare ((dats m 0 c).after 11 t) from by
  unfold Dat.leavesExact; rw [liveAt0_11 t], after0_11]
  rw [show (dats m 0 c).leavesExact 12 t = owns (c : Thread nD τ) (ms0_12 t) fullShare ((dats m 0 c).after 12 t) from by
  unfold Dat.leavesExact; rw [liveAt0_12 t], after0_12]
  rw [show (dats m 0 c).leavesExact 13 t = owns (c : Thread nD τ) (ms0_13 t) fullShare ((dats m 0 c).after 13 t) from by
  unfold Dat.leavesExact; rw [liveAt0_13 t], after0_13]
  rw [show (dats m 0 c).leavesExact 14 t = owns (c : Thread nD τ) (ms0_14 t) fullShare ((dats m 0 c).after 14 t) from by
  unfold Dat.leavesExact; rw [liveAt0_14 t], after0_14]
  rw [show (dats m 0 c).leavesExact 15 t = owns (c : Thread nD τ) (ms0_15 t) fullShare ((dats m 0 c).after 15 t) from by
  unfold Dat.leavesExact; rw [liveAt0_15 t], after0_15]
  rw [show (dats m 0 c).leavesExact 16 t = owns (c : Thread nD τ) (ms0_16 t) fullShare ((dats m 0 c).after 16 t) from by
  unfold Dat.leavesExact; rw [liveAt0_16 t], after0_16]
  rw [show (dats m 0 c).leavesExact 17 t = owns (c : Thread nD τ) (ms0_17 t) fullShare ((dats m 0 c).after 17 t) from by
  unfold Dat.leavesExact; rw [liveAt0_17 t], after0_17]
  rw [show (dats m 0 c).leavesExact 18 t = owns (c : Thread nD τ) (ms0_18 t) fullShare ((dats m 0 c).after 18 t) from by
  unfold Dat.leavesExact; rw [liveAt0_18_B t (fun h => h0 ((hcond0_0 t).mp h)) ((hcond0_1 t).mpr h1)], after0_18]
  rw [show (dats m 0 c).leavesExact 19 t = owns (c : Thread nD τ) (ms0_19 t) fullShare ((dats m 0 c).after 19 t) from by
  unfold Dat.leavesExact; rw [liveAt0_19_B t (fun h => h0 ((hcond0_0 t).mp h)) ((hcond0_1 t).mpr h1)], after0_19]
  by_cases hz : t.val = 0
  · exfalso; have hN : t.val < 32 := lt_of_lt_of_eq t.isLt (show cfg0.N = 32 from N_0); omega
  · rw [PhiS_castSucc m c t, PhiS_pos m c _ _ hz]
    rw [outsAt0_B m c t h0 h1]
    unfold out0_B_18 out0_B_19 sout0_B_9 sout0_B_10 sout0_B_11; (try dsimp only)
    iintro ⟨⟨⟨HS0, HS1, HS2, HS3, HS4, HS5, HS6, HS7, HS8, HS9, HS10, HS11⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _ (V m c main_arg9) (V m c main_arg10) (V m c main_arg11)).2.2.2.2.2.2.2.2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [HW]; · iexact HW
    iintro ⟨H0, H1, H2, H3, H4, H5, H6, H7, H8, H9, H10, H11, H12, H13, H14, H15, H16, H17, ⟨%e18, H18⟩, ⟨%e19, H19⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, HS9, HS10, HS11, Hq0, Hq1, Hq2, Hh0, Hh1, Hh2, ⟨%W', HW'⟩⟩
    isplitl [HS0 HS1 HS2 HS3 HS4 HS5 HS6 HS7 HS8 HS9 HS10 HS11 Hg Hq0 Hq1 Hq2 Hh0 Hh1 Hh2]
    · isplitl [HS0 HS1 HS2 HS3 HS4 HS5 HS6 HS7 HS8 HS9 HS10 HS11]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexists _; unfold owns; iexists _; isplitr
          swap; · iexact HS6
          ipureintro; rfl
        isplitl [HS7]
        · iexists _; unfold owns; iexists _; isplitr
          swap; · iexact HS7
          ipureintro; rfl
        isplitl [HS8]
        · iexists _; unfold owns; iexists _; isplitr
          swap; · iexact HS8
          ipureintro; rfl
        isplitl [HS9]; · iexact HS9
        isplitl [HS10]; · iexact HS10
        iexact HS11
      isplitl [Hg]
      · iexact Hg
      isplitl [Hq0 Hq1 Hq2]
      · isplitl [Hq0]; · iexact Hq0
        isplitl [Hq1]; · iexact Hq1
        iexact Hq2
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H19
    ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Gen

end
-- ==== Proof.MixRun.lean ====
/- The mixer's run: every execution ends, with every array of the call named. -/
module

public import proofs.«01_k».proof.Proof.MixBodyA
public import proofs.«01_k».proof.Proof.MixBodyB

@[expose] public section

-- the blocks have long axes: membership in a rectangle recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  by_cases h1 : 1 ≤ t.val
  · exact sound_body_later m c t (by omega) h1
  · exact sound_body_first m c t (by omega) h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7, HS8, HS9, HS10, HS11⟩, Hg, ⟨Hq0, Hq1, Hq2⟩, ⟨Hh0, Hh1, Hh2⟩⟩
  isplitl [HS0 HS1 HS2 HS3 HS4 HS5 HS6 HS7 HS8 HS9 HS10 HS11]
  · isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexists _; iexact HS9
    isplitl [HS10]
    · iexists _; iexact HS10
    iexists _; iexact HS11
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

-- `θ_run_frame_dma_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Gen

end
-- ==== Proof.Frames.lean ====
module

public import proofs.«01_k».proof.Defs
public import proofs.«01_k».proof.Proof.Gen.Kernel
public import proofs.«01_k».proof.Proof.Gen.Kernel3
public import proofs.«01_k».proof.Proof.Gen.Kernel3Ideal.Frame
public import proofs.«01_k».proof.Proof.MixRun

/-!
The mixing call and the down call are written once and printed twice, at the machine's floats and at the ideal ones;
the two texts are the same. Their runs are proved over any float values under the second text. Here the two texts'
label tables are shown equal, so the run at the machine's floats follows.
-/

@[expose] public section
set_option maxRecDepth 16384
set_option maxHeartbeats 2000000
noncomputable section
open Idealize.ShloMosaic Idealize.ShloMosaic.TcCoe Idealize.SL.Sem

namespace Layer

/-- The mixing call's body is the same under both texts. -/
theorem mix_body : Cert.Kernel.defs₀ (F := Bits) = Cert.KernelIdeal.defs₀ (F := Bits) := by
  unfold Cert.Kernel.defs₀ Cert.KernelIdeal.defs₀
  refine congrArg (Defs.onTc (Λ := Cert.Kernel.Λ₀)) ?_
  funext l a
  match l, a with
  | 0, (t, s) => rfl

/-- The mixing program's label table is the same under both texts. -/
theorem mix_defs : Cert.Kernel.defs (F := Bits) = Cert.KernelIdeal.defs (F := Bits) := by
  unfold Cert.Kernel.defs Cert.KernelIdeal.defs
  exact congrArg (Pipeline.defs (Cert.Kernel.pcfgs (F := Bits))) mix_body

/-- The mixing program at the machine's floats ends, leaves its arguments as they were and every counter at zero. -/
theorem frame_mix : Cert.quiescent_Kernel := fun m ρ _ => by
  have h := Cert.KernelIdeal.Gen.frame (F := Bits) m ρ
  rw [← mix_defs] at h
  exact h

/-- The down call's body is the same under both texts. -/
theorem down_body : Cert.Kernel3.defs₀ (F := Bits) = Cert.Kernel3Ideal.defs₀ (F := Bits) := by
  unfold Cert.Kernel3.defs₀ Cert.Kernel3Ideal.defs₀
  refine congrArg (Defs.onTc (Λ := Cert.Kernel3.Λ₀)) ?_
  funext l a
  match l, a with
  | 0, (t, s) => rfl

/-- The down program's label table is the same under both texts. -/
theorem down_defs : Cert.Kernel3.defs (F := Bits) = Cert.Kernel3Ideal.defs (F := Bits) := by
  unfold Cert.Kernel3.defs Cert.Kernel3Ideal.defs
  exact congrArg (Pipeline.defs (Cert.Kernel3.pcfgs (F := Bits))) down_body

/-- The down program at the machine's floats ends, leaves its arguments as they were and every counter at zero. -/
theorem frame_down : Cert.quiescent_Kernel3 := fun m ρ _ => by
  have h := Cert.Kernel3Ideal.Gen.frame (F := Bits) m ρ
  rw [← down_defs] at h
  exact h

end Layer

end
-- ==== Proof.lean ====
/-
The claim, assembled from the modules beside this file: the frames of every program, the named constant of the
up and projection calls, and the value claims.
-/
module

public import proofs.«01_k».proof.Defs
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4Ideal.Value
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.UpFrames
public import proofs.«01_k».proof.Proof.UpFinal
public import proofs.«01_k».proof.Proof.Down
public import proofs.«01_k».proof.Proof.MixFinal
public import proofs.«01_k».proof.Proof.MixPre
public import proofs.«01_k».proof.Proof.Proj
public import proofs.«01_k».proof.Proof.Frames
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The mixing program at the ideal values ends, leaves its arguments alone and every counter at zero. -/
theorem frame_mix_ideal : Cert.quiescent_KernelIdeal := fun m ρ _ => Cert.KernelIdeal.Gen.frame (F := Ideal) m ρ

/-- The mixing reference ends and leaves its arguments alone; it has no counters. -/
theorem frame_mix_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- At the ideal values, where the pooled tokens are finite, the mixing call and the plain reference leave the same two
arrays. -/
theorem algebraic_mix : Cert.algebraic_KernelIdeal_ReferenceIdeal_pre_finite_tokens
    (hPre_finite_tokens := Cert.KernelIdeal.Mix.tokens_facts) := by
  intro m g m' g' hpre hagree
  refine ⟨fun c => _, fun c => _,
    (θ_run _ _ _).mono (fun r h c => ⟨(h.1 c).1 18, (h.1 c).1 19, h.2 c⟩)
      (θ_run_and (Cert.KernelIdeal.Gen.run_main m g) (Cert.KernelIdeal.Gen.unchanged m g)),
    (θ_run _ _ _).mono (fun r h c => ⟨(h c).1.trans ?_, (h c).2.1.trans ?_, (h c).2.2⟩) (Cert.ReferenceIdeal.Value.run m' g')⟩
  all_goals obtain ⟨h0, h1, h2, h3, h4, h5, h6, h7, h8, h9, h10, h11, h12, h13⟩ := hagree c
  · refine Eq.trans ?_ (Cert.KernelIdeal.Mix.final_x1 m c (Cert.KernelIdeal.Mix.tokens_real m c hpre)).symm
    rw [← h0, ← h1, ← h2, ← h3, ← h4, ← h5, ← h6, ← h7, ← h8, ← h9, ← h10, ← h11, ← h12]
    exact Cert.ReferenceIdeal.Read.val_main_v137_eq _
  · refine Eq.trans ?_ (Cert.KernelIdeal.Mix.final_h2 m c (Cert.KernelIdeal.Mix.tokens_real m c hpre)).symm
    rw [← h0, ← h1, ← h2, ← h3, ← h4, ← h5, ← h6, ← h7, ← h8, ← h9, ← h10, ← h11, ← h12, ← h13]
    exact Cert.ReferenceIdeal.Read.val_main_v157_eq _

/-- The up program at the ideal values ends, leaves its arguments alone and every counter at zero. -/
theorem frame_up_ideal : Cert.quiescent_Kernel2Ideal := fun m ρ _ => Cert.Kernel2Ideal.Gen.frame (F := Ideal) m ρ

/-- The up reference ends and leaves its arguments alone; it has no counters. -/
theorem frame_up_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- The up call's named constant stands for the product it is named for. -/
theorem preserves_up : Cert.preserves_Kernel2_Kernel2Ideal :=
  IdealRules.named_const.statement Cert.Kernel2Ideal.κ "c0c1" .f32 0x3D122279#32
    ((80338380498831 / 2251799813685248 : ℝ) : EReal) rfl

/-- At the ideal values the up call and the plain reference leave the same two arrays. -/
theorem algebraic_up : Cert.algebraic_Kernel2Ideal_Reference2Ideal := by
  intro m g m' g' _ hagree
  refine ⟨fun c => _, fun c => _,
    (θ_run _ _ _).mono (fun r h c => ⟨(h.1 c).1 8, (h.1 c).1 9, h.2 c⟩)
      (θ_run_and (Cert.Kernel2Ideal.Gen.run_main m g) (Cert.Kernel2Ideal.Gen.unchanged m g)),
    (θ_run _ _ _).mono (fun r h c => ⟨(h c).1.trans ?_, (h c).2.1.trans ?_, (h c).2.2⟩) (Cert.Reference2Ideal.Value.run m' g')⟩
  all_goals obtain ⟨h0, h1, h2, h3, h4⟩ := hagree c
  · refine Eq.trans ?_ (Cert.Kernel2Ideal.Up.final8 m c).symm
    unfold Cert.Kernel2Ideal.Up.toks Cert.Kernel2Ideal.Up.wup Cert.Kernel2Ideal.Up.cw Cert.Kernel2Ideal.Up.cb
    rw [← h0, ← h1, ← h2, ← h3]
    exact Cert.Reference2Ideal.Read.val_main_v42_eq _ _
  · refine Eq.trans ?_ (Cert.Kernel2Ideal.Up.final9 m c).symm
    rw [← h4]
    exact Cert.Reference2Ideal.Read.val_main_v43_eq _

/-- The down program at the ideal values ends, leaves its arguments alone and every counter at zero. -/
theorem frame_down_ideal : Cert.quiescent_Kernel3Ideal := fun m ρ _ => Cert.Kernel3Ideal.Gen.frame (F := Ideal) m ρ

/-- The down reference ends and leaves its arguments alone; it has no counters. -/
theorem frame_down_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The projection reference ends and leaves its arguments alone; it has no counters. -/
theorem frame_proj_ref : Cert.quiescent_Reference4Ideal := fun m ρ _ =>
  (θ_run Cert.Reference4Ideal.defs _ _).mono
    (fun r h => ⟨fun c => (h c).2.2.2.2.2.2, sem_eq_zero_of_no_sems (by decide) r.2⟩)
    (Cert.Reference4Ideal.Value.run m ρ)

/-- The projection's named constant is the product it is named for. -/
theorem preserves_proj : Cert.preserves_Kernel4_Kernel4Ideal :=
  IdealRules.named_const.statement Cert.Kernel4Ideal.κ "c0c1" .f32 0x3D122279#32
    ((80338380498831 / 2251799813685248 : ℝ) : EReal) rfl

/-- At the ideal values the projection call and the plain reference leave the same six arrays. -/
theorem algebraic_proj : Cert.algebraic_Kernel4Ideal_Reference4Ideal := by
  pair_intro
  · run_from Cert.Kernel4Ideal.Value.run_blocks m g
  · run_from Cert.Reference4Ideal.Value.run m' g'
    · rw [Cert.Reference4Ideal.Read.val_main_v51_eq, (hagree c).1, (hagree c).2.1]
      exact (Cert.Kernel4Ideal.Proj.final9 m c).symm
    · exact (Cert.Kernel4Ideal.Proj.final10 m c).symm
    · exact (Cert.Kernel4Ideal.Proj.final11 m c).symm
    · exact (Cert.Kernel4Ideal.Proj.final12 m c).symm
    · exact (Cert.Kernel4Ideal.Proj.final13 m c).symm
    · exact (Cert.Kernel4Ideal.Proj.final14 m c).symm

/-- At the ideal values the down call and the plain reference leave the same array. -/
theorem algebraic_down : Cert.algebraic_Kernel3Ideal_Reference3Ideal := by
  pair_intro
  · run_from Cert.Kernel3Ideal.Gen.run_main m g
  · run_from Cert.Reference3Ideal.Value.run m' g'
    exact (Cert.Kernel3Ideal.Down.final m c).symm

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.KernelIdeal.Mix.tokens_facts,
    Layer.frame_mix, frame_mix_ideal, fun m ρ _ => frame_mix_ideal m ρ trivial,
    frame_mix_ref, fun m ρ _ => frame_mix_ref m ρ trivial,
    Layer.frame_up, frame_up_ideal, frame_up_ref,
    Layer.frame_down, frame_down_ideal, frame_down_ref,
    fun m ρ _ => Cert.Kernel4.Gen.frame m ρ, fun m ρ _ => Cert.Kernel4Ideal.Gen.frame m ρ, frame_proj_ref,
    trivial, algebraic_mix, preserves_up, algebraic_up, trivial, algebraic_down, preserves_proj, algebraic_proj⟩

end Cert.Proof

end
